-- ==== Defs.lean ====
def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaIdeal_swa_finite [hPre_swa_finite : Cert.Pre_swa_finite.Facts] (m : (ℓ : Loc Cert.SwaIdeal.nD Cert.SwaIdeal.τ Cert.SwaIdeal.sig) → Buf (Elt Ideal) ℓ) : Prop :=
  ∀ c : Dev Cert.SwaIdeal.nD,
    (Cert.Pre_swa_finite.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2))) = (fun _ => 1#1)

def Pre_SwaRefIdeal (m : (ℓ : Loc Cert.SwaRefIdeal.nD Cert.SwaRefIdeal.τ Cert.SwaRefIdeal.sig) → Buf (Elt Ideal) ℓ) : Prop :=
  True

def Pre_SwaRefIdeal_swa_finite [hPre_swa_finite : Cert.Pre_swa_finite.Facts] (m : (ℓ : Loc Cert.SwaRefIdeal.nD Cert.SwaRefIdeal.τ Cert.SwaRefIdeal.sig) → Buf (Elt Ideal) ℓ) : Prop :=
  ∀ c : Dev Cert.SwaRefIdeal.nD,
    (Cert.Pre_swa_finite.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_QkvProj (m : (ℓ : Loc Cert.QkvProj.nD Cert.QkvProj.τ Cert.QkvProj.sig) → Buf (Elt Bits) ℓ) : Prop :=
  True

def Pre_QkvProjIdeal (m : (ℓ : Loc Cert.QkvProjIdeal.nD Cert.QkvProjIdeal.τ Cert.QkvProjIdeal.sig) → Buf (Elt Ideal) ℓ) : Prop :=
  True

def Pre_QkvProjRefIdeal (m : (ℓ : Loc Cert.QkvProjRefIdeal.nD Cert.QkvProjRefIdeal.τ Cert.QkvProjRefIdeal.sig) → Buf (Elt Ideal) ℓ) : Prop :=
  True

def Pre_LatentProj (m : (ℓ : Loc Cert.LatentProj.nD Cert.LatentProj.τ Cert.LatentProj.sig) → Buf (Elt Bits) ℓ) : Prop :=
  True

def Pre_LatentProjIdeal (m : (ℓ : Loc Cert.LatentProjIdeal.nD Cert.LatentProjIdeal.τ Cert.LatentProjIdeal.sig) → Buf (Elt Ideal) ℓ) : Prop :=
  True

def Pre_LatentProjRefIdeal (m : (ℓ : Loc Cert.LatentProjRefIdeal.nD Cert.LatentProjRefIdeal.τ Cert.LatentProjRefIdeal.sig) → Buf (Elt Ideal) ℓ) : Prop :=
  True

def Pre_Heads (m : (ℓ : Loc Cert.Heads.nD Cert.Heads.τ Cert.Heads.sig) → Buf (Elt Bits) ℓ) : Prop :=
  True

def Pre_HeadsIdeal (m : (ℓ : Loc Cert.HeadsIdeal.nD Cert.HeadsIdeal.τ Cert.HeadsIdeal.sig) → Buf (Elt Ideal) ℓ) : Prop :=
  True

def Pre_HeadsRefIdeal (m : (ℓ : Loc Cert.HeadsRefIdeal.nD Cert.HeadsRefIdeal.τ Cert.HeadsRefIdeal.sig) → Buf (Elt Ideal) ℓ) : Prop :=
  True

def Pre_LatentNorms (m : (ℓ : Loc Cert.LatentNorms.nD Cert.LatentNorms.τ Cert.LatentNorms.sig) → Buf (Elt Bits) ℓ) : Prop :=
  True

def Pre_LatentNormsIdeal (m : (ℓ : Loc Cert.LatentNormsIdeal.nD Cert.LatentNormsIdeal.τ Cert.LatentNormsIdeal.sig) → Buf (Elt Ideal) ℓ) : Prop :=
  True

def Pre_LatentNormsRefIdeal (m : (ℓ : Loc Cert.LatentNormsRefIdeal.nD Cert.LatentNormsRefIdeal.τ Cert.LatentNormsRefIdeal.sig) → Buf (Elt Ideal) ℓ) : Prop :=
  True

def Pre_MixNorm (m : (ℓ : Loc Cert.MixNorm.nD Cert.MixNorm.τ Cert.MixNorm.sig) → Buf (Elt Bits) ℓ) : Prop :=
  True

def Pre_MixNormIdeal (m : (ℓ : Loc Cert.MixNormIdeal.nD Cert.MixNormIdeal.τ Cert.MixNormIdeal.sig) → Buf (Elt Ideal) ℓ) : Prop :=
  True

def Pre_MixNormRefIdeal (m : (ℓ : Loc Cert.MixNormRefIdeal.nD Cert.MixNormRefIdeal.τ Cert.MixNormRefIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineRefIdeal (m : (ℓ : Loc Cert.CombineRefIdeal.nD Cert.CombineRefIdeal.τ Cert.CombineRefIdeal.sig) → Buf (Elt Ideal) ℓ) : Prop :=
  True

def Pre_Xattn (m : (ℓ : Loc Cert.Xattn.nD Cert.Xattn.τ Cert.Xattn.sig) → Buf (Elt Bits) ℓ) : Prop :=
  True

def Pre_XattnIdeal (m : (ℓ : Loc Cert.XattnIdeal.nD Cert.XattnIdeal.τ Cert.XattnIdeal.sig) → Buf (Elt Ideal) ℓ) : Prop :=
  True

def Pre_XattnIdeal_xattn_finite [hPre_xattn_finite : Cert.Pre_xattn_finite.Facts] (m : (ℓ : Loc Cert.XattnIdeal.nD Cert.XattnIdeal.τ Cert.XattnIdeal.sig) → Buf (Elt Ideal) ℓ) : Prop :=
  ∀ c : Dev Cert.XattnIdeal.nD,
    (Cert.Pre_xattn_finite.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2)) (m ((c.tc : Thread Cert.XattnIdeal.nD Cert.XattnIdeal.τ).loc Cert.XattnIdeal.main_arg3)) (m ((c.tc : Thread Cert.XattnIdeal.nD Cert.XattnIdeal.τ).loc Cert.XattnIdeal.main_arg4)) (m ((c.tc : Thread Cert.XattnIdeal.nD Cert.XattnIdeal.τ).loc Cert.XattnIdeal.main_arg5)) (m ((c.tc : Thread Cert.XattnIdeal.nD Cert.XattnIdeal.τ).loc Cert.XattnIdeal.main_arg6)) (m ((c.tc : Thread Cert.XattnIdeal.nD Cert.XattnIdeal.τ).loc Cert.XattnIdeal.main_arg7))) = (fun _ => 1#1)

def Pre_XattnRefIdeal (m : (ℓ : Loc Cert.XattnRefIdeal.nD Cert.XattnRefIdeal.τ Cert.XattnRefIdeal.sig) → Buf (Elt Ideal) ℓ) : Prop :=
  True

def Pre_XattnRefIdeal_xattn_finite [hPre_xattn_finite : Cert.Pre_xattn_finite.Facts] (m : (ℓ : Loc Cert.XattnRefIdeal.nD Cert.XattnRefIdeal.τ Cert.XattnRefIdeal.sig) → Buf (Elt Ideal) ℓ) : Prop :=
  ∀ c : Dev Cert.XattnRefIdeal.nD,
    (Cert.Pre_xattn_finite.fn (F := Ideal) (m ((c.tc : Thread Cert.XattnRefIdeal.nD Cert.XattnRefIdeal.τ).loc Cert.XattnRefIdeal.main_arg0)) (m ((c.tc : Thread Cert.XattnRefIdeal.nD Cert.XattnRefIdeal.τ).loc Cert.XattnRefIdeal.main_arg1)) (m ((c.tc : Thread Cert.XattnRefIdeal.nD Cert.XattnRefIdeal.τ).loc Cert.XattnRefIdeal.main_arg2)) (m ((c.tc : Thread Cert.XattnRefIdeal.nD Cert.XattnRefIdeal.τ).loc Cert.XattnRefIdeal.main_arg3)) (m ((c.tc : Thread Cert.XattnRefIdeal.nD Cert.XattnRefIdeal.τ).loc Cert.XattnRefIdeal.main_arg4)) (m ((c.tc : Thread Cert.XattnRefIdeal.nD Cert.XattnRefIdeal.τ).loc Cert.XattnRefIdeal.main_arg5)) (m ((c.tc : Thread Cert.XattnRefIdeal.nD Cert.XattnRefIdeal.τ).loc Cert.XattnRefIdeal.main_arg6)) (m ((c.tc : Thread Cert.XattnRefIdeal.nD Cert.XattnRefIdeal.τ).loc Cert.XattnRefIdeal.main_arg7))) = (fun _ => 1#1)

def Pre_MemNorm (m : (ℓ : Loc Cert.MemNorm.nD Cert.MemNorm.τ Cert.MemNorm.sig) → Buf (Elt Bits) ℓ) : Prop :=
  True

def Pre_MemNormIdeal (m : (ℓ : Loc Cert.MemNormIdeal.nD Cert.MemNormIdeal.τ Cert.MemNormIdeal.sig) → Buf (Elt Ideal) ℓ) : Prop :=
  True

def Pre_MemNormRefIdeal (m : (ℓ : Loc Cert.MemNormRefIdeal.nD Cert.MemNormRefIdeal.τ Cert.MemNormRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2))
      ∧ r.2.sem = fun _ => 0)

def quiescent_SwaIdeal_pre_swa_finite [hSwaIdeal : Cert.SwaIdeal.Facts] [hPre_swa_finite : Cert.Pre_swa_finite.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal_swa_finite m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2))
      ∧ r.2.sem = fun _ => 0)

def quiescent_SwaRefIdeal_pre_swa_finite [hSwaRefIdeal : Cert.SwaRefIdeal.Facts] [hPre_swa_finite : Cert.Pre_swa_finite.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal_swa_finite m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_QkvProj [hQkvProj : Cert.QkvProj.Facts] : Prop :=
  ∀ (m : (ℓ : Loc Cert.QkvProj.nD Cert.QkvProj.τ Cert.QkvProj.sig) → Buf (Elt Bits) ℓ) (g : Dev Cert.QkvProj.nD → PrngReg), Pre_QkvProj m →
    θ_run (Cert.QkvProj.defs (F := Bits)) (onTc (τ := Cert.QkvProj.τ) (Cert.QkvProj.main (F := Bits))) ⟨m, fun _ => 0, g⟩ (fun r => (∀ c : Dev Cert.QkvProj.nD,
      r.2.mem ((c.tc : Thread Cert.QkvProj.nD Cert.QkvProj.τ).loc Cert.QkvProj.main_arg0) = m ((c.tc : Thread Cert.QkvProj.nD Cert.QkvProj.τ).loc Cert.QkvProj.main_arg0)
      ∧ r.2.mem ((c.tc : Thread Cert.QkvProj.nD Cert.QkvProj.τ).loc Cert.QkvProj.main_arg1) = m ((c.tc : Thread Cert.QkvProj.nD Cert.QkvProj.τ).loc Cert.QkvProj.main_arg1))
      ∧ r.2.sem = fun _ => 0)

def quiescent_QkvProjIdeal [hQkvProjIdeal : Cert.QkvProjIdeal.Facts] : Prop :=
  ∀ (m : (ℓ : Loc Cert.QkvProjIdeal.nD Cert.QkvProjIdeal.τ Cert.QkvProjIdeal.sig) → Buf (Elt Ideal) ℓ) (g : Dev Cert.QkvProjIdeal.nD → PrngReg), Pre_QkvProjIdeal m →
    θ_run (Cert.QkvProjIdeal.defs (F := Ideal)) (onTc (τ := Cert.QkvProjIdeal.τ) (Cert.QkvProjIdeal.main (F := Ideal))) ⟨m, fun _ => 0, g⟩ (fun r => (∀ c : Dev Cert.QkvProjIdeal.nD,
      r.2.mem ((c.tc : Thread Cert.QkvProjIdeal.nD Cert.QkvProjIdeal.τ).loc Cert.QkvProjIdeal.main_arg0) = m ((c.tc : Thread Cert.QkvProjIdeal.nD Cert.QkvProjIdeal.τ).loc Cert.QkvProjIdeal.main_arg0)
      ∧ r.2.mem ((c.tc : Thread Cert.QkvProjIdeal.nD Cert.QkvProjIdeal.τ).loc Cert.QkvProjIdeal.main_arg1) = m ((c.tc : Thread Cert.QkvProjIdeal.nD Cert.QkvProjIdeal.τ).loc Cert.QkvProjIdeal.main_arg1))
      ∧ r.2.sem = fun _ => 0)

def quiescent_QkvProjRefIdeal [hQkvProjRefIdeal : Cert.QkvProjRefIdeal.Facts] : Prop :=
  ∀ (m : (ℓ : Loc Cert.QkvProjRefIdeal.nD Cert.QkvProjRefIdeal.τ Cert.QkvProjRefIdeal.sig) → Buf (Elt Ideal) ℓ) (g : Dev Cert.QkvProjRefIdeal.nD → PrngReg), Pre_QkvProjRefIdeal m →
    θ_run (Cert.QkvProjRefIdeal.defs (F := Ideal)) (onTc (τ := Cert.QkvProjRefIdeal.τ) (Cert.QkvProjRefIdeal.main (F := Ideal))) ⟨m, fun _ => 0, g⟩ (fun r => (∀ c : Dev Cert.QkvProjRefIdeal.nD,
      r.2.mem ((c.tc : Thread Cert.QkvProjRefIdeal.nD Cert.QkvProjRefIdeal.τ).loc Cert.QkvProjRefIdeal.main_arg0) = m ((c.tc : Thread Cert.QkvProjRefIdeal.nD Cert.QkvProjRefIdeal.τ).loc Cert.QkvProjRefIdeal.main_arg0)
      ∧ r.2.mem ((c.tc : Thread Cert.QkvProjRefIdeal.nD Cert.QkvProjRefIdeal.τ).loc Cert.QkvProjRefIdeal.main_arg1) = m ((c.tc : Thread Cert.QkvProjRefIdeal.nD Cert.QkvProjRefIdeal.τ).loc Cert.QkvProjRefIdeal.main_arg1))
      ∧ r.2.sem = fun _ => 0)

def quiescent_LatentProj [hLatentProj : Cert.LatentProj.Facts] : Prop :=
  ∀ (m : (ℓ : Loc Cert.LatentProj.nD Cert.LatentProj.τ Cert.LatentProj.sig) → Buf (Elt Bits) ℓ) (g : Dev Cert.LatentProj.nD → PrngReg), Pre_LatentProj m →
    θ_run (Cert.LatentProj.defs (F := Bits)) (onTc (τ := Cert.LatentProj.τ) (Cert.LatentProj.main (F := Bits))) ⟨m, fun _ => 0, g⟩ (fun r => (∀ c : Dev Cert.LatentProj.nD,
      r.2.mem ((c.tc : Thread Cert.LatentProj.nD Cert.LatentProj.τ).loc Cert.LatentProj.main_arg0) = m ((c.tc : Thread Cert.LatentProj.nD Cert.LatentProj.τ).loc Cert.LatentProj.main_arg0)
      ∧ r.2.mem ((c.tc : Thread Cert.LatentProj.nD Cert.LatentProj.τ).loc Cert.LatentProj.main_arg1) = m ((c.tc : Thread Cert.LatentProj.nD Cert.LatentProj.τ).loc Cert.LatentProj.main_arg1))
      ∧ r.2.sem = fun _ => 0)

def quiescent_LatentProjIdeal [hLatentProjIdeal : Cert.LatentProjIdeal.Facts] : Prop :=
  ∀ (m : (ℓ : Loc Cert.LatentProjIdeal.nD Cert.LatentProjIdeal.τ Cert.LatentProjIdeal.sig) → Buf (Elt Ideal) ℓ) (g : Dev Cert.LatentProjIdeal.nD → PrngReg), Pre_LatentProjIdeal m →
    θ_run (Cert.LatentProjIdeal.defs (F := Ideal)) (onTc (τ := Cert.LatentProjIdeal.τ) (Cert.LatentProjIdeal.main (F := Ideal))) ⟨m, fun _ => 0, g⟩ (fun r => (∀ c : Dev Cert.LatentProjIdeal.nD,
      r.2.mem ((c.tc : Thread Cert.LatentProjIdeal.nD Cert.LatentProjIdeal.τ).loc Cert.LatentProjIdeal.main_arg0) = m ((c.tc : Thread Cert.LatentProjIdeal.nD Cert.LatentProjIdeal.τ).loc Cert.LatentProjIdeal.main_arg0)
      ∧ r.2.mem ((c.tc : Thread Cert.LatentProjIdeal.nD Cert.LatentProjIdeal.τ).loc Cert.LatentProjIdeal.main_arg1) = m ((c.tc : Thread Cert.LatentProjIdeal.nD Cert.LatentProjIdeal.τ).loc Cert.LatentProjIdeal.main_arg1))
      ∧ r.2.sem = fun _ => 0)

def quiescent_LatentProjRefIdeal [hLatentProjRefIdeal : Cert.LatentProjRefIdeal.Facts] : Prop :=
  ∀ (m : (ℓ : Loc Cert.LatentProjRefIdeal.nD Cert.LatentProjRefIdeal.τ Cert.LatentProjRefIdeal.sig) → Buf (Elt Ideal) ℓ) (g : Dev Cert.LatentProjRefIdeal.nD → PrngReg), Pre_LatentProjRefIdeal m →
    θ_run (Cert.LatentProjRefIdeal.defs (F := Ideal)) (onTc (τ := Cert.LatentProjRefIdeal.τ) (Cert.LatentProjRefIdeal.main (F := Ideal))) ⟨m, fun _ => 0, g⟩ (fun r => (∀ c : Dev Cert.LatentProjRefIdeal.nD,
      r.2.mem ((c.tc : Thread Cert.LatentProjRefIdeal.nD Cert.LatentProjRefIdeal.τ).loc Cert.LatentProjRefIdeal.main_arg0) = m ((c.tc : Thread Cert.LatentProjRefIdeal.nD Cert.LatentProjRefIdeal.τ).loc Cert.LatentProjRefIdeal.main_arg0)
      ∧ r.2.mem ((c.tc : Thread Cert.LatentProjRefIdeal.nD Cert.LatentProjRefIdeal.τ).loc Cert.LatentProjRefIdeal.main_arg1) = m ((c.tc : Thread Cert.LatentProjRefIdeal.nD Cert.LatentProjRefIdeal.τ).loc Cert.LatentProjRefIdeal.main_arg1))
      ∧ r.2.sem = fun _ => 0)

def quiescent_Heads [hHeads : Cert.Heads.Facts] : Prop :=
  ∀ (m : (ℓ : Loc Cert.Heads.nD Cert.Heads.τ Cert.Heads.sig) → Buf (Elt Bits) ℓ) (g : Dev Cert.Heads.nD → PrngReg), Pre_Heads m →
    θ_run (Cert.Heads.defs (F := Bits)) (onTc (τ := Cert.Heads.τ) (Cert.Heads.main (F := Bits))) ⟨m, fun _ => 0, g⟩ (fun r => (∀ c : Dev Cert.Heads.nD,
      r.2.mem ((c.tc : Thread Cert.Heads.nD Cert.Heads.τ).loc Cert.Heads.main_arg0) = m ((c.tc : Thread Cert.Heads.nD Cert.Heads.τ).loc Cert.Heads.main_arg0)
      ∧ r.2.mem ((c.tc : Thread Cert.Heads.nD Cert.Heads.τ).loc Cert.Heads.main_arg1) = m ((c.tc : Thread Cert.Heads.nD Cert.Heads.τ).loc Cert.Heads.main_arg1)
      ∧ r.2.mem ((c.tc : Thread Cert.Heads.nD Cert.Heads.τ).loc Cert.Heads.main_arg2) = m ((c.tc : Thread Cert.Heads.nD Cert.Heads.τ).loc Cert.Heads.main_arg2)
      ∧ r.2.mem ((c.tc : Thread Cert.Heads.nD Cert.Heads.τ).loc Cert.Heads.main_arg3) = m ((c.tc : Thread Cert.Heads.nD Cert.Heads.τ).loc Cert.Heads.main_arg3))
      ∧ r.2.sem = fun _ => 0)

def quiescent_HeadsIdeal [hHeadsIdeal : Cert.HeadsIdeal.Facts] : Prop :=
  ∀ (m : (ℓ : Loc Cert.HeadsIdeal.nD Cert.HeadsIdeal.τ Cert.HeadsIdeal.sig) → Buf (Elt Ideal) ℓ) (g : Dev Cert.HeadsIdeal.nD → PrngReg), Pre_HeadsIdeal m →
    θ_run (Cert.HeadsIdeal.defs (F := Ideal)) (onTc (τ := Cert.HeadsIdeal.τ) (Cert.HeadsIdeal.main (F := Ideal))) ⟨m, fun _ => 0, g⟩ (fun r => (∀ c : Dev Cert.HeadsIdeal.nD,
      r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
      ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
      ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2)
      ∧ r.2.mem ((c.tc : Thread Cert.HeadsIdeal.nD Cert.HeadsIdeal.τ).loc Cert.HeadsIdeal.main_arg3) = m ((c.tc : Thread Cert.HeadsIdeal.nD Cert.HeadsIdeal.τ).loc Cert.HeadsIdeal.main_arg3))
      ∧ r.2.sem = fun _ => 0)

def quiescent_HeadsRefIdeal [hHeadsRefIdeal : Cert.HeadsRefIdeal.Facts] : Prop :=
  ∀ (m : (ℓ : Loc Cert.HeadsRefIdeal.nD Cert.HeadsRefIdeal.τ Cert.HeadsRefIdeal.sig) → Buf (Elt Ideal) ℓ) (g : Dev Cert.HeadsRefIdeal.nD → PrngReg), Pre_HeadsRefIdeal m →
    θ_run (Cert.HeadsRefIdeal.defs (F := Ideal)) (onTc (τ := Cert.HeadsRefIdeal.τ) (Cert.HeadsRefIdeal.main (F := Ideal))) ⟨m, fun _ => 0, g⟩ (fun r => (∀ c : Dev Cert.HeadsRefIdeal.nD,
      r.2.mem ((c.tc : Thread Cert.HeadsRefIdeal.nD Cert.HeadsRefIdeal.τ).loc Cert.HeadsRefIdeal.main_arg0) = m ((c.tc : Thread Cert.HeadsRefIdeal.nD Cert.HeadsRefIdeal.τ).loc Cert.HeadsRefIdeal.main_arg0)
      ∧ r.2.mem ((c.tc : Thread Cert.HeadsRefIdeal.nD Cert.HeadsRefIdeal.τ).loc Cert.HeadsRefIdeal.main_arg1) = m ((c.tc : Thread Cert.HeadsRefIdeal.nD Cert.HeadsRefIdeal.τ).loc Cert.HeadsRefIdeal.main_arg1)
      ∧ r.2.mem ((c.tc : Thread Cert.HeadsRefIdeal.nD Cert.HeadsRefIdeal.τ).loc Cert.HeadsRefIdeal.main_arg2) = m ((c.tc : Thread Cert.HeadsRefIdeal.nD Cert.HeadsRefIdeal.τ).loc Cert.HeadsRefIdeal.main_arg2)
      ∧ r.2.mem ((c.tc : Thread Cert.HeadsRefIdeal.nD Cert.HeadsRefIdeal.τ).loc Cert.HeadsRefIdeal.main_arg3) = m ((c.tc : Thread Cert.HeadsRefIdeal.nD Cert.HeadsRefIdeal.τ).loc Cert.HeadsRefIdeal.main_arg3))
      ∧ r.2.sem = fun _ => 0)

def quiescent_LatentNorms [hLatentNorms : Cert.LatentNorms.Facts] : Prop :=
  ∀ (m : (ℓ : Loc Cert.LatentNorms.nD Cert.LatentNorms.τ Cert.LatentNorms.sig) → Buf (Elt Bits) ℓ) (g : Dev Cert.LatentNorms.nD → PrngReg), Pre_LatentNorms m →
    θ_run (Cert.LatentNorms.defs (F := Bits)) (onTc (τ := Cert.LatentNorms.τ) (Cert.LatentNorms.main (F := Bits))) ⟨m, fun _ => 0, g⟩ (fun r => (∀ c : Dev Cert.LatentNorms.nD,
      r.2.mem ((c.tc : Thread Cert.LatentNorms.nD Cert.LatentNorms.τ).loc Cert.LatentNorms.main_arg0) = m ((c.tc : Thread Cert.LatentNorms.nD Cert.LatentNorms.τ).loc Cert.LatentNorms.main_arg0)
      ∧ r.2.mem ((c.tc : Thread Cert.LatentNorms.nD Cert.LatentNorms.τ).loc Cert.LatentNorms.main_arg1) = m ((c.tc : Thread Cert.LatentNorms.nD Cert.LatentNorms.τ).loc Cert.LatentNorms.main_arg1)
      ∧ r.2.mem ((c.tc : Thread Cert.LatentNorms.nD Cert.LatentNorms.τ).loc Cert.LatentNorms.main_arg2) = m ((c.tc : Thread Cert.LatentNorms.nD Cert.LatentNorms.τ).loc Cert.LatentNorms.main_arg2))
      ∧ r.2.sem = fun _ => 0)

def quiescent_LatentNormsIdeal [hLatentNormsIdeal : Cert.LatentNormsIdeal.Facts] : Prop :=
  ∀ (m : (ℓ : Loc Cert.LatentNormsIdeal.nD Cert.LatentNormsIdeal.τ Cert.LatentNormsIdeal.sig) → Buf (Elt Ideal) ℓ) (g : Dev Cert.LatentNormsIdeal.nD → PrngReg), Pre_LatentNormsIdeal m →
    θ_run (Cert.LatentNormsIdeal.defs (F := Ideal)) (onTc (τ := Cert.LatentNormsIdeal.τ) (Cert.LatentNormsIdeal.main (F := Ideal))) ⟨m, fun _ => 0, g⟩ (fun r => (∀ c : Dev Cert.LatentNormsIdeal.nD,
      r.2.mem ((c.tc : Thread Cert.LatentNormsIdeal.nD Cert.LatentNormsIdeal.τ).loc Cert.LatentNormsIdeal.main_arg0) = m ((c.tc : Thread Cert.LatentNormsIdeal.nD Cert.LatentNormsIdeal.τ).loc Cert.LatentNormsIdeal.main_arg0)
      ∧ r.2.mem ((c.tc : Thread Cert.LatentNormsIdeal.nD Cert.LatentNormsIdeal.τ).loc Cert.LatentNormsIdeal.main_arg1) = m ((c.tc : Thread Cert.LatentNormsIdeal.nD Cert.LatentNormsIdeal.τ).loc Cert.LatentNormsIdeal.main_arg1)
      ∧ r.2.mem ((c.tc : Thread Cert.LatentNormsIdeal.nD Cert.LatentNormsIdeal.τ).loc Cert.LatentNormsIdeal.main_arg2) = m ((c.tc : Thread Cert.LatentNormsIdeal.nD Cert.LatentNormsIdeal.τ).loc Cert.LatentNormsIdeal.main_arg2))
      ∧ r.2.sem = fun _ => 0)

def quiescent_LatentNormsRefIdeal [hLatentNormsRefIdeal : Cert.LatentNormsRefIdeal.Facts] : Prop :=
  ∀ (m : (ℓ : Loc Cert.LatentNormsRefIdeal.nD Cert.LatentNormsRefIdeal.τ Cert.LatentNormsRefIdeal.sig) → Buf (Elt Ideal) ℓ) (g : Dev Cert.LatentNormsRefIdeal.nD → PrngReg), Pre_LatentNormsRefIdeal m →
    θ_run (Cert.LatentNormsRefIdeal.defs (F := Ideal)) (onTc (τ := Cert.LatentNormsRefIdeal.τ) (Cert.LatentNormsRefIdeal.main (F := Ideal))) ⟨m, fun _ => 0, g⟩ (fun r => (∀ c : Dev Cert.LatentNormsRefIdeal.nD,
      r.2.mem ((c.tc : Thread Cert.LatentNormsRefIdeal.nD Cert.LatentNormsRefIdeal.τ).loc Cert.LatentNormsRefIdeal.main_arg0) = m ((c.tc : Thread Cert.LatentNormsRefIdeal.nD Cert.LatentNormsRefIdeal.τ).loc Cert.LatentNormsRefIdeal.main_arg0)
      ∧ r.2.mem ((c.tc : Thread Cert.LatentNormsRefIdeal.nD Cert.LatentNormsRefIdeal.τ).loc Cert.LatentNormsRefIdeal.main_arg1) = m ((c.tc : Thread Cert.LatentNormsRefIdeal.nD Cert.LatentNormsRefIdeal.τ).loc Cert.LatentNormsRefIdeal.main_arg1)
      ∧ r.2.mem ((c.tc : Thread Cert.LatentNormsRefIdeal.nD Cert.LatentNormsRefIdeal.τ).loc Cert.LatentNormsRefIdeal.main_arg2) = m ((c.tc : Thread Cert.LatentNormsRefIdeal.nD Cert.LatentNormsRefIdeal.τ).loc Cert.LatentNormsRefIdeal.main_arg2))
      ∧ r.2.sem = fun _ => 0)

def quiescent_MixNorm [hMixNorm : Cert.MixNorm.Facts] : Prop :=
  ∀ (m : (ℓ : Loc Cert.MixNorm.nD Cert.MixNorm.τ Cert.MixNorm.sig) → Buf (Elt Bits) ℓ) (g : Dev Cert.MixNorm.nD → PrngReg), Pre_MixNorm m →
    θ_run (Cert.MixNorm.defs (F := Bits)) (onTc (τ := Cert.MixNorm.τ) (Cert.MixNorm.main (F := Bits))) ⟨m, fun _ => 0, g⟩ (fun r => (∀ c : Dev Cert.MixNorm.nD,
      r.2.mem ((c.tc : Thread Cert.MixNorm.nD Cert.MixNorm.τ).loc Cert.MixNorm.main_arg0) = m ((c.tc : Thread Cert.MixNorm.nD Cert.MixNorm.τ).loc Cert.MixNorm.main_arg0)
      ∧ r.2.mem ((c.tc : Thread Cert.MixNorm.nD Cert.MixNorm.τ).loc Cert.MixNorm.main_arg1) = m ((c.tc : Thread Cert.MixNorm.nD Cert.MixNorm.τ).loc Cert.MixNorm.main_arg1))
      ∧ r.2.sem = fun _ => 0)

def quiescent_MixNormIdeal [hMixNormIdeal : Cert.MixNormIdeal.Facts] : Prop :=
  ∀ (m : (ℓ : Loc Cert.MixNormIdeal.nD Cert.MixNormIdeal.τ Cert.MixNormIdeal.sig) → Buf (Elt Ideal) ℓ) (g : Dev Cert.MixNormIdeal.nD → PrngReg), Pre_MixNormIdeal m →
    θ_run (Cert.MixNormIdeal.defs (F := Ideal)) (onTc (τ := Cert.MixNormIdeal.τ) (Cert.MixNormIdeal.main (F := Ideal))) ⟨m, fun _ => 0, g⟩ (fun r => (∀ c : Dev Cert.MixNormIdeal.nD,
      r.2.mem ((c.tc : Thread Cert.MixNormIdeal.nD Cert.MixNormIdeal.τ).loc Cert.MixNormIdeal.main_arg0) = m ((c.tc : Thread Cert.MixNormIdeal.nD Cert.MixNormIdeal.τ).loc Cert.MixNormIdeal.main_arg0)
      ∧ r.2.mem ((c.tc : Thread Cert.MixNormIdeal.nD Cert.MixNormIdeal.τ).loc Cert.MixNormIdeal.main_arg1) = m ((c.tc : Thread Cert.MixNormIdeal.nD Cert.MixNormIdeal.τ).loc Cert.MixNormIdeal.main_arg1))
      ∧ r.2.sem = fun _ => 0)

def quiescent_MixNormRefIdeal [hMixNormRefIdeal : Cert.MixNormRefIdeal.Facts] : Prop :=
  ∀ (m : (ℓ : Loc Cert.MixNormRefIdeal.nD Cert.MixNormRefIdeal.τ Cert.MixNormRefIdeal.sig) → Buf (Elt Ideal) ℓ) (g : Dev Cert.MixNormRefIdeal.nD → PrngReg), Pre_MixNormRefIdeal m →
    θ_run (Cert.MixNormRefIdeal.defs (F := Ideal)) (onTc (τ := Cert.MixNormRefIdeal.τ) (Cert.MixNormRefIdeal.main (F := Ideal))) ⟨m, fun _ => 0, g⟩ (fun r => (∀ c : Dev Cert.MixNormRefIdeal.nD,
      r.2.mem ((c.tc : Thread Cert.MixNormRefIdeal.nD Cert.MixNormRefIdeal.τ).loc Cert.MixNormRefIdeal.main_arg0) = m ((c.tc : Thread Cert.MixNormRefIdeal.nD Cert.MixNormRefIdeal.τ).loc Cert.MixNormRefIdeal.main_arg0)
      ∧ r.2.mem ((c.tc : Thread Cert.MixNormRefIdeal.nD Cert.MixNormRefIdeal.τ).loc Cert.MixNormRefIdeal.main_arg1) = m ((c.tc : Thread Cert.MixNormRefIdeal.nD Cert.MixNormRefIdeal.τ).loc Cert.MixNormRefIdeal.main_arg1))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3))
      ∧ r.2.sem = fun _ => 0)

def quiescent_Xattn [hXattn : Cert.Xattn.Facts] : Prop :=
  ∀ (m : (ℓ : Loc Cert.Xattn.nD Cert.Xattn.τ Cert.Xattn.sig) → Buf (Elt Bits) ℓ) (g : Dev Cert.Xattn.nD → PrngReg), Pre_Xattn m →
    θ_run (Cert.Xattn.defs (F := Bits)) (onTc (τ := Cert.Xattn.τ) (Cert.Xattn.main (F := Bits))) ⟨m, fun _ => 0, g⟩ (fun r => (∀ c : Dev Cert.Xattn.nD,
      r.2.mem ((c.tc : Thread Cert.Xattn.nD Cert.Xattn.τ).loc Cert.Xattn.main_arg0) = m ((c.tc : Thread Cert.Xattn.nD Cert.Xattn.τ).loc Cert.Xattn.main_arg0)
      ∧ r.2.mem ((c.tc : Thread Cert.Xattn.nD Cert.Xattn.τ).loc Cert.Xattn.main_arg1) = m ((c.tc : Thread Cert.Xattn.nD Cert.Xattn.τ).loc Cert.Xattn.main_arg1)
      ∧ r.2.mem ((c.tc : Thread Cert.Xattn.nD Cert.Xattn.τ).loc Cert.Xattn.main_arg2) = m ((c.tc : Thread Cert.Xattn.nD Cert.Xattn.τ).loc Cert.Xattn.main_arg2)
      ∧ r.2.mem ((c.tc : Thread Cert.Xattn.nD Cert.Xattn.τ).loc Cert.Xattn.main_arg3) = m ((c.tc : Thread Cert.Xattn.nD Cert.Xattn.τ).loc Cert.Xattn.main_arg3)
      ∧ r.2.mem ((c.tc : Thread Cert.Xattn.nD Cert.Xattn.τ).loc Cert.Xattn.main_arg4) = m ((c.tc : Thread Cert.Xattn.nD Cert.Xattn.τ).loc Cert.Xattn.main_arg4)
      ∧ r.2.mem ((c.tc : Thread Cert.Xattn.nD Cert.Xattn.τ).loc Cert.Xattn.main_arg5) = m ((c.tc : Thread Cert.Xattn.nD Cert.Xattn.τ).loc Cert.Xattn.main_arg5)
      ∧ r.2.mem ((c.tc : Thread Cert.Xattn.nD Cert.Xattn.τ).loc Cert.Xattn.main_arg6) = m ((c.tc : Thread Cert.Xattn.nD Cert.Xattn.τ).loc Cert.Xattn.main_arg6)
      ∧ r.2.mem ((c.tc : Thread Cert.Xattn.nD Cert.Xattn.τ).loc Cert.Xattn.main_arg7) = m ((c.tc : Thread Cert.Xattn.nD Cert.Xattn.τ).loc Cert.Xattn.main_arg7))
      ∧ r.2.sem = fun _ => 0)

def quiescent_XattnIdeal [hXattnIdeal : Cert.XattnIdeal.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
      ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
      ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5)
      ∧ r.2.mem ((c.tc : Thread Cert.XattnIdeal.nD Cert.XattnIdeal.τ).loc Cert.XattnIdeal.main_arg6) = m ((c.tc : Thread Cert.XattnIdeal.nD Cert.XattnIdeal.τ).loc Cert.XattnIdeal.main_arg6)
      ∧ r.2.mem ((c.tc : Thread Cert.XattnIdeal.nD Cert.XattnIdeal.τ).loc Cert.XattnIdeal.main_arg7) = m ((c.tc : Thread Cert.XattnIdeal.nD Cert.XattnIdeal.τ).loc Cert.XattnIdeal.main_arg7))
      ∧ r.2.sem = fun _ => 0)

def quiescent_XattnIdeal_pre_xattn_finite [hXattnIdeal : Cert.XattnIdeal.Facts] [hPre_xattn_finite : Cert.Pre_xattn_finite.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal_xattn_finite m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
      ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
      ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5)
      ∧ r.2.mem ((c.tc : Thread Cert.XattnIdeal.nD Cert.XattnIdeal.τ).loc Cert.XattnIdeal.main_arg6) = m ((c.tc : Thread Cert.XattnIdeal.nD Cert.XattnIdeal.τ).loc Cert.XattnIdeal.main_arg6)
      ∧ r.2.mem ((c.tc : Thread Cert.XattnIdeal.nD Cert.XattnIdeal.τ).loc Cert.XattnIdeal.main_arg7) = m ((c.tc : Thread Cert.XattnIdeal.nD Cert.XattnIdeal.τ).loc Cert.XattnIdeal.main_arg7))
      ∧ r.2.sem = fun _ => 0)

def quiescent_XattnRefIdeal [hXattnRefIdeal : Cert.XattnRefIdeal.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2)
      ∧ r.2.mem ((c.tc : Thread Cert.XattnRefIdeal.nD Cert.XattnRefIdeal.τ).loc Cert.XattnRefIdeal.main_arg3) = m ((c.tc : Thread Cert.XattnRefIdeal.nD Cert.XattnRefIdeal.τ).loc Cert.XattnRefIdeal.main_arg3)
      ∧ r.2.mem ((c.tc : Thread Cert.XattnRefIdeal.nD Cert.XattnRefIdeal.τ).loc Cert.XattnRefIdeal.main_arg4) = m ((c.tc : Thread Cert.XattnRefIdeal.nD Cert.XattnRefIdeal.τ).loc Cert.XattnRefIdeal.main_arg4)
      ∧ r.2.mem ((c.tc : Thread Cert.XattnRefIdeal.nD Cert.XattnRefIdeal.τ).loc Cert.XattnRefIdeal.main_arg5) = m ((c.tc : Thread Cert.XattnRefIdeal.nD Cert.XattnRefIdeal.τ).loc Cert.XattnRefIdeal.main_arg5)
      ∧ r.2.mem ((c.tc : Thread Cert.XattnRefIdeal.nD Cert.XattnRefIdeal.τ).loc Cert.XattnRefIdeal.main_arg6) = m ((c.tc : Thread Cert.XattnRefIdeal.nD Cert.XattnRefIdeal.τ).loc Cert.XattnRefIdeal.main_arg6)
      ∧ r.2.mem ((c.tc : Thread Cert.XattnRefIdeal.nD Cert.XattnRefIdeal.τ).loc Cert.XattnRefIdeal.main_arg7) = m ((c.tc : Thread Cert.XattnRefIdeal.nD Cert.XattnRefIdeal.τ).loc Cert.XattnRefIdeal.main_arg7))
      ∧ r.2.sem = fun _ => 0)

def quiescent_XattnRefIdeal_pre_xattn_finite [hXattnRefIdeal : Cert.XattnRefIdeal.Facts] [hPre_xattn_finite : Cert.Pre_xattn_finite.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal_xattn_finite m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2)
      ∧ r.2.mem ((c.tc : Thread Cert.XattnRefIdeal.nD Cert.XattnRefIdeal.τ).loc Cert.XattnRefIdeal.main_arg3) = m ((c.tc : Thread Cert.XattnRefIdeal.nD Cert.XattnRefIdeal.τ).loc Cert.XattnRefIdeal.main_arg3)
      ∧ r.2.mem ((c.tc : Thread Cert.XattnRefIdeal.nD Cert.XattnRefIdeal.τ).loc Cert.XattnRefIdeal.main_arg4) = m ((c.tc : Thread Cert.XattnRefIdeal.nD Cert.XattnRefIdeal.τ).loc Cert.XattnRefIdeal.main_arg4)
      ∧ r.2.mem ((c.tc : Thread Cert.XattnRefIdeal.nD Cert.XattnRefIdeal.τ).loc Cert.XattnRefIdeal.main_arg5) = m ((c.tc : Thread Cert.XattnRefIdeal.nD Cert.XattnRefIdeal.τ).loc Cert.XattnRefIdeal.main_arg5)
      ∧ r.2.mem ((c.tc : Thread Cert.XattnRefIdeal.nD Cert.XattnRefIdeal.τ).loc Cert.XattnRefIdeal.main_arg6) = m ((c.tc : Thread Cert.XattnRefIdeal.nD Cert.XattnRefIdeal.τ).loc Cert.XattnRefIdeal.main_arg6)
      ∧ r.2.mem ((c.tc : Thread Cert.XattnRefIdeal.nD Cert.XattnRefIdeal.τ).loc Cert.XattnRefIdeal.main_arg7) = m ((c.tc : Thread Cert.XattnRefIdeal.nD Cert.XattnRefIdeal.τ).loc Cert.XattnRefIdeal.main_arg7))
      ∧ r.2.sem = fun _ => 0)

def quiescent_MemNorm [hMemNorm : Cert.MemNorm.Facts] : Prop :=
  ∀ (m : (ℓ : Loc Cert.MemNorm.nD Cert.MemNorm.τ Cert.MemNorm.sig) → Buf (Elt Bits) ℓ) (g : Dev Cert.MemNorm.nD → PrngReg), Pre_MemNorm m →
    θ_run (Cert.MemNorm.defs (F := Bits)) (onTc (τ := Cert.MemNorm.τ) (Cert.MemNorm.main (F := Bits))) ⟨m, fun _ => 0, g⟩ (fun r => (∀ c : Dev Cert.MemNorm.nD,
      r.2.mem ((c.tc : Thread Cert.MemNorm.nD Cert.MemNorm.τ).loc Cert.MemNorm.main_arg0) = m ((c.tc : Thread Cert.MemNorm.nD Cert.MemNorm.τ).loc Cert.MemNorm.main_arg0)
      ∧ r.2.mem ((c.tc : Thread Cert.MemNorm.nD Cert.MemNorm.τ).loc Cert.MemNorm.main_arg1) = m ((c.tc : Thread Cert.MemNorm.nD Cert.MemNorm.τ).loc Cert.MemNorm.main_arg1))
      ∧ r.2.sem = fun _ => 0)

def quiescent_MemNormIdeal [hMemNormIdeal : Cert.MemNormIdeal.Facts] : Prop :=
  ∀ (m : (ℓ : Loc Cert.MemNormIdeal.nD Cert.MemNormIdeal.τ Cert.MemNormIdeal.sig) → Buf (Elt Ideal) ℓ) (g : Dev Cert.MemNormIdeal.nD → PrngReg), Pre_MemNormIdeal m →
    θ_run (Cert.MemNormIdeal.defs (F := Ideal)) (onTc (τ := Cert.MemNormIdeal.τ) (Cert.MemNormIdeal.main (F := Ideal))) ⟨m, fun _ => 0, g⟩ (fun r => (∀ c : Dev Cert.MemNormIdeal.nD,
      r.2.mem ((c.tc : Thread Cert.MemNormIdeal.nD Cert.MemNormIdeal.τ).loc Cert.MemNormIdeal.main_arg0) = m ((c.tc : Thread Cert.MemNormIdeal.nD Cert.MemNormIdeal.τ).loc Cert.MemNormIdeal.main_arg0)
      ∧ r.2.mem ((c.tc : Thread Cert.MemNormIdeal.nD Cert.MemNormIdeal.τ).loc Cert.MemNormIdeal.main_arg1) = m ((c.tc : Thread Cert.MemNormIdeal.nD Cert.MemNormIdeal.τ).loc Cert.MemNormIdeal.main_arg1))
      ∧ r.2.sem = fun _ => 0)

def quiescent_MemNormRefIdeal [hMemNormRefIdeal : Cert.MemNormRefIdeal.Facts] : Prop :=
  ∀ (m : (ℓ : Loc Cert.MemNormRefIdeal.nD Cert.MemNormRefIdeal.τ Cert.MemNormRefIdeal.sig) → Buf (Elt Ideal) ℓ) (g : Dev Cert.MemNormRefIdeal.nD → PrngReg), Pre_MemNormRefIdeal m →
    θ_run (Cert.MemNormRefIdeal.defs (F := Ideal)) (onTc (τ := Cert.MemNormRefIdeal.τ) (Cert.MemNormRefIdeal.main (F := Ideal))) ⟨m, fun _ => 0, g⟩ (fun r => (∀ c : Dev Cert.MemNormRefIdeal.nD,
      r.2.mem ((c.tc : Thread Cert.MemNormRefIdeal.nD Cert.MemNormRefIdeal.τ).loc Cert.MemNormRefIdeal.main_arg0) = m ((c.tc : Thread Cert.MemNormRefIdeal.nD Cert.MemNormRefIdeal.τ).loc Cert.MemNormRefIdeal.main_arg0)
      ∧ r.2.mem ((c.tc : Thread Cert.MemNormRefIdeal.nD Cert.MemNormRefIdeal.τ).loc Cert.MemNormRefIdeal.main_arg1) = m ((c.tc : Thread Cert.MemNormRefIdeal.nD Cert.MemNormRefIdeal.τ).loc Cert.MemNormRefIdeal.main_arg1))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2))
      ∧ r.2.sem = fun _ => 0)

def preserves_Swa_SwaIdeal : Prop :=
  True

def algebraic_SwaIdeal_SwaRefIdeal_pre_swa_finite [hSwaIdeal : Cert.SwaIdeal.Facts] [hSwaRefIdeal : Cert.SwaRefIdeal.Facts] [hPre_swa_finite : Cert.Pre_swa_finite.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaIdeal_swa_finite m →
    (∀ c : Dev Cert.SwaIdeal.nD,
      m' ((c.tc : Thread Cert.SwaRefIdeal.nD Cert.SwaRefIdeal.τ).loc Cert.SwaRefIdeal.main_arg0) = m ((c.tc : Thread Cert.SwaIdeal.nD Cert.SwaIdeal.τ).loc Cert.SwaIdeal.main_arg0)
      ∧ m' ((c.tc : Thread Cert.SwaRefIdeal.nD Cert.SwaRefIdeal.τ).loc Cert.SwaRefIdeal.main_arg1) = m ((c.tc : Thread Cert.SwaIdeal.nD Cert.SwaIdeal.τ).loc Cert.SwaIdeal.main_arg1)
      ∧ m' ((c.tc : Thread Cert.SwaRefIdeal.nD Cert.SwaRefIdeal.τ).loc Cert.SwaRefIdeal.main_arg2) = m ((c.tc : Thread Cert.SwaIdeal.nD Cert.SwaIdeal.τ).loc Cert.SwaIdeal.main_arg2)) →
    ∃ (v0 : (c : Dev Cert.SwaIdeal.nD) → Buf (Elt Ideal) ((c.tc : Thread Cert.SwaIdeal.nD Cert.SwaIdeal.τ).loc Cert.SwaIdeal.main_v45)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v45) = v0 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
          ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v99) = v0 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1)
          ∧ r.2.mem ((c.tc : Thread Cert.SwaRefIdeal.nD Cert.SwaRefIdeal.τ).loc Cert.SwaRefIdeal.main_arg2) = m' ((c.tc : Thread Cert.SwaRefIdeal.nD Cert.SwaRefIdeal.τ).loc Cert.SwaRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v6)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v23) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_QkvProj_QkvProjIdeal : Prop :=
  True

def algebraic_QkvProjIdeal_QkvProjRefIdeal [hQkvProjIdeal : Cert.QkvProjIdeal.Facts] [hQkvProjRefIdeal : Cert.QkvProjRefIdeal.Facts] : Prop :=
  ∀ (m : (ℓ : Loc Cert.QkvProjIdeal.nD Cert.QkvProjIdeal.τ Cert.QkvProjIdeal.sig) → Buf (Elt Ideal) ℓ) (g : Dev Cert.QkvProjIdeal.nD → PrngReg)
    (m' : (ℓ : Loc Cert.QkvProjRefIdeal.nD Cert.QkvProjRefIdeal.τ Cert.QkvProjRefIdeal.sig) → Buf (Elt Ideal) ℓ) (g' : Dev Cert.QkvProjRefIdeal.nD → PrngReg), Pre_QkvProjIdeal m →
    (∀ c : Dev Cert.QkvProjIdeal.nD,
      m' ((c.tc : Thread Cert.QkvProjRefIdeal.nD Cert.QkvProjRefIdeal.τ).loc Cert.QkvProjRefIdeal.main_arg0) = m ((c.tc : Thread Cert.QkvProjIdeal.nD Cert.QkvProjIdeal.τ).loc Cert.QkvProjIdeal.main_arg0)
      ∧ m' ((c.tc : Thread Cert.QkvProjRefIdeal.nD Cert.QkvProjRefIdeal.τ).loc Cert.QkvProjRefIdeal.main_arg1) = m ((c.tc : Thread Cert.QkvProjIdeal.nD Cert.QkvProjIdeal.τ).loc Cert.QkvProjIdeal.main_arg1)) →
    ∃ (v0 : (c : Dev Cert.QkvProjIdeal.nD) → Buf (Elt Ideal) ((c.tc : Thread Cert.QkvProjIdeal.nD Cert.QkvProjIdeal.τ).loc Cert.QkvProjIdeal.main_v2)),
      θ_run (Cert.QkvProjIdeal.defs (F := Ideal)) (onTc (τ := Cert.QkvProjIdeal.τ) (Cert.QkvProjIdeal.main (F := Ideal))) ⟨m, fun _ => 0, g⟩ (fun r => ∀ c : Dev Cert.QkvProjIdeal.nD,
          r.2.mem ((c.tc : Thread Cert.QkvProjIdeal.nD Cert.QkvProjIdeal.τ).loc Cert.QkvProjIdeal.main_v2) = v0 c
          ∧ r.2.mem ((c.tc : Thread Cert.QkvProjIdeal.nD Cert.QkvProjIdeal.τ).loc Cert.QkvProjIdeal.main_arg0) = m ((c.tc : Thread Cert.QkvProjIdeal.nD Cert.QkvProjIdeal.τ).loc Cert.QkvProjIdeal.main_arg0)
          ∧ r.2.mem ((c.tc : Thread Cert.QkvProjIdeal.nD Cert.QkvProjIdeal.τ).loc Cert.QkvProjIdeal.main_arg1) = m ((c.tc : Thread Cert.QkvProjIdeal.nD Cert.QkvProjIdeal.τ).loc Cert.QkvProjIdeal.main_arg1))
      ∧ θ_run (Cert.QkvProjRefIdeal.defs (F := Ideal)) (onTc (τ := Cert.QkvProjRefIdeal.τ) (Cert.QkvProjRefIdeal.main (F := Ideal))) ⟨m', fun _ => 0, g'⟩ (fun r => ∀ c : Dev Cert.QkvProjRefIdeal.nD,
          r.2.mem ((c.tc : Thread Cert.QkvProjRefIdeal.nD Cert.QkvProjRefIdeal.τ).loc Cert.QkvProjRefIdeal.main_v3) = v0 c
          ∧ r.2.mem ((c.tc : Thread Cert.QkvProjRefIdeal.nD Cert.QkvProjRefIdeal.τ).loc Cert.QkvProjRefIdeal.main_arg0) = m' ((c.tc : Thread Cert.QkvProjRefIdeal.nD Cert.QkvProjRefIdeal.τ).loc Cert.QkvProjRefIdeal.main_arg0)
          ∧ r.2.mem ((c.tc : Thread Cert.QkvProjRefIdeal.nD Cert.QkvProjRefIdeal.τ).loc Cert.QkvProjRefIdeal.main_arg1) = m' ((c.tc : Thread Cert.QkvProjRefIdeal.nD Cert.QkvProjRefIdeal.τ).loc Cert.QkvProjRefIdeal.main_arg1))

def preserves_LatentProj_LatentProjIdeal : Prop :=
  True

def algebraic_LatentProjIdeal_LatentProjRefIdeal [hLatentProjIdeal : Cert.LatentProjIdeal.Facts] [hLatentProjRefIdeal : Cert.LatentProjRefIdeal.Facts] : Prop :=
  ∀ (m : (ℓ : Loc Cert.LatentProjIdeal.nD Cert.LatentProjIdeal.τ Cert.LatentProjIdeal.sig) → Buf (Elt Ideal) ℓ) (g : Dev Cert.LatentProjIdeal.nD → PrngReg)
    (m' : (ℓ : Loc Cert.LatentProjRefIdeal.nD Cert.LatentProjRefIdeal.τ Cert.LatentProjRefIdeal.sig) → Buf (Elt Ideal) ℓ) (g' : Dev Cert.LatentProjRefIdeal.nD → PrngReg), Pre_LatentProjIdeal m →
    (∀ c : Dev Cert.LatentProjIdeal.nD,
      m' ((c.tc : Thread Cert.LatentProjRefIdeal.nD Cert.LatentProjRefIdeal.τ).loc Cert.LatentProjRefIdeal.main_arg0) = m ((c.tc : Thread Cert.LatentProjIdeal.nD Cert.LatentProjIdeal.τ).loc Cert.LatentProjIdeal.main_arg0)
      ∧ m' ((c.tc : Thread Cert.LatentProjRefIdeal.nD Cert.LatentProjRefIdeal.τ).loc Cert.LatentProjRefIdeal.main_arg1) = m ((c.tc : Thread Cert.LatentProjIdeal.nD Cert.LatentProjIdeal.τ).loc Cert.LatentProjIdeal.main_arg1)) →
    ∃ (v0 : (c : Dev Cert.LatentProjIdeal.nD) → Buf (Elt Ideal) ((c.tc : Thread Cert.LatentProjIdeal.nD Cert.LatentProjIdeal.τ).loc Cert.LatentProjIdeal.main_v3)),
      θ_run (Cert.LatentProjIdeal.defs (F := Ideal)) (onTc (τ := Cert.LatentProjIdeal.τ) (Cert.LatentProjIdeal.main (F := Ideal))) ⟨m, fun _ => 0, g⟩ (fun r => ∀ c : Dev Cert.LatentProjIdeal.nD,
          r.2.mem ((c.tc : Thread Cert.LatentProjIdeal.nD Cert.LatentProjIdeal.τ).loc Cert.LatentProjIdeal.main_v3) = v0 c
          ∧ r.2.mem ((c.tc : Thread Cert.LatentProjIdeal.nD Cert.LatentProjIdeal.τ).loc Cert.LatentProjIdeal.main_arg0) = m ((c.tc : Thread Cert.LatentProjIdeal.nD Cert.LatentProjIdeal.τ).loc Cert.LatentProjIdeal.main_arg0)
          ∧ r.2.mem ((c.tc : Thread Cert.LatentProjIdeal.nD Cert.LatentProjIdeal.τ).loc Cert.LatentProjIdeal.main_arg1) = m ((c.tc : Thread Cert.LatentProjIdeal.nD Cert.LatentProjIdeal.τ).loc Cert.LatentProjIdeal.main_arg1))
      ∧ θ_run (Cert.LatentProjRefIdeal.defs (F := Ideal)) (onTc (τ := Cert.LatentProjRefIdeal.τ) (Cert.LatentProjRefIdeal.main (F := Ideal))) ⟨m', fun _ => 0, g'⟩ (fun r => ∀ c : Dev Cert.LatentProjRefIdeal.nD,
          r.2.mem ((c.tc : Thread Cert.LatentProjRefIdeal.nD Cert.LatentProjRefIdeal.τ).loc Cert.LatentProjRefIdeal.main_v3) = v0 c
          ∧ r.2.mem ((c.tc : Thread Cert.LatentProjRefIdeal.nD Cert.LatentProjRefIdeal.τ).loc Cert.LatentProjRefIdeal.main_arg0) = m' ((c.tc : Thread Cert.LatentProjRefIdeal.nD Cert.LatentProjRefIdeal.τ).loc Cert.LatentProjRefIdeal.main_arg0)
          ∧ r.2.mem ((c.tc : Thread Cert.LatentProjRefIdeal.nD Cert.LatentProjRefIdeal.τ).loc Cert.LatentProjRefIdeal.main_arg1) = m' ((c.tc : Thread Cert.LatentProjRefIdeal.nD Cert.LatentProjRefIdeal.τ).loc Cert.LatentProjRefIdeal.main_arg1))

def preserves_Heads_HeadsIdeal : Prop :=
  True

def algebraic_HeadsIdeal_HeadsRefIdeal [hHeadsIdeal : Cert.HeadsIdeal.Facts] [hHeadsRefIdeal : Cert.HeadsRefIdeal.Facts] : Prop :=
  ∀ (m : (ℓ : Loc Cert.HeadsIdeal.nD Cert.HeadsIdeal.τ Cert.HeadsIdeal.sig) → Buf (Elt Ideal) ℓ) (g : Dev Cert.HeadsIdeal.nD → PrngReg)
    (m' : (ℓ : Loc Cert.HeadsRefIdeal.nD Cert.HeadsRefIdeal.τ Cert.HeadsRefIdeal.sig) → Buf (Elt Ideal) ℓ) (g' : Dev Cert.HeadsRefIdeal.nD → PrngReg), Pre_HeadsIdeal m →
    (∀ c : Dev Cert.HeadsIdeal.nD,
      m' ((c.tc : Thread Cert.HeadsRefIdeal.nD Cert.HeadsRefIdeal.τ).loc Cert.HeadsRefIdeal.main_arg0) = m ((c.tc : Thread Cert.HeadsIdeal.nD Cert.HeadsIdeal.τ).loc Cert.HeadsIdeal.main_arg0)
      ∧ m' ((c.tc : Thread Cert.HeadsRefIdeal.nD Cert.HeadsRefIdeal.τ).loc Cert.HeadsRefIdeal.main_arg1) = m ((c.tc : Thread Cert.HeadsIdeal.nD Cert.HeadsIdeal.τ).loc Cert.HeadsIdeal.main_arg1)
      ∧ m' ((c.tc : Thread Cert.HeadsRefIdeal.nD Cert.HeadsRefIdeal.τ).loc Cert.HeadsRefIdeal.main_arg2) = m ((c.tc : Thread Cert.HeadsIdeal.nD Cert.HeadsIdeal.τ).loc Cert.HeadsIdeal.main_arg2)
      ∧ m' ((c.tc : Thread Cert.HeadsRefIdeal.nD Cert.HeadsRefIdeal.τ).loc Cert.HeadsRefIdeal.main_arg3) = m ((c.tc : Thread Cert.HeadsIdeal.nD Cert.HeadsIdeal.τ).loc Cert.HeadsIdeal.main_arg3)) →
    ∃ (v0 : (c : Dev Cert.HeadsIdeal.nD) → Buf (Elt Ideal) ((c.tc : Thread Cert.HeadsIdeal.nD Cert.HeadsIdeal.τ).loc Cert.HeadsIdeal.main_v3)),
      θ_run (Cert.HeadsIdeal.defs (F := Ideal)) (onTc (τ := Cert.HeadsIdeal.τ) (Cert.HeadsIdeal.main (F := Ideal))) ⟨m, fun _ => 0, g⟩ (fun r => ∀ c : Dev Cert.HeadsIdeal.nD,
          r.2.mem ((c.tc : Thread Cert.HeadsIdeal.nD Cert.HeadsIdeal.τ).loc Cert.HeadsIdeal.main_v3) = v0 c
          ∧ r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
          ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
          ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2)
          ∧ r.2.mem ((c.tc : Thread Cert.HeadsIdeal.nD Cert.HeadsIdeal.τ).loc Cert.HeadsIdeal.main_arg3) = m ((c.tc : Thread Cert.HeadsIdeal.nD Cert.HeadsIdeal.τ).loc Cert.HeadsIdeal.main_arg3))
      ∧ θ_run (Cert.HeadsRefIdeal.defs (F := Ideal)) (onTc (τ := Cert.HeadsRefIdeal.τ) (Cert.HeadsRefIdeal.main (F := Ideal))) ⟨m', fun _ => 0, g'⟩ (fun r => ∀ c : Dev Cert.HeadsRefIdeal.nD,
          r.2.mem ((c.tc : Thread Cert.HeadsRefIdeal.nD Cert.HeadsRefIdeal.τ).loc Cert.HeadsRefIdeal.main_v20) = v0 c
          ∧ r.2.mem ((c.tc : Thread Cert.HeadsRefIdeal.nD Cert.HeadsRefIdeal.τ).loc Cert.HeadsRefIdeal.main_arg0) = m' ((c.tc : Thread Cert.HeadsRefIdeal.nD Cert.HeadsRefIdeal.τ).loc Cert.HeadsRefIdeal.main_arg0)
          ∧ r.2.mem ((c.tc : Thread Cert.HeadsRefIdeal.nD Cert.HeadsRefIdeal.τ).loc Cert.HeadsRefIdeal.main_arg1) = m' ((c.tc : Thread Cert.HeadsRefIdeal.nD Cert.HeadsRefIdeal.τ).loc Cert.HeadsRefIdeal.main_arg1)
          ∧ r.2.mem ((c.tc : Thread Cert.HeadsRefIdeal.nD Cert.HeadsRefIdeal.τ).loc Cert.HeadsRefIdeal.main_arg2) = m' ((c.tc : Thread Cert.HeadsRefIdeal.nD Cert.HeadsRefIdeal.τ).loc Cert.HeadsRefIdeal.main_arg2)
          ∧ r.2.mem ((c.tc : Thread Cert.HeadsRefIdeal.nD Cert.HeadsRefIdeal.τ).loc Cert.HeadsRefIdeal.main_arg3) = m' ((c.tc : Thread Cert.HeadsRefIdeal.nD Cert.HeadsRefIdeal.τ).loc Cert.HeadsRefIdeal.main_arg3))

def preserves_LatentNorms_LatentNormsIdeal : Prop :=
  True

def algebraic_LatentNormsIdeal_LatentNormsRefIdeal [hLatentNormsIdeal : Cert.LatentNormsIdeal.Facts] [hLatentNormsRefIdeal : Cert.LatentNormsRefIdeal.Facts] : Prop :=
  ∀ (m : (ℓ : Loc Cert.LatentNormsIdeal.nD Cert.LatentNormsIdeal.τ Cert.LatentNormsIdeal.sig) → Buf (Elt Ideal) ℓ) (g : Dev Cert.LatentNormsIdeal.nD → PrngReg)
    (m' : (ℓ : Loc Cert.LatentNormsRefIdeal.nD Cert.LatentNormsRefIdeal.τ Cert.LatentNormsRefIdeal.sig) → Buf (Elt Ideal) ℓ) (g' : Dev Cert.LatentNormsRefIdeal.nD → PrngReg), Pre_LatentNormsIdeal m →
    (∀ c : Dev Cert.LatentNormsIdeal.nD,
      m' ((c.tc : Thread Cert.LatentNormsRefIdeal.nD Cert.LatentNormsRefIdeal.τ).loc Cert.LatentNormsRefIdeal.main_arg0) = m ((c.tc : Thread Cert.LatentNormsIdeal.nD Cert.LatentNormsIdeal.τ).loc Cert.LatentNormsIdeal.main_arg0)
      ∧ m' ((c.tc : Thread Cert.LatentNormsRefIdeal.nD Cert.LatentNormsRefIdeal.τ).loc Cert.LatentNormsRefIdeal.main_arg1) = m ((c.tc : Thread Cert.LatentNormsIdeal.nD Cert.LatentNormsIdeal.τ).loc Cert.LatentNormsIdeal.main_arg1)
      ∧ m' ((c.tc : Thread Cert.LatentNormsRefIdeal.nD Cert.LatentNormsRefIdeal.τ).loc Cert.LatentNormsRefIdeal.main_arg2) = m ((c.tc : Thread Cert.LatentNormsIdeal.nD Cert.LatentNormsIdeal.τ).loc Cert.LatentNormsIdeal.main_arg2)) →
    ∃ (v0 : (c : Dev Cert.LatentNormsIdeal.nD) → Buf (Elt Ideal) ((c.tc : Thread Cert.LatentNormsIdeal.nD Cert.LatentNormsIdeal.τ).loc Cert.LatentNormsIdeal.main_v2_0)) (v1 : (c : Dev Cert.LatentNormsIdeal.nD) → Buf (Elt Ideal) ((c.tc : Thread Cert.LatentNormsIdeal.nD Cert.LatentNormsIdeal.τ).loc Cert.LatentNormsIdeal.main_v2_1)) (v2 : (c : Dev Cert.LatentNormsIdeal.nD) → Buf (Elt Ideal) ((c.tc : Thread Cert.LatentNormsIdeal.nD Cert.LatentNormsIdeal.τ).loc Cert.LatentNormsIdeal.main_v2_2)),
      θ_run (Cert.LatentNormsIdeal.defs (F := Ideal)) (onTc (τ := Cert.LatentNormsIdeal.τ) (Cert.LatentNormsIdeal.main (F := Ideal))) ⟨m, fun _ => 0, g⟩ (fun r => ∀ c : Dev Cert.LatentNormsIdeal.nD,
          r.2.mem ((c.tc : Thread Cert.LatentNormsIdeal.nD Cert.LatentNormsIdeal.τ).loc Cert.LatentNormsIdeal.main_v2_0) = v0 c
          ∧ r.2.mem ((c.tc : Thread Cert.LatentNormsIdeal.nD Cert.LatentNormsIdeal.τ).loc Cert.LatentNormsIdeal.main_v2_1) = v1 c
          ∧ r.2.mem ((c.tc : Thread Cert.LatentNormsIdeal.nD Cert.LatentNormsIdeal.τ).loc Cert.LatentNormsIdeal.main_v2_2) = v2 c
          ∧ r.2.mem ((c.tc : Thread Cert.LatentNormsIdeal.nD Cert.LatentNormsIdeal.τ).loc Cert.LatentNormsIdeal.main_arg0) = m ((c.tc : Thread Cert.LatentNormsIdeal.nD Cert.LatentNormsIdeal.τ).loc Cert.LatentNormsIdeal.main_arg0)
          ∧ r.2.mem ((c.tc : Thread Cert.LatentNormsIdeal.nD Cert.LatentNormsIdeal.τ).loc Cert.LatentNormsIdeal.main_arg1) = m ((c.tc : Thread Cert.LatentNormsIdeal.nD Cert.LatentNormsIdeal.τ).loc Cert.LatentNormsIdeal.main_arg1)
          ∧ r.2.mem ((c.tc : Thread Cert.LatentNormsIdeal.nD Cert.LatentNormsIdeal.τ).loc Cert.LatentNormsIdeal.main_arg2) = m ((c.tc : Thread Cert.LatentNormsIdeal.nD Cert.LatentNormsIdeal.τ).loc Cert.LatentNormsIdeal.main_arg2))
      ∧ θ_run (Cert.LatentNormsRefIdeal.defs (F := Ideal)) (onTc (τ := Cert.LatentNormsRefIdeal.τ) (Cert.LatentNormsRefIdeal.main (F := Ideal))) ⟨m', fun _ => 0, g'⟩ (fun r => ∀ c : Dev Cert.LatentNormsRefIdeal.nD,
          r.2.mem ((c.tc : Thread Cert.LatentNormsRefIdeal.nD Cert.LatentNormsRefIdeal.τ).loc Cert.LatentNormsRefIdeal.main_v15) = v0 c
          ∧ r.2.mem ((c.tc : Thread Cert.LatentNormsRefIdeal.nD Cert.LatentNormsRefIdeal.τ).loc Cert.LatentNormsRefIdeal.main_v32) = v1 c
          ∧ r.2.mem ((c.tc : Thread Cert.LatentNormsRefIdeal.nD Cert.LatentNormsRefIdeal.τ).loc Cert.LatentNormsRefIdeal.main_v31) = v2 c
          ∧ r.2.mem ((c.tc : Thread Cert.LatentNormsRefIdeal.nD Cert.LatentNormsRefIdeal.τ).loc Cert.LatentNormsRefIdeal.main_arg0) = m' ((c.tc : Thread Cert.LatentNormsRefIdeal.nD Cert.LatentNormsRefIdeal.τ).loc Cert.LatentNormsRefIdeal.main_arg0)
          ∧ r.2.mem ((c.tc : Thread Cert.LatentNormsRefIdeal.nD Cert.LatentNormsRefIdeal.τ).loc Cert.LatentNormsRefIdeal.main_arg1) = m' ((c.tc : Thread Cert.LatentNormsRefIdeal.nD Cert.LatentNormsRefIdeal.τ).loc Cert.LatentNormsRefIdeal.main_arg1)
          ∧ r.2.mem ((c.tc : Thread Cert.LatentNormsRefIdeal.nD Cert.LatentNormsRefIdeal.τ).loc Cert.LatentNormsRefIdeal.main_arg2) = m' ((c.tc : Thread Cert.LatentNormsRefIdeal.nD Cert.LatentNormsRefIdeal.τ).loc Cert.LatentNormsRefIdeal.main_arg2))

def preserves_MixNorm_MixNormIdeal : Prop :=
  True

def algebraic_MixNormIdeal_MixNormRefIdeal [hMixNormIdeal : Cert.MixNormIdeal.Facts] [hMixNormRefIdeal : Cert.MixNormRefIdeal.Facts] : Prop :=
  ∀ (m : (ℓ : Loc Cert.MixNormIdeal.nD Cert.MixNormIdeal.τ Cert.MixNormIdeal.sig) → Buf (Elt Ideal) ℓ) (g : Dev Cert.MixNormIdeal.nD → PrngReg)
    (m' : (ℓ : Loc Cert.MixNormRefIdeal.nD Cert.MixNormRefIdeal.τ Cert.MixNormRefIdeal.sig) → Buf (Elt Ideal) ℓ) (g' : Dev Cert.MixNormRefIdeal.nD → PrngReg), Pre_MixNormIdeal m →
    (∀ c : Dev Cert.MixNormIdeal.nD,
      m' ((c.tc : Thread Cert.MixNormRefIdeal.nD Cert.MixNormRefIdeal.τ).loc Cert.MixNormRefIdeal.main_arg0) = m ((c.tc : Thread Cert.MixNormIdeal.nD Cert.MixNormIdeal.τ).loc Cert.MixNormIdeal.main_arg0)
      ∧ m' ((c.tc : Thread Cert.MixNormRefIdeal.nD Cert.MixNormRefIdeal.τ).loc Cert.MixNormRefIdeal.main_arg1) = m ((c.tc : Thread Cert.MixNormIdeal.nD Cert.MixNormIdeal.τ).loc Cert.MixNormIdeal.main_arg1)) →
    ∃ (v0 : (c : Dev Cert.MixNormIdeal.nD) → Buf (Elt Ideal) ((c.tc : Thread Cert.MixNormIdeal.nD Cert.MixNormIdeal.τ).loc Cert.MixNormIdeal.main_v1)),
      θ_run (Cert.MixNormIdeal.defs (F := Ideal)) (onTc (τ := Cert.MixNormIdeal.τ) (Cert.MixNormIdeal.main (F := Ideal))) ⟨m, fun _ => 0, g⟩ (fun r => ∀ c : Dev Cert.MixNormIdeal.nD,
          r.2.mem ((c.tc : Thread Cert.MixNormIdeal.nD Cert.MixNormIdeal.τ).loc Cert.MixNormIdeal.main_v1) = v0 c
          ∧ r.2.mem ((c.tc : Thread Cert.MixNormIdeal.nD Cert.MixNormIdeal.τ).loc Cert.MixNormIdeal.main_arg0) = m ((c.tc : Thread Cert.MixNormIdeal.nD Cert.MixNormIdeal.τ).loc Cert.MixNormIdeal.main_arg0)
          ∧ r.2.mem ((c.tc : Thread Cert.MixNormIdeal.nD Cert.MixNormIdeal.τ).loc Cert.MixNormIdeal.main_arg1) = m ((c.tc : Thread Cert.MixNormIdeal.nD Cert.MixNormIdeal.τ).loc Cert.MixNormIdeal.main_arg1))
      ∧ θ_run (Cert.MixNormRefIdeal.defs (F := Ideal)) (onTc (τ := Cert.MixNormRefIdeal.τ) (Cert.MixNormRefIdeal.main (F := Ideal))) ⟨m', fun _ => 0, g'⟩ (fun r => ∀ c : Dev Cert.MixNormRefIdeal.nD,
          r.2.mem ((c.tc : Thread Cert.MixNormRefIdeal.nD Cert.MixNormRefIdeal.τ).loc Cert.MixNormRefIdeal.main_v13) = v0 c
          ∧ r.2.mem ((c.tc : Thread Cert.MixNormRefIdeal.nD Cert.MixNormRefIdeal.τ).loc Cert.MixNormRefIdeal.main_arg0) = m' ((c.tc : Thread Cert.MixNormRefIdeal.nD Cert.MixNormRefIdeal.τ).loc Cert.MixNormRefIdeal.main_arg0)
          ∧ r.2.mem ((c.tc : Thread Cert.MixNormRefIdeal.nD Cert.MixNormRefIdeal.τ).loc Cert.MixNormRefIdeal.main_arg1) = m' ((c.tc : Thread Cert.MixNormRefIdeal.nD Cert.MixNormRefIdeal.τ).loc Cert.MixNormRefIdeal.main_arg1))

def preserves_Combine_CombineIdeal : Prop :=
  True

def algebraic_CombineIdeal_CombineRefIdeal [hCombineIdeal : Cert.CombineIdeal.Facts] [hCombineRefIdeal : Cert.CombineRefIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)
      ∧ m' ((c.tc : Thread Cert.CombineRefIdeal.nD Cert.CombineRefIdeal.τ).loc Cert.CombineRefIdeal.main_arg3) = m ((c.tc : Thread Cert.CombineIdeal.nD Cert.CombineIdeal.τ).loc Cert.CombineIdeal.main_arg3)) →
    ∃ (v0 : (c : Dev Cert.CombineIdeal.nD) → Buf (Elt Ideal) ((c.tc : Thread Cert.CombineIdeal.nD Cert.CombineIdeal.τ).loc Cert.CombineIdeal.main_v1)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v1) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v24) = v0 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2)
          ∧ r.2.mem ((c.tc : Thread Cert.CombineRefIdeal.nD Cert.CombineRefIdeal.τ).loc Cert.CombineRefIdeal.main_arg3) = m' ((c.tc : Thread Cert.CombineRefIdeal.nD Cert.CombineRefIdeal.τ).loc Cert.CombineRefIdeal.main_arg3))

def preserves_Xattn_XattnIdeal : Prop :=
  IdealRules.bf16_pair.BufferStatement Cert.XattnIdeal.S16384x2x2048 Cert.XattnIdeal.S16384x1x2048
  ∧ IdealRules.bf16_pair.BufferStatement Cert.XattnIdeal.S256x2x2048 Cert.XattnIdeal.S256x1x2048
  ∧ IdealRules.bf16_pair.Statement Cert.XattnIdeal.S256x2x2048 Cert.XattnIdeal.S256x1x2048
  ∧ IdealRules.bf16_pack.Statement Cert.XattnIdeal.S256x2048

def algebraic_XattnIdeal_XattnRefIdeal_pre_xattn_finite [hXattnIdeal : Cert.XattnIdeal.Facts] [hXattnRefIdeal : Cert.XattnRefIdeal.Facts] [hPre_xattn_finite : Cert.Pre_xattn_finite.Facts] : Prop :=
  ∀ (m : (ℓ : Loc Cert.XattnIdeal.nD Cert.XattnIdeal.τ Cert.XattnIdeal.sig) → Buf (Elt Ideal) ℓ) (g : Dev Cert.XattnIdeal.nD → PrngReg)
    (m' : (ℓ : Loc Cert.XattnRefIdeal.nD Cert.XattnRefIdeal.τ Cert.XattnRefIdeal.sig) → Buf (Elt Ideal) ℓ) (g' : Dev Cert.XattnRefIdeal.nD → PrngReg), Pre_XattnIdeal_xattn_finite m →
    (∀ c : Dev Cert.XattnIdeal.nD,
      m' ((c.tc : Thread Cert.XattnRefIdeal.nD Cert.XattnRefIdeal.τ).loc Cert.XattnRefIdeal.main_arg0) = m ((c.tc : Thread Cert.XattnIdeal.nD Cert.XattnIdeal.τ).loc Cert.XattnIdeal.main_arg0)
      ∧ m' ((c.tc : Thread Cert.XattnRefIdeal.nD Cert.XattnRefIdeal.τ).loc Cert.XattnRefIdeal.main_arg1) = m ((c.tc : Thread Cert.XattnIdeal.nD Cert.XattnIdeal.τ).loc Cert.XattnIdeal.main_arg1)
      ∧ m' ((c.tc : Thread Cert.XattnRefIdeal.nD Cert.XattnRefIdeal.τ).loc Cert.XattnRefIdeal.main_arg2) = m ((c.tc : Thread Cert.XattnIdeal.nD Cert.XattnIdeal.τ).loc Cert.XattnIdeal.main_arg2)
      ∧ m' ((c.tc : Thread Cert.XattnRefIdeal.nD Cert.XattnRefIdeal.τ).loc Cert.XattnRefIdeal.main_arg3) = m ((c.tc : Thread Cert.XattnIdeal.nD Cert.XattnIdeal.τ).loc Cert.XattnIdeal.main_arg3)
      ∧ m' ((c.tc : Thread Cert.XattnRefIdeal.nD Cert.XattnRefIdeal.τ).loc Cert.XattnRefIdeal.main_arg4) = m ((c.tc : Thread Cert.XattnIdeal.nD Cert.XattnIdeal.τ).loc Cert.XattnIdeal.main_arg4)
      ∧ m' ((c.tc : Thread Cert.XattnRefIdeal.nD Cert.XattnRefIdeal.τ).loc Cert.XattnRefIdeal.main_arg5) = m ((c.tc : Thread Cert.XattnIdeal.nD Cert.XattnIdeal.τ).loc Cert.XattnIdeal.main_arg5)
      ∧ m' ((c.tc : Thread Cert.XattnRefIdeal.nD Cert.XattnRefIdeal.τ).loc Cert.XattnRefIdeal.main_arg6) = m ((c.tc : Thread Cert.XattnIdeal.nD Cert.XattnIdeal.τ).loc Cert.XattnIdeal.main_arg6)
      ∧ m' ((c.tc : Thread Cert.XattnRefIdeal.nD Cert.XattnRefIdeal.τ).loc Cert.XattnRefIdeal.main_arg7) = m ((c.tc : Thread Cert.XattnIdeal.nD Cert.XattnIdeal.τ).loc Cert.XattnIdeal.main_arg7)) →
    ∃ (v0 : (c : Dev Cert.XattnIdeal.nD) → Buf (Elt Ideal) ((c.tc : Thread Cert.XattnIdeal.nD Cert.XattnIdeal.τ).loc Cert.XattnIdeal.main_v7_0)) (v1 : (c : Dev Cert.XattnIdeal.nD) → Buf (Elt Ideal) ((c.tc : Thread Cert.XattnIdeal.nD Cert.XattnIdeal.τ).loc Cert.XattnIdeal.main_v7_2)),
      θ_run (Cert.XattnIdeal.defs (F := Ideal)) (onTc (τ := Cert.XattnIdeal.τ) (Cert.XattnIdeal.main (F := Ideal))) ⟨m, fun _ => 0, g⟩ (fun r => ∀ c : Dev Cert.XattnIdeal.nD,
          r.2.mem ((c.tc : Thread Cert.XattnIdeal.nD Cert.XattnIdeal.τ).loc Cert.XattnIdeal.main_v7_0) = v0 c
          ∧ r.2.mem ((c.tc : Thread Cert.XattnIdeal.nD Cert.XattnIdeal.τ).loc Cert.XattnIdeal.main_v7_2) = v1 c
          ∧ r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
          ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
          ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
          ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
          ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
          ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5)
          ∧ r.2.mem ((c.tc : Thread Cert.XattnIdeal.nD Cert.XattnIdeal.τ).loc Cert.XattnIdeal.main_arg6) = m ((c.tc : Thread Cert.XattnIdeal.nD Cert.XattnIdeal.τ).loc Cert.XattnIdeal.main_arg6)
          ∧ r.2.mem ((c.tc : Thread Cert.XattnIdeal.nD Cert.XattnIdeal.τ).loc Cert.XattnIdeal.main_arg7) = m ((c.tc : Thread Cert.XattnIdeal.nD Cert.XattnIdeal.τ).loc Cert.XattnIdeal.main_arg7))
      ∧ θ_run (Cert.XattnRefIdeal.defs (F := Ideal)) (onTc (τ := Cert.XattnRefIdeal.τ) (Cert.XattnRefIdeal.main (F := Ideal))) ⟨m', fun _ => 0, g'⟩ (fun r => ∀ c : Dev Cert.XattnRefIdeal.nD,
          r.2.mem ((c.tc : Thread Cert.XattnRefIdeal.nD Cert.XattnRefIdeal.τ).loc Cert.XattnRefIdeal.main_v39) = v0 c
          ∧ r.2.mem ((c.tc : Thread Cert.XattnRefIdeal.nD Cert.XattnRefIdeal.τ).loc Cert.XattnRefIdeal.main_v56) = v1 c
          ∧ r.2.mem ((c.tc : Thread Cert.XattnRefIdeal.nD Cert.XattnRefIdeal.τ).loc Cert.XattnRefIdeal.main_arg0) = m' ((c.tc : Thread Cert.XattnRefIdeal.nD Cert.XattnRefIdeal.τ).loc Cert.XattnRefIdeal.main_arg0)
          ∧ r.2.mem ((c.tc : Thread Cert.XattnRefIdeal.nD Cert.XattnRefIdeal.τ).loc Cert.XattnRefIdeal.main_arg1) = m' ((c.tc : Thread Cert.XattnRefIdeal.nD Cert.XattnRefIdeal.τ).loc Cert.XattnRefIdeal.main_arg1)
          ∧ r.2.mem ((c.tc : Thread Cert.XattnRefIdeal.nD Cert.XattnRefIdeal.τ).loc Cert.XattnRefIdeal.main_arg2) = m' ((c.tc : Thread Cert.XattnRefIdeal.nD Cert.XattnRefIdeal.τ).loc Cert.XattnRefIdeal.main_arg2)
          ∧ r.2.mem ((c.tc : Thread Cert.XattnRefIdeal.nD Cert.XattnRefIdeal.τ).loc Cert.XattnRefIdeal.main_arg3) = m' ((c.tc : Thread Cert.XattnRefIdeal.nD Cert.XattnRefIdeal.τ).loc Cert.XattnRefIdeal.main_arg3)
          ∧ r.2.mem ((c.tc : Thread Cert.XattnRefIdeal.nD Cert.XattnRefIdeal.τ).loc Cert.XattnRefIdeal.main_arg4) = m' ((c.tc : Thread Cert.XattnRefIdeal.nD Cert.XattnRefIdeal.τ).loc Cert.XattnRefIdeal.main_arg4)
          ∧ r.2.mem ((c.tc : Thread Cert.XattnRefIdeal.nD Cert.XattnRefIdeal.τ).loc Cert.XattnRefIdeal.main_arg5) = m' ((c.tc : Thread Cert.XattnRefIdeal.nD Cert.XattnRefIdeal.τ).loc Cert.XattnRefIdeal.main_arg5)
          ∧ r.2.mem ((c.tc : Thread Cert.XattnRefIdeal.nD Cert.XattnRefIdeal.τ).loc Cert.XattnRefIdeal.main_arg6) = m' ((c.tc : Thread Cert.XattnRefIdeal.nD Cert.XattnRefIdeal.τ).loc Cert.XattnRefIdeal.main_arg6)
          ∧ r.2.mem ((c.tc : Thread Cert.XattnRefIdeal.nD Cert.XattnRefIdeal.τ).loc Cert.XattnRefIdeal.main_arg7) = m' ((c.tc : Thread Cert.XattnRefIdeal.nD Cert.XattnRefIdeal.τ).loc Cert.XattnRefIdeal.main_arg7))

def preserves_MemNorm_MemNormIdeal : Prop :=
  True

def algebraic_MemNormIdeal_MemNormRefIdeal [hMemNormIdeal : Cert.MemNormIdeal.Facts] [hMemNormRefIdeal : Cert.MemNormRefIdeal.Facts] : Prop :=
  ∀ (m : (ℓ : Loc Cert.MemNormIdeal.nD Cert.MemNormIdeal.τ Cert.MemNormIdeal.sig) → Buf (Elt Ideal) ℓ) (g : Dev Cert.MemNormIdeal.nD → PrngReg)
    (m' : (ℓ : Loc Cert.MemNormRefIdeal.nD Cert.MemNormRefIdeal.τ Cert.MemNormRefIdeal.sig) → Buf (Elt Ideal) ℓ) (g' : Dev Cert.MemNormRefIdeal.nD → PrngReg), Pre_MemNormIdeal m →
    (∀ c : Dev Cert.MemNormIdeal.nD,
      m' ((c.tc : Thread Cert.MemNormRefIdeal.nD Cert.MemNormRefIdeal.τ).loc Cert.MemNormRefIdeal.main_arg0) = m ((c.tc : Thread Cert.MemNormIdeal.nD Cert.MemNormIdeal.τ).loc Cert.MemNormIdeal.main_arg0)
      ∧ m' ((c.tc : Thread Cert.MemNormRefIdeal.nD Cert.MemNormRefIdeal.τ).loc Cert.MemNormRefIdeal.main_arg1) = m ((c.tc : Thread Cert.MemNormIdeal.nD Cert.MemNormIdeal.τ).loc Cert.MemNormIdeal.main_arg1)) →
    ∃ (v0 : (c : Dev Cert.MemNormIdeal.nD) → Buf (Elt Ideal) ((c.tc : Thread Cert.MemNormIdeal.nD Cert.MemNormIdeal.τ).loc Cert.MemNormIdeal.main_v1)),
      θ_run (Cert.MemNormIdeal.defs (F := Ideal)) (onTc (τ := Cert.MemNormIdeal.τ) (Cert.MemNormIdeal.main (F := Ideal))) ⟨m, fun _ => 0, g⟩ (fun r => ∀ c : Dev Cert.MemNormIdeal.nD,
          r.2.mem ((c.tc : Thread Cert.MemNormIdeal.nD Cert.MemNormIdeal.τ).loc Cert.MemNormIdeal.main_v1) = v0 c
          ∧ r.2.mem ((c.tc : Thread Cert.MemNormIdeal.nD Cert.MemNormIdeal.τ).loc Cert.MemNormIdeal.main_arg0) = m ((c.tc : Thread Cert.MemNormIdeal.nD Cert.MemNormIdeal.τ).loc Cert.MemNormIdeal.main_arg0)
          ∧ r.2.mem ((c.tc : Thread Cert.MemNormIdeal.nD Cert.MemNormIdeal.τ).loc Cert.MemNormIdeal.main_arg1) = m ((c.tc : Thread Cert.MemNormIdeal.nD Cert.MemNormIdeal.τ).loc Cert.MemNormIdeal.main_arg1))
      ∧ θ_run (Cert.MemNormRefIdeal.defs (F := Ideal)) (onTc (τ := Cert.MemNormRefIdeal.τ) (Cert.MemNormRefIdeal.main (F := Ideal))) ⟨m', fun _ => 0, g'⟩ (fun r => ∀ c : Dev Cert.MemNormRefIdeal.nD,
          r.2.mem ((c.tc : Thread Cert.MemNormRefIdeal.nD Cert.MemNormRefIdeal.τ).loc Cert.MemNormRefIdeal.main_v13) = v0 c
          ∧ r.2.mem ((c.tc : Thread Cert.MemNormRefIdeal.nD Cert.MemNormRefIdeal.τ).loc Cert.MemNormRefIdeal.main_arg0) = m' ((c.tc : Thread Cert.MemNormRefIdeal.nD Cert.MemNormRefIdeal.τ).loc Cert.MemNormRefIdeal.main_arg0)
          ∧ r.2.mem ((c.tc : Thread Cert.MemNormRefIdeal.nD Cert.MemNormRefIdeal.τ).loc Cert.MemNormRefIdeal.main_arg1) = m' ((c.tc : Thread Cert.MemNormRefIdeal.nD Cert.MemNormRefIdeal.τ).loc Cert.MemNormRefIdeal.main_arg1))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v2)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v2) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v5) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2))

def Claim : Prop :=
  ∃ (hSwa : Cert.Swa.Facts) (hSwaIdeal : Cert.SwaIdeal.Facts) (hSwaRefIdeal : Cert.SwaRefIdeal.Facts) (hMerge : Cert.Merge.Facts) (hMergeIdeal : Cert.MergeIdeal.Facts) (hMergeRefIdeal : Cert.MergeRefIdeal.Facts) (hOutProj : Cert.OutProj.Facts) (hOutProjIdeal : Cert.OutProjIdeal.Facts) (hOutProjRefIdeal : Cert.OutProjRefIdeal.Facts) (hQkvProj : Cert.QkvProj.Facts) (hQkvProjIdeal : Cert.QkvProjIdeal.Facts) (hQkvProjRefIdeal : Cert.QkvProjRefIdeal.Facts) (hLatentProj : Cert.LatentProj.Facts) (hLatentProjIdeal : Cert.LatentProjIdeal.Facts) (hLatentProjRefIdeal : Cert.LatentProjRefIdeal.Facts) (hHeads : Cert.Heads.Facts) (hHeadsIdeal : Cert.HeadsIdeal.Facts) (hHeadsRefIdeal : Cert.HeadsRefIdeal.Facts) (hLatentNorms : Cert.LatentNorms.Facts) (hLatentNormsIdeal : Cert.LatentNormsIdeal.Facts) (hLatentNormsRefIdeal : Cert.LatentNormsRefIdeal.Facts) (hMixNorm : Cert.MixNorm.Facts) (hMixNormIdeal : Cert.MixNormIdeal.Facts) (hMixNormRefIdeal : Cert.MixNormRefIdeal.Facts) (hCombine : Cert.Combine.Facts) (hCombineIdeal : Cert.CombineIdeal.Facts) (hCombineRefIdeal : Cert.CombineRefIdeal.Facts) (hXattn : Cert.Xattn.Facts) (hXattnIdeal : Cert.XattnIdeal.Facts) (hXattnRefIdeal : Cert.XattnRefIdeal.Facts) (hMemNorm : Cert.MemNorm.Facts) (hMemNormIdeal : Cert.MemNormIdeal.Facts) (hMemNormRefIdeal : Cert.MemNormRefIdeal.Facts) (hMemKv : Cert.MemKv.Facts) (hMemKvIdeal : Cert.MemKvIdeal.Facts) (hMemKvRefIdeal : Cert.MemKvRefIdeal.Facts) (hPre_swa_finite : Cert.Pre_swa_finite.Facts) (hPre_xattn_finite : Cert.Pre_xattn_finite.Facts),
    quiescent_Swa (hSwa := hSwa)
    ∧ quiescent_SwaIdeal (hSwaIdeal := hSwaIdeal)
    ∧ quiescent_SwaIdeal_pre_swa_finite (hSwaIdeal := hSwaIdeal) (hPre_swa_finite := hPre_swa_finite)
    ∧ quiescent_SwaRefIdeal (hSwaRefIdeal := hSwaRefIdeal)
    ∧ quiescent_SwaRefIdeal_pre_swa_finite (hSwaRefIdeal := hSwaRefIdeal) (hPre_swa_finite := hPre_swa_finite)
    ∧ quiescent_Merge (hMerge := hMerge)
    ∧ quiescent_MergeIdeal (hMergeIdeal := hMergeIdeal)
    ∧ quiescent_MergeRefIdeal (hMergeRefIdeal := hMergeRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_QkvProj (hQkvProj := hQkvProj)
    ∧ quiescent_QkvProjIdeal (hQkvProjIdeal := hQkvProjIdeal)
    ∧ quiescent_QkvProjRefIdeal (hQkvProjRefIdeal := hQkvProjRefIdeal)
    ∧ quiescent_LatentProj (hLatentProj := hLatentProj)
    ∧ quiescent_LatentProjIdeal (hLatentProjIdeal := hLatentProjIdeal)
    ∧ quiescent_LatentProjRefIdeal (hLatentProjRefIdeal := hLatentProjRefIdeal)
    ∧ quiescent_Heads (hHeads := hHeads)
    ∧ quiescent_HeadsIdeal (hHeadsIdeal := hHeadsIdeal)
    ∧ quiescent_HeadsRefIdeal (hHeadsRefIdeal := hHeadsRefIdeal)
    ∧ quiescent_LatentNorms (hLatentNorms := hLatentNorms)
    ∧ quiescent_LatentNormsIdeal (hLatentNormsIdeal := hLatentNormsIdeal)
    ∧ quiescent_LatentNormsRefIdeal (hLatentNormsRefIdeal := hLatentNormsRefIdeal)
    ∧ quiescent_MixNorm (hMixNorm := hMixNorm)
    ∧ quiescent_MixNormIdeal (hMixNormIdeal := hMixNormIdeal)
    ∧ quiescent_MixNormRefIdeal (hMixNormRefIdeal := hMixNormRefIdeal)
    ∧ quiescent_Combine (hCombine := hCombine)
    ∧ quiescent_CombineIdeal (hCombineIdeal := hCombineIdeal)
    ∧ quiescent_CombineRefIdeal (hCombineRefIdeal := hCombineRefIdeal)
    ∧ quiescent_Xattn (hXattn := hXattn)
    ∧ quiescent_XattnIdeal (hXattnIdeal := hXattnIdeal)
    ∧ quiescent_XattnIdeal_pre_xattn_finite (hXattnIdeal := hXattnIdeal) (hPre_xattn_finite := hPre_xattn_finite)
    ∧ quiescent_XattnRefIdeal (hXattnRefIdeal := hXattnRefIdeal)
    ∧ quiescent_XattnRefIdeal_pre_xattn_finite (hXattnRefIdeal := hXattnRefIdeal) (hPre_xattn_finite := hPre_xattn_finite)
    ∧ quiescent_MemNorm (hMemNorm := hMemNorm)
    ∧ quiescent_MemNormIdeal (hMemNormIdeal := hMemNormIdeal)
    ∧ quiescent_MemNormRefIdeal (hMemNormRefIdeal := hMemNormRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ preserves_Swa_SwaIdeal
    ∧ algebraic_SwaIdeal_SwaRefIdeal_pre_swa_finite (hSwaIdeal := hSwaIdeal) (hSwaRefIdeal := hSwaRefIdeal) (hPre_swa_finite := hPre_swa_finite)
    ∧ preserves_Merge_MergeIdeal
    ∧ algebraic_MergeIdeal_MergeRefIdeal (hMergeIdeal := hMergeIdeal) (hMergeRefIdeal := hMergeRefIdeal)
    ∧ preserves_OutProj_OutProjIdeal
    ∧ algebraic_OutProjIdeal_OutProjRefIdeal (hOutProjIdeal := hOutProjIdeal) (hOutProjRefIdeal := hOutProjRefIdeal)
    ∧ preserves_QkvProj_QkvProjIdeal
    ∧ algebraic_QkvProjIdeal_QkvProjRefIdeal (hQkvProjIdeal := hQkvProjIdeal) (hQkvProjRefIdeal := hQkvProjRefIdeal)
    ∧ preserves_LatentProj_LatentProjIdeal
    ∧ algebraic_LatentProjIdeal_LatentProjRefIdeal (hLatentProjIdeal := hLatentProjIdeal) (hLatentProjRefIdeal := hLatentProjRefIdeal)
    ∧ preserves_Heads_HeadsIdeal
    ∧ algebraic_HeadsIdeal_HeadsRefIdeal (hHeadsIdeal := hHeadsIdeal) (hHeadsRefIdeal := hHeadsRefIdeal)
    ∧ preserves_LatentNorms_LatentNormsIdeal
    ∧ algebraic_LatentNormsIdeal_LatentNormsRefIdeal (hLatentNormsIdeal := hLatentNormsIdeal) (hLatentNormsRefIdeal := hLatentNormsRefIdeal)
    ∧ preserves_MixNorm_MixNormIdeal
    ∧ algebraic_MixNormIdeal_MixNormRefIdeal (hMixNormIdeal := hMixNormIdeal) (hMixNormRefIdeal := hMixNormRefIdeal)
    ∧ preserves_Combine_CombineIdeal
    ∧ algebraic_CombineIdeal_CombineRefIdeal (hCombineIdeal := hCombineIdeal) (hCombineRefIdeal := hCombineRefIdeal)
    ∧ preserves_Xattn_XattnIdeal
    ∧ algebraic_XattnIdeal_XattnRefIdeal_pre_xattn_finite (hXattnIdeal := hXattnIdeal) (hXattnRefIdeal := hXattnRefIdeal) (hPre_xattn_finite := hPre_xattn_finite)
    ∧ preserves_MemNorm_MemNormIdeal
    ∧ algebraic_MemNormIdeal_MemNormRefIdeal (hMemNormIdeal := hMemNormIdeal) (hMemNormRefIdeal := hMemNormRefIdeal)
    ∧ preserves_MemKv_MemKvIdeal
    ∧ algebraic_MemKvIdeal_MemKvRefIdeal (hMemKvIdeal := hMemKvIdeal) (hMemKvRefIdeal := hMemKvRefIdeal)
-- ==== Pre_swa_finite.lean ====
abbrev S16384x3072 : Shape := ⟨2, ![16384, 3072]⟩
abbrev S16 : Shape := ⟨1, ![16]⟩
abbrev S32x16 : Shape := ⟨2, ![32, 16]⟩
abbrev S_ : Shape := ⟨0, ![]⟩

class Facts : Prop where
  bcast_S_S16384x3072 : S_.BroadcastsInDim S16384x3072 (![] : Fin 0 → Fin S16384x3072.rank)
  reducesTo_S16384x3072_S_d0_1 : S16384x3072.ReducesTo [0, 1] S_
  h_S_ : 0 < S_.numel
  bcast_S_S16 : S_.BroadcastsInDim S16 (![] : Fin 0 → Fin S16.rank)
  reducesTo_S16_S_d0 : S16.ReducesTo [0] S_
  bcast_S_S32x16 : S_.BroadcastsInDim S32x16 (![] : Fin 0 → Fin S32x16.rank)
  reducesTo_S32x16_S_d0_1 : S32x16.ReducesTo [0, 1] S_

variable [Facts]

def fn {F : FTy → Type} [FloatOps F] (main_arg0 : FVec F S16384x3072 .bf16) (main_arg1 : FVec F S16 .f32) (main_arg2 : FVec F S32x16 .f32) : IVec S_ 1 :=
  let main_v0 : FVec F S16384x3072 .bf16 := Host.absf main_arg0
  let main_cst : FVec F S_ .bf16 := constant S_ .bf16 0x7F80#16
  let main_v1 : FVec F S16384x3072 .bf16 := broadcastInDim S16384x3072 ![] bcast_S_S16384x3072 main_cst
  let main_v2 : IVec S16384x3072 1 := cmpf .olt main_v0 main_v1
  let main_c : IVec S_ 1 := constantI S_ 1 1#1
  let main_v3 : IVec S_ 1 := (fun x v => Host.reduce IntOp.andi x v reducesTo_S16384x3072_S_d0_1 h_S_) main_v2 main_c
  let main_v4 : FVec F S16 .f32 := Host.absf main_arg1
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  let main_c_1 : IVec S_ 1 := constantI S_ 1 1#1
  let main_v7 : IVec S_ 1 := (fun x v => Host.reduce IntOp.andi x v reducesTo_S16_S_d0 h_S_) main_v6 main_c_1
  let main_v8 : IVec S_ 1 := andi main_v3 main_v7
  let main_v9 : FVec F S32x16 .f32 := Host.absf main_arg2
  let main_cst_2 : FVec F S_ .f32 := constant S_ .f32 0x7F800000#32
  let main_v10 : FVec F S32x16 .f32 := broadcastInDim S32x16 ![] bcast_S_S32x16 main_cst_2
  let main_v11 : IVec S32x16 1 := cmpf .olt main_v9 main_v10
  let main_c_3 : IVec S_ 1 := constantI S_ 1 1#1
  let main_v12 : IVec S_ 1 := (fun x v => Host.reduce IntOp.andi x v reducesTo_S32x16_S_d0_1 h_S_) main_v11 main_c_3
  let main_v13 : IVec S_ 1 := andi main_v8 main_v12
  main_v13
-- ==== Pre_xattn_finite.lean ====
abbrev S16384x4096 : Shape := ⟨2, ![16384, 4096]⟩
abbrev S4096 : Shape := ⟨1, ![4096]⟩
abbrev S4096x512 : Shape := ⟨2, ![4096, 512]⟩
abbrev S2x256x1024 : Shape := ⟨3, ![2, 256, 1024]⟩
abbrev S512x4096 : Shape := ⟨2, ![512, 4096]⟩
abbrev S4096x8 : Shape := ⟨2, ![4096, 8]⟩
abbrev S4096x64 : Shape := ⟨2, ![4096, 64]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096 : S_.BroadcastsInDim S4096 (![] : Fin 0 → Fin S4096.rank)
  reducesTo_S4096_S_d0 : S4096.ReducesTo [0] S_
  bcast_S_S4096x512 : S_.BroadcastsInDim S4096x512 (![] : Fin 0 → Fin S4096x512.rank)
  reducesTo_S4096x512_S_d0_1 : S4096x512.ReducesTo [0, 1] S_
  bcast_S_S2x256x1024 : S_.BroadcastsInDim S2x256x1024 (![] : Fin 0 → Fin S2x256x1024.rank)
  reducesTo_S2x256x1024_S_d0_1_2 : S2x256x1024.ReducesTo [0, 1, 2] S_

variable [Facts]

def fn_part1 {F : FTy → Type} [FloatOps F] (main_v13 : IVec S_ 1) (main_v16 : IVec S2x256x1024 1) : IVec S_ 1 :=
  let main_c_5 : IVec S_ 1 := constantI S_ 1 1#1
  let main_v17 : IVec S_ 1 := (fun x v => Host.reduce IntOp.andi x v reducesTo_S2x256x1024_S_d0_1_2 h_S_) main_v16 main_c_5
  let main_v18 : IVec S_ 1 := andi main_v13 main_v17
  main_v18

def fn {F : FTy → Type} [FloatOps F] (main_arg0 : FVec F S16384x4096 .f32) (main_arg1 : FVec F S4096 .f32) (main_arg2 : FVec F S4096x512 .f32) (main_arg3 : FVec F S2x256x1024 .bf16) (main_arg4 : FVec F S512x4096 .f32) (main_arg5 : FVec F S4096 .f32) (main_arg6 : FVec F S4096x8 .f32) (main_arg7 : FVec F S4096x64 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S2x256x1024 .bf16 := Host.absf main_arg3
  let main_cst_4 : FVec F S_ .bf16 := constant S_ .bf16 0x7F80#16
  let main_v15 : FVec F S2x256x1024 .bf16 := broadcastInDim S2x256x1024 ![] bcast_S_S2x256x1024 main_cst_4
  let main_v16 : IVec S2x256x1024 1 := cmpf .olt main_v14 main_v15
  fn_part1 (F := F) main_v13 main_v16
-- ==== Swa.lean ====
abbrev S16384x3072 : Shape := ⟨2, ![16384, 3072]⟩
abbrev S16 : Shape := ⟨1, ![16]⟩
abbrev S32x16 : Shape := ⟨2, ![32, 16]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S128x256x1 : Shape := ⟨3, ![128, 256, 1]⟩
abbrev S128x256x16 : Shape := ⟨3, ![128, 256, 16]⟩
abbrev S16x128x256 : Shape := ⟨3, ![16, 128, 256]⟩
abbrev S1x128x256 : Shape := ⟨3, ![1, 128, 256]⟩
abbrev S4x512x256 : Shape := ⟨3, ![4, 512, 256]⟩
abbrev S16384x2048 : Shape := ⟨2, ![16384, 2048]⟩
abbrev S128x2048 : Shape := ⟨2, ![128, 2048]⟩
abbrev S128x512 : Shape := ⟨2, ![128, 512]⟩
abbrev S256x512 : Shape := ⟨2, ![256, 512]⟩
abbrev S128x128 : Shape := ⟨2, ![128, 128]⟩
abbrev S512x128 : Shape := ⟨2, ![512, 128]⟩
abbrev S256x128 : Shape := ⟨2, ![256, 128]⟩
abbrev S512x256 : Shape := ⟨2, ![512, 256]⟩
abbrev S1x512x256 : Shape := ⟨3, ![1, 512, 256]⟩
abbrev S1 : Shape := ⟨1, ![1]⟩
abbrev S512x1 : Shape := ⟨2, ![512, 1]⟩
abbrev S512 : Shape := ⟨1, ![512]⟩

abbrev nBuf : Space → Nat
  | .hbm => 66
  | .vmem => 13
  | .smem => 1
  | _ => 0

abbrev bufTy : (tb : Table) → Fin (tcTables nBuf tb) → BufTy
  | .hbm, ⟨0, _⟩ => ⟨S16384x3072, .bf16⟩
  | .hbm, ⟨1, _⟩ => ⟨S16, .f32⟩
  | .hbm, ⟨2, _⟩ => ⟨S32x16, .f32⟩
  | .hbm, ⟨3, _⟩ => ⟨S128, .i32⟩
  | .hbm, ⟨4, _⟩ => ⟨S128x1, .i32⟩
  | .hbm, ⟨5, _⟩ => ⟨S256, .i32⟩
  | .hbm, ⟨6, _⟩ => ⟨S1x256, .i32⟩
  | .hbm, ⟨7, _⟩ => ⟨S_, .i32⟩
  | .hbm, ⟨8, _⟩ => ⟨S128x1, .i32⟩
  | .hbm, ⟨9, _⟩ => ⟨S128x1, .i32⟩
  | .hbm, ⟨10, _⟩ => ⟨S128x256, .i32⟩
  | .hbm, ⟨11, _⟩ => ⟨S128x256, .i32⟩
  | .hbm, ⟨12, _⟩ => ⟨S128x256, .i32⟩
  | .hbm, ⟨13, _⟩ => ⟨S_, .i32⟩
  | .hbm, ⟨14, _⟩ => ⟨S128x256, .i32⟩
  | .hbm, ⟨15, _⟩ => ⟨S128x256, .i32⟩
  | .hbm, ⟨16, _⟩ => ⟨S_, .i32⟩
  | .hbm, ⟨17, _⟩ => ⟨S128x256, .i32⟩
  | .hbm, ⟨18, _⟩ => ⟨S128x256, .i32⟩
  | .hbm, ⟨19, _⟩ => ⟨S128x256, .f32⟩
  | .hbm, ⟨20, _⟩ => ⟨S_, .f32⟩
  | .hbm, ⟨21, _⟩ => ⟨S128x256, .f32⟩
  | .hbm, ⟨22, _⟩ => ⟨S128x256, .f32⟩
  | .hbm, ⟨23, _⟩ => ⟨S128x256, .f32⟩
  | .hbm, ⟨24, _⟩ => ⟨S_, .f32⟩
  | .hbm, ⟨25, _⟩ => ⟨S128x256, .f32⟩
  | .hbm, ⟨26, _⟩ => ⟨S128x256, .f32⟩
  | .hbm, ⟨27, _⟩ => ⟨S_, .f32⟩
  | .hbm, ⟨28, _⟩ => ⟨S128x256, .f32⟩
  | .hbm, ⟨29, _⟩ => ⟨S128x256, .f32⟩
  | .hbm, ⟨30, _⟩ => ⟨S128x256, .i32⟩
  | .hbm, ⟨31, _⟩ => ⟨S_, .i32⟩
  | .hbm, ⟨32, _⟩ => ⟨S128x256, .i32⟩
  | .hbm, ⟨33, _⟩ => ⟨S128x256, .i32⟩
  | .hbm, ⟨34, _⟩ => ⟨S_, .i32⟩
  | .hbm, ⟨35, _⟩ => ⟨S128x256, .i32⟩
  | .hbm, ⟨36, _⟩ => ⟨S128x256, .i32⟩
  | .hbm, ⟨37, _⟩ => ⟨S_, .i32⟩
  | .hbm, ⟨38, _⟩ => ⟨S128x256, .i32⟩
  | .hbm, ⟨39, _⟩ => ⟨S128x256, .i1⟩
  | .hbm, ⟨40, _⟩ => ⟨S128x256, .i32⟩
  | .hbm, ⟨41, _⟩ => ⟨S_, .i32⟩
  | .hbm, ⟨42, _⟩ => ⟨S128x256, .i32⟩
  | .hbm, ⟨43, _⟩ => ⟨S128x256, .i1⟩
  | .hbm, ⟨44, _⟩ => ⟨S_, .i32⟩
  | .hbm, ⟨45, _⟩ => ⟨S128x256, .i32⟩
  | .hbm, ⟨46, _⟩ => ⟨S128x256, .i32⟩
  | .hbm, ⟨47, _⟩ => ⟨S128x256, .i32⟩
  | .hbm, ⟨48, _⟩ => ⟨S128x256x1, .i32⟩
  | .hbm, ⟨49, _⟩ => ⟨S128x256x16, .f32⟩
  | .hbm, ⟨50, _⟩ => ⟨S16x128x256, .f32⟩
  | .hbm, ⟨51, _⟩ => ⟨S_, .i32⟩
  | .hbm, ⟨52, _⟩ => ⟨S128x256, .i32⟩
  | .hbm, ⟨53, _⟩ => ⟨S128x256, .i1⟩
  | .hbm, ⟨54, _⟩ => ⟨S_, .i32⟩
  | .hbm, ⟨55, _⟩ => ⟨S128x256, .i32⟩
  | .hbm, ⟨56, _⟩ => ⟨S128x256, .i1⟩
  | .hbm, ⟨57, _⟩ => ⟨S128x256, .i1⟩
  | .hbm, ⟨58, _⟩ => ⟨S1x128x256, .i1⟩
  | .hbm, ⟨59, _⟩ => ⟨S_, .f32⟩
  | .hbm, ⟨60, _⟩ => ⟨S_, .f32⟩
  | .hbm, ⟨61, _⟩ => ⟨S16x128x256, .i1⟩
  | .hbm, ⟨62, _⟩ => ⟨S16x128x256, .f32⟩
  | .hbm, ⟨63, _⟩ => ⟨S16x128x256, .f32⟩
  | .hbm, ⟨64, _⟩ => ⟨S4x512x256, .f32⟩
  | .hbm, ⟨65, _⟩ => ⟨S16384x2048, .bf16⟩
  | .local _ .vmem, ⟨0, _⟩ => ⟨S128x2048, .bf16⟩
  | .local _ .vmem, ⟨1, _⟩ => ⟨S128x2048, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x512, .bf16⟩
  | .local _ .vmem, ⟨7, _⟩ => ⟨S128x512, .bf16⟩
  | .local _ .vmem, ⟨8, _⟩ => ⟨S128x512, .bf16⟩
  | .local _ .vmem, ⟨9, _⟩ => ⟨S128x512, .bf16⟩
  | .local _ .vmem, ⟨10, _⟩ => ⟨S4x512x256, .f32⟩
  | .local _ .vmem, ⟨11, _⟩ => ⟨S128x2048, .bf16⟩
  | .local _ .vmem, ⟨12, _⟩ => ⟨S128x2048, .bf16⟩
  | .local _ .smem, ⟨0, _⟩ => ⟨S16, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_4 : Ref sig .tc := ⟨.hbm, 31, rfl⟩
abbrev main_v22 : Ref sig .tc := ⟨.hbm, 32, rfl⟩
abbrev main_v23 : Ref sig .tc := ⟨.hbm, 33, rfl⟩
abbrev main_c_5 : Ref sig .tc := ⟨.hbm, 34, rfl⟩
abbrev main_v24 : Ref sig .tc := ⟨.hbm, 35, rfl⟩
abbrev main_v25 : Ref sig .tc := ⟨.hbm, 36, rfl⟩
abbrev main_c_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_7 : Ref sig .tc := ⟨.hbm, 41, rfl⟩
abbrev main_v29 : Ref sig .tc := ⟨.hbm, 42, rfl⟩
abbrev main_v30 : Ref sig .tc := ⟨.hbm, 43, rfl⟩
abbrev main_c_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_9 : Ref sig .tc := ⟨.hbm, 51, rfl⟩
abbrev main_v37 : Ref sig .tc := ⟨.hbm, 52, rfl⟩
abbrev main_v38 : Ref sig .tc := ⟨.hbm, 53, rfl⟩
abbrev main_c_10 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_11 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 64], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c4_i32 : BitVec 32 := 4#32
  let c0_i32_0 : BitVec 32 := 0#32
  ![v3.toNat, c4_i32.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c4_i32 : BitVec 32 := 4#32
  let c0_i32 : BitVec 32 := 0#32
  ![v1.toNat, c4_i32.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c5_i32 : BitVec 32 := 5#32
  let c0_i32_0 : BitVec 32 := 0#32
  ![v3.toNat, c5_i32.toNat]

def cc0_transform_5 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c5_i32 : BitVec 32 := 5#32
  let c0_i32 : BitVec 32 := 0#32
  ![v1.toNat, c5_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S4x512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== SwaRefIdeal.lean ====
abbrev S16384x3072 : Shape := ⟨2, ![16384, 3072]⟩
abbrev S16 : Shape := ⟨1, ![16]⟩
abbrev S32x16 : Shape := ⟨2, ![32, 16]⟩
abbrev S16384x2048 : Shape := ⟨2, ![16384, 2048]⟩
abbrev S2x64x128x4x4x128 : Shape := ⟨6, ![2, 64, 128, 4, 4, 128]⟩
abbrev S16384x512 : Shape := ⟨2, ![16384, 512]⟩
abbrev S2x64x128x4x128 : Shape := ⟨5, ![2, 64, 128, 4, 128]⟩
abbrev S2x63x128x4x128 : Shape := ⟨5, ![2, 63, 128, 4, 128]⟩
abbrev S_ : Shape := ⟨0, ![]⟩
abbrev S2x64x256x4x128 : Shape := ⟨5, ![2, 64, 256, 4, 128]⟩
abbrev S2x64x4x256x128x4 : Shape := ⟨6, ![2, 64, 4, 256, 128, 4]⟩
abbrev S2x64x4x4x128x256 : Shape := ⟨6, ![2, 64, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x256x1 : Shape := ⟨3, ![128, 256, 1]⟩
abbrev S128x256x16 : Shape := ⟨3, ![128, 256, 16]⟩
abbrev S16x128x256 : Shape := ⟨3, ![16, 128, 256]⟩
abbrev S4x4x128x256 : Shape := ⟨4, ![4, 4, 128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S1x64x1x1x128x256 : Shape := ⟨6, ![1, 64, 1, 1, 128, 256]⟩
abbrev S1x1x4x4x128x256 : Shape := ⟨6, ![1, 1, 4, 4, 128, 256]⟩
abbrev S4x4x1x1 : Shape := ⟨4, ![4, 4, 1, 1]⟩
abbrev S2x64x4x4x128x1 : Shape := ⟨6, ![2, 64, 4, 4, 128, 1]⟩
abbrev S2x64x4x4x128x257 : Shape := ⟨6, ![2, 64, 4, 4, 128, 257]⟩
abbrev S2x64x4x4x128 : Shape := ⟨5, ![2, 64, 4, 4, 128]⟩
abbrev S2x64x4x128x4x128 : Shape := ⟨6, ![2, 64, 4, 128, 4, 128]⟩

abbrev nBuf : Space → Nat
  | .hbm => 131
  | .vmem => 0
  | .smem => 0
  | _ => 0

abbrev hbmTy0_0 (i : Nat) : BufTy := match i % 128 with
  | 0 => ⟨S16384x3072, .bf16⟩
  | 1 => ⟨S16, .f32⟩
  | 2 => ⟨S32x16, .f32⟩
  | 3 => ⟨S16384x3072, .f32⟩
  | 4 => ⟨S16384x2048, .f32⟩
  | 5 => ⟨S2x64x128x4x4x128, .f32⟩
  | 6 => ⟨S16384x512, .f32⟩
  | 7 => ⟨S2x64x128x4x128, .f32⟩
  | 8 => ⟨S16384x512, .f32⟩
  | 9 => ⟨S2x64x128x4x128, .f32⟩
  | 10 => ⟨S2x63x128x4x128, .f32⟩
  | 11 => ⟨S_, .i32⟩
  | 12 => ⟨S_, .f32⟩
  | 13 => ⟨S2x64x128x4x128, .f32⟩
  | 14 => ⟨S2x64x256x4x128, .f32⟩
  | 15 => ⟨S2x63x128x4x128, .f32⟩
  | 16 => ⟨S_, .i32⟩
  | 17 => ⟨S_, .f32⟩
  | 18 => ⟨S2x64x128x4x128, .f32⟩
  | 19 => ⟨S2x64x256x4x128, .f32⟩
  | 20 => ⟨S2x64x4x256x128x4, .f32⟩
  | 21 => ⟨S2x64x4x4x128x256, .f32⟩
  | 22 => ⟨S_, .f32⟩
  | 23 => ⟨S2x64x4x4x128x256, .f32⟩
  | 24 => ⟨S2x64x4x4x128x256, .f32⟩
  | 25 => ⟨S128, .i32⟩
  | 26 => ⟨S128x1, .i32⟩
  | 27 => ⟨S256, .i32⟩
  | 28 => ⟨S1x256, .i32⟩
  | 29 => ⟨S_, .i32⟩
  | 30 => ⟨S128x1, .i32⟩
  | 31 => ⟨S128x1, .i32⟩
  | 32 => ⟨S128x256, .i32⟩
  | 33 => ⟨S128x256, .i32⟩
  | 34 => ⟨S128x256, .i32⟩
  | 35 => ⟨S_, .i32⟩
  | 36 => ⟨S128x256, .i32⟩
  | 37 => ⟨S128x256, .i32⟩
  | 38 => ⟨S_, .i32⟩
  | 39 => ⟨S128x256, .i32⟩
  | 40 => ⟨S128x256, .i32⟩
  | 41 => ⟨S128x256, .f32⟩
  | 42 => ⟨S_, .f32⟩
  | 43 => ⟨S128x256, .f32⟩
  | 44 => ⟨S128x256, .f32⟩
  | 45 => ⟨S128x256, .f32⟩
  | 46 => ⟨S_, .f32⟩
  | 47 => ⟨S128x256, .f32⟩
  | 48 => ⟨S128x256, .f32⟩
  | 49 => ⟨S_, .f32⟩
  | 50 => ⟨S128x256, .f32⟩
  | 51 => ⟨S128x256, .f32⟩
  | 52 => ⟨S128x256, .i32⟩
  | 53 => ⟨S_, .i32⟩
  | 54 => ⟨S128x256, .i32⟩
  | 55 => ⟨S128x256, .i32⟩
  | 56 => ⟨S_, .i32⟩
  | 57 => ⟨S128x256, .i32⟩
  | 58 => ⟨S128x256, .i32⟩
  | 59 => ⟨S_, .i32⟩
  | 60 => ⟨S128x256, .i32⟩
  | 61 => ⟨S128x256, .i1⟩
  | 62 => ⟨S128x256, .i32⟩
  | 63 => ⟨S_, .i32⟩
  | 64 => ⟨S128x256, .i32⟩
  | 65 => ⟨S128x256, .i1⟩
  | 66 => ⟨S_, .i32⟩
  | 67 => ⟨S128x256, .i32⟩
  | 68 => ⟨S128x256, .i32⟩
  | 69 => ⟨S128x256, .i32⟩
  | 70 => ⟨S128x256x1, .i32⟩
  | 71 => ⟨S128x256x16, .f32⟩
  | 72 => ⟨S16x128x256, .f32⟩
  | 73 => ⟨S4x4x128x256, .f32⟩
  | 74 => ⟨S64, .i32⟩
  | 75 => ⟨S_, .i32⟩
  | 76 => ⟨S64, .i32⟩
  | 77 => ⟨S64, .i32⟩
  | 78 => ⟨S_, .i32⟩
  | 79 => ⟨S64, .i32⟩
  | 80 => ⟨S64, .i32⟩
  | 81 => ⟨S64x1x1, .i32⟩
  | 82 => ⟨S1x1x256, .i32⟩
  | 83 => ⟨S64x1x256, .i32⟩
  | 84 => ⟨S64x1x256, .i32⟩
  | 85 => ⟨S64x1x256, .i32⟩
  | 86 => ⟨S_, .i32⟩
  | 87 => ⟨S128x256, .i32⟩
  | 88 => ⟨S128x256, .i1⟩
  | 89 => ⟨S_, .i32⟩
  | 90 => ⟨S128x256, .i32⟩
  | 91 => ⟨S128x256, .i1⟩
  | 92 => ⟨S128x256, .i1⟩
  | 93 => ⟨S_, .i32⟩
  | 94 => ⟨S64x1x256, .i32⟩
  | 95 => ⟨S64x1x256, .i1⟩
  | 96 => ⟨S1x128x256, .i1⟩
  | 97 => ⟨S64x128x256, .i1⟩
  | 98 => ⟨S64x128x256, .i1⟩
  | 99 => ⟨S64x128x256, .i1⟩
  | 100 => ⟨S1x64x1x1x128x256, .i1⟩
  | 101 => ⟨S1x1x4x4x128x256, .f32⟩
  | 102 => ⟨S2x64x4x4x128x256, .f32⟩
  | 103 => ⟨S2x64x4x4x128x256, .f32⟩
  | 104 => ⟨S_, .f32⟩
  | 105 => ⟨S_, .f32⟩
  | 106 => ⟨S2x64x4x4x128x256, .i1⟩
  | 107 => ⟨S2x64x4x4x128x256, .f32⟩
  | 108 => ⟨S2x64x4x4x128x256, .f32⟩
  | 109 => ⟨S4x4x1x1, .f32⟩
  | 110 => ⟨S2x64x4x4x128x1, .f32⟩
  | 111 => ⟨S2x64x4x4x128x257, .f32⟩
  | 112 => ⟨S_, .f32⟩
  | 113 => ⟨S2x64x4x4x128, .f32⟩
  | 114 => ⟨S_, .f32⟩
  | 115 => ⟨S2x64x4x4x128, .f32⟩
  | 116 => ⟨S2x64x4x4x128, .f32⟩
  | 117 => ⟨S2x64x4x4x128x1, .f32⟩
  | 118 => ⟨S2x64x4x4x128x257, .f32⟩
  | 119 => ⟨S2x64x4x4x128x257, .f32⟩
  | 120 => ⟨S2x64x4x4x128x257, .f32⟩
  | 121 => ⟨S_, .f32⟩
  | 122 => ⟨S2x64x4x4x128, .f32⟩
  | 123 => ⟨S2x64x4x4x128x1, .f32⟩
  | 124 => ⟨S2x64x4x4x128x257, .f32⟩
  | 125 => ⟨S2x64x4x4x128x257, .f32⟩
  | 126 => ⟨S2x64x4x4x128x256, .f32⟩
  | 127 => ⟨S2x64x4x128x4x128, .f32⟩
  | _ => ⟨S16384x3072, .bf16⟩

abbrev hbmTy0_1 (i : Nat) : BufTy := match i % 128 with
  | 0 => ⟨S2x64x128x4x4x128, .f32⟩
  | 1 => ⟨S16384x2048, .f32⟩
  | 2 => ⟨S16384x2048, .bf16⟩
  | _ => ⟨S16384x3072, .bf16⟩

abbrev hbmTy (i : Nat) : BufTy := match i / 128 with
  | 0 => hbmTy0_0 i
  | 1 => hbmTy0_1 i
  | _ => ⟨S16384x3072, .bf16⟩

abbrev bufTy : (tb : Table) → Fin (tcTables nBuf tb) → BufTy
  | .hbm, ⟨i, _⟩ => hbmTy i
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_call1_v0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_2 : Ref sig .tc := ⟨.hbm, 35, rfl⟩
abbrev main_v26 : Ref sig .tc := ⟨.hbm, 36, rfl⟩
abbrev main_v27 : Ref sig .tc := ⟨.hbm, 37, rfl⟩
abbrev main_c_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_7 : Ref sig .tc := ⟨.hbm, 53, rfl⟩
abbrev main_v39 : Ref sig .tc := ⟨.hbm, 54, rfl⟩
abbrev main_v40 : Ref sig .tc := ⟨.hbm, 55, rfl⟩
abbrev main_c_8 : Ref sig .tc := ⟨.hbm, 56, rfl⟩
abbrev main_v41 : Ref sig .tc := ⟨.hbm, 57, rfl⟩
abbrev main_v42 : Ref sig .tc := ⟨.hbm, 58, rfl⟩
abbrev main_c_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_10 : Ref sig .tc := ⟨.hbm, 63, rfl⟩
abbrev main_v46 : Ref sig .tc := ⟨.hbm, 64, rfl⟩
abbrev main_v47 : Ref sig .tc := ⟨.hbm, 65, rfl⟩
abbrev main_c_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_c_12 : Ref sig .tc := ⟨.hbm, 75, rfl⟩
abbrev main_v56 : Ref sig .tc := ⟨.hbm, 76, rfl⟩
abbrev main_v57 : Ref sig .tc := ⟨.hbm, 77, rfl⟩
abbrev main_c_13 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_c_14 : Ref sig .tc := ⟨.hbm, 86, rfl⟩
abbrev main_v65 : Ref sig .tc := ⟨.hbm, 87, rfl⟩
abbrev main_v66 : Ref sig .tc := ⟨.hbm, 88, rfl⟩
abbrev main_c_15 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_c_16 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_17 : Ref sig .tc := ⟨.hbm, 104, rfl⟩
abbrev main_call3_v0 : Ref sig .tc := ⟨.hbm, 105, rfl⟩
abbrev main_call3_v1 : Ref sig .tc := ⟨.hbm, 106, rfl⟩
abbrev main_call3_v2 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_18 : Ref sig .tc := ⟨.hbm, 112, rfl⟩
abbrev main_v84 : Ref sig .tc := ⟨.hbm, 113, rfl⟩
abbrev main_cst_19 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_cst_20 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩

abbrev nD : Nat := 1
abbrev τ : Topo := Topo.v7x

variable {F : FTy → Type} [FloatOps F]
-- ==== Merge.lean ====
abbrev S16384x4096 : Shape := ⟨2, ![16384, 4096]⟩
abbrev S16384x2048 : Shape := ⟨2, ![16384, 2048]⟩
abbrev S4096x12944 : Shape := ⟨2, ![4096, 12944]⟩
abbrev S2048x4096 : Shape := ⟨2, ![2048, 4096]⟩
abbrev S4096x4096 : Shape := ⟨2, ![4096, 4096]⟩
abbrev S512x4096 : Shape := ⟨2, ![512, 4096]⟩
abbrev S512x2048 : Shape := ⟨2, ![512, 2048]⟩
abbrev S4096x512 : Shape := ⟨2, ![4096, 512]⟩
abbrev S2048x512 : Shape := ⟨2, ![2048, 512]⟩
abbrev S512x512 : Shape := ⟨2, ![512, 512]⟩

abbrev nBuf : Space → Nat
  | .hbm => 13
  | .vmem => 16
  | .smem => 0
  | _ => 0

abbrev bufTy : (tb : Table) → Fin (tcTables nBuf tb) → BufTy
  | .hbm, ⟨0, _⟩ => ⟨S16384x4096, .bf16⟩
  | .hbm, ⟨1, _⟩ => ⟨S16384x2048, .bf16⟩
  | .hbm, ⟨2, _⟩ => ⟨S16384x2048, .bf16⟩
  | .hbm, ⟨3, _⟩ => ⟨S4096x12944, .f32⟩
  | .hbm, ⟨4, _⟩ => ⟨S2048x4096, .f32⟩
  | .hbm, ⟨5, _⟩ => ⟨S2048x4096, .f32⟩
  | .hbm, ⟨6, _⟩ => ⟨S4096x4096, .f32⟩
  | .hbm, ⟨7, _⟩ => ⟨S4096x4096, .bf16⟩
  | .hbm, ⟨8, _⟩ => ⟨S4096x4096, .f32⟩
  | .hbm, ⟨9, _⟩ => ⟨S4096x4096, .bf16⟩
  | .hbm, ⟨10, _⟩ => ⟨S2048x4096, .bf16⟩
  | .hbm, ⟨11, _⟩ => ⟨S2048x4096, .bf16⟩
  | .hbm, ⟨12, _⟩ => ⟨S16384x4096, .bf16⟩
  | .local _ .vmem, ⟨0, _⟩ => ⟨S512x4096, .bf16⟩
  | .local _ .vmem, ⟨1, _⟩ => ⟨S512x4096, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S4096x512, .bf16⟩
  | .local _ .vmem, ⟨7, _⟩ => ⟨S4096x512, .bf16⟩
  | .local _ .vmem, ⟨8, _⟩ => ⟨S4096x512, .bf16⟩
  | .local _ .vmem, ⟨9, _⟩ => ⟨S4096x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S512x512, .bf16⟩
  | .local _ .vmem, ⟨15, _⟩ => ⟨S512x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MergeRefIdeal.lean ====
abbrev S16384x4096 : Shape := ⟨2, ![16384, 4096]⟩
abbrev S16384x2048 : Shape := ⟨2, ![16384, 2048]⟩
abbrev S4096x12944 : Shape := ⟨2, ![4096, 12944]⟩
abbrev S2048x4096 : Shape := ⟨2, ![2048, 4096]⟩
abbrev S16384x12944 : Shape := ⟨2, ![16384, 12944]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x2048, .bf16⟩
  | .hbm, ⟨2, _⟩ => ⟨S16384x2048, .bf16⟩
  | .hbm, ⟨3, _⟩ => ⟨S4096x12944, .f32⟩
  | .hbm, ⟨4, _⟩ => ⟨S2048x4096, .f32⟩
  | .hbm, ⟨5, _⟩ => ⟨S2048x4096, .f32⟩
  | .hbm, ⟨6, _⟩ => ⟨S16384x4096, .f32⟩
  | .hbm, ⟨7, _⟩ => ⟨S16384x12944, .f32⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S16384x4096, .f32⟩
  | .hbm, ⟨12, _⟩ => ⟨S_, .f32⟩
  | .hbm, ⟨13, _⟩ => ⟨S16384x4096, .f32⟩
  | .hbm, ⟨14, _⟩ => ⟨S16384x4096, .f32⟩
  | .hbm, ⟨15, _⟩ => ⟨S_, .f32⟩
  | .hbm, ⟨16, _⟩ => ⟨S16384x4096, .f32⟩
  | .hbm, ⟨17, _⟩ => ⟨S16384x4096, .f32⟩
  | .hbm, ⟨18, _⟩ => ⟨S16384x2048, .f32⟩
  | .hbm, ⟨19, _⟩ => ⟨S16384x4096, .f32⟩
  | .hbm, ⟨20, _⟩ => ⟨S16384x4096, .f32⟩
  | .hbm, ⟨21, _⟩ => ⟨S16384x4096, .f32⟩
  | .hbm, ⟨22, _⟩ => ⟨S16384x4096, .f32⟩
  | .hbm, ⟨23, _⟩ => ⟨S_, .f32⟩
  | .hbm, ⟨24, _⟩ => ⟨S16384x4096, .f32⟩
  | .hbm, ⟨25, _⟩ => ⟨S16384x4096, .f32⟩
  | .hbm, ⟨26, _⟩ => ⟨S_, .f32⟩
  | .hbm, ⟨27, _⟩ => ⟨S16384x4096, .f32⟩
  | .hbm, ⟨28, _⟩ => ⟨S16384x4096, .f32⟩
  | .hbm, ⟨29, _⟩ => ⟨S16384x2048, .f32⟩
  | .hbm, ⟨30, _⟩ => ⟨S16384x4096, .f32⟩
  | .hbm, ⟨31, _⟩ => ⟨S16384x4096, .f32⟩
  | .hbm, ⟨32, _⟩ => ⟨S16384x4096, .f32⟩
  | .hbm, ⟨33, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== OutProj.lean ====
abbrev S16384x4096 : Shape := ⟨2, ![16384, 4096]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 5
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S16384x4096, .f32⟩
  | .hbm, ⟨3, _⟩ => ⟨S4096x4096, .bf16⟩
  | .hbm, ⟨4, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutProjRefIdeal.lean ====
abbrev S16384x4096 : Shape := ⟨2, ![16384, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S16384x4096, .f32⟩
  | .hbm, ⟨3, _⟩ => ⟨S16384x4096, .f32⟩
  | .hbm, ⟨4, _⟩ => ⟨S16384x4096, .f32⟩
  | .hbm, ⟨5, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== QkvProj.lean ====
abbrev S16384x4096 : Shape := ⟨2, ![16384, 4096]⟩
abbrev S4096x12944 : Shape := ⟨2, ![4096, 12944]⟩
abbrev S4096x3072 : Shape := ⟨2, ![4096, 3072]⟩
abbrev S16384x3072 : Shape := ⟨2, ![16384, 3072]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x12944, .f32⟩
  | .hbm, ⟨2, _⟩ => ⟨S4096x3072, .f32⟩
  | .hbm, ⟨3, _⟩ => ⟨S4096x3072, .bf16⟩
  | .hbm, ⟨4, _⟩ => ⟨S16384x3072, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QkvProjRefIdeal.lean ====
abbrev S16384x4096 : Shape := ⟨2, ![16384, 4096]⟩
abbrev S4096x12944 : Shape := ⟨2, ![4096, 12944]⟩
abbrev S16384x12944 : Shape := ⟨2, ![16384, 12944]⟩
abbrev S16384x3072 : Shape := ⟨2, ![16384, 3072]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x12944, .f32⟩
  | .hbm, ⟨2, _⟩ => ⟨S16384x4096, .f32⟩
  | .hbm, ⟨3, _⟩ => ⟨S16384x12944, .f32⟩
  | .hbm, ⟨4, _⟩ => ⟨S16384x3072, .f32⟩
  | .hbm, ⟨5, _⟩ => ⟨S16384x3072, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== LatentProj.lean ====
abbrev S16384x4096 : Shape := ⟨2, ![16384, 4096]⟩
abbrev S4096x12944 : Shape := ⟨2, ![4096, 12944]⟩
abbrev S4096x1680 : Shape := ⟨2, ![4096, 1680]⟩
abbrev S_ : Shape := ⟨0, ![]⟩
abbrev S4096x2048 : Shape := ⟨2, ![4096, 2048]⟩
abbrev S16384x2048 : Shape := ⟨2, ![16384, 2048]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 8
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x12944, .f32⟩
  | .hbm, ⟨2, _⟩ => ⟨S4096x1680, .f32⟩
  | .hbm, ⟨3, _⟩ => ⟨S_, .i32⟩
  | .hbm, ⟨4, _⟩ => ⟨S_, .f32⟩
  | .hbm, ⟨5, _⟩ => ⟨S4096x2048, .f32⟩
  | .hbm, ⟨6, _⟩ => ⟨S4096x2048, .bf16⟩
  | .hbm, ⟨7, _⟩ => ⟨S16384x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== LatentProjRefIdeal.lean ====
abbrev S16384x4096 : Shape := ⟨2, ![16384, 4096]⟩
abbrev S4096x12944 : Shape := ⟨2, ![4096, 12944]⟩
abbrev S16384x12944 : Shape := ⟨2, ![16384, 12944]⟩
abbrev S16384x1680 : Shape := ⟨2, ![16384, 1680]⟩
abbrev S_ : Shape := ⟨0, ![]⟩
abbrev S16384x2048 : Shape := ⟨2, ![16384, 2048]⟩

abbrev nBuf : Space → Nat
  | .hbm => 8
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x12944, .f32⟩
  | .hbm, ⟨2, _⟩ => ⟨S16384x4096, .f32⟩
  | .hbm, ⟨3, _⟩ => ⟨S16384x12944, .f32⟩
  | .hbm, ⟨4, _⟩ => ⟨S16384x1680, .f32⟩
  | .hbm, ⟨5, _⟩ => ⟨S_, .i32⟩
  | .hbm, ⟨6, _⟩ => ⟨S_, .f32⟩
  | .hbm, ⟨7, _⟩ => ⟨S16384x2048, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Heads.lean ====
abbrev S16384x2048 : Shape := ⟨2, ![16384, 2048]⟩
abbrev S1024 : Shape := ⟨1, ![1024]⟩
abbrev S1024x2048 : Shape := ⟨2, ![1024, 2048]⟩
abbrev S1024x4096 : Shape := ⟨2, ![1024, 4096]⟩
abbrev S1x1024 : Shape := ⟨2, ![1, 1024]⟩
abbrev S32x16384x128 : Shape := ⟨3, ![32, 16384, 128]⟩
abbrev S1024x1024 : Shape := ⟨2, ![1024, 1024]⟩
abbrev S1024x512 : Shape := ⟨2, ![1024, 512]⟩
abbrev S4x1024x128 : Shape := ⟨3, ![4, 1024, 128]⟩
abbrev S1024x1 : Shape := ⟨2, ![1024, 1]⟩
abbrev S1024x128 : Shape := ⟨2, ![1024, 128]⟩
abbrev S1x1024x128 : Shape := ⟨3, ![1, 1024, 128]⟩

abbrev nBuf : Space → Nat
  | .hbm => 8
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S1024, .f32⟩
  | .hbm, ⟨2, _⟩ => ⟨S1024x2048, .f32⟩
  | .hbm, ⟨3, _⟩ => ⟨S1024x2048, .f32⟩
  | .hbm, ⟨4, _⟩ => ⟨S1024x4096, .f32⟩
  | .hbm, ⟨5, _⟩ => ⟨S1024x4096, .bf16⟩
  | .hbm, ⟨6, _⟩ => ⟨S1x1024, .f32⟩
  | .hbm, ⟨7, _⟩ => ⟨S32x16384x128, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S4x1024x128, .bf16⟩
  | .local _ .vmem, ⟨6, _⟩ => ⟨S4x1024x128, .bf16⟩
  | .local _ .vmem, ⟨7, _⟩ => ⟨S1024x1024, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== HeadsRefIdeal.lean ====
abbrev S16384x2048 : Shape := ⟨2, ![16384, 2048]⟩
abbrev S1024 : Shape := ⟨1, ![1024]⟩
abbrev S1024x2048 : Shape := ⟨2, ![1024, 2048]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x16x128 : Shape := ⟨3, ![16384, 16, 128]⟩
abbrev S16384x32x128 : Shape := ⟨3, ![16384, 32, 128]⟩
abbrev S32x16384x128 : Shape := ⟨3, ![32, 16384, 128]⟩

abbrev nBuf : Space → Nat
  | .hbm => 28
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1024, .f32⟩
  | .hbm, ⟨2, _⟩ => ⟨S1024x2048, .f32⟩
  | .hbm, ⟨3, _⟩ => ⟨S1024x2048, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x2048, .f32⟩
  | .hbm, ⟨22, _⟩ => ⟨S16384x16x128, .f32⟩
  | .hbm, ⟨23, _⟩ => ⟨S16384x2048, .f32⟩
  | .hbm, ⟨24, _⟩ => ⟨S16384x16x128, .f32⟩
  | .hbm, ⟨25, _⟩ => ⟨S16384x32x128, .f32⟩
  | .hbm, ⟨26, _⟩ => ⟨S32x16384x128, .f32⟩
  | .hbm, ⟨27, _⟩ => ⟨S32x16384x128, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== LatentNorms.lean ====
abbrev S16384x2048 : Shape := ⟨2, ![16384, 2048]⟩
abbrev S512 : Shape := ⟨1, ![512]⟩
abbrev S128 : Shape := ⟨1, ![128]⟩
abbrev S1x512 : Shape := ⟨2, ![1, 512]⟩
abbrev S1x128 : Shape := ⟨2, ![1, 128]⟩
abbrev S2x8192x512 : Shape := ⟨3, ![2, 8192, 512]⟩
abbrev S2x512x8192 : Shape := ⟨3, ![2, 512, 8192]⟩
abbrev S2x8192x128 : Shape := ⟨3, ![2, 8192, 128]⟩
abbrev S512x1024 : Shape := ⟨2, ![512, 1024]⟩
abbrev S1x512x512 : Shape := ⟨3, ![1, 512, 512]⟩
abbrev S1x512x128 : Shape := ⟨3, ![1, 512, 128]⟩
abbrev S512x512 : Shape := ⟨2, ![512, 512]⟩
abbrev S512x1 : Shape := ⟨2, ![512, 1]⟩
abbrev S512x128 : Shape := ⟨2, ![512, 128]⟩

abbrev nBuf : Space → Nat
  | .hbm => 8
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S512, .f32⟩
  | .hbm, ⟨2, _⟩ => ⟨S128, .f32⟩
  | .hbm, ⟨3, _⟩ => ⟨S1x512, .f32⟩
  | .hbm, ⟨4, _⟩ => ⟨S1x128, .f32⟩
  | .hbm, ⟨5, _⟩ => ⟨S2x8192x512, .bf16⟩
  | .hbm, ⟨6, _⟩ => ⟨S2x512x8192, .bf16⟩
  | .hbm, ⟨7, _⟩ => ⟨S2x8192x128, .bf16⟩
  | .local _ .vmem, ⟨0, _⟩ => ⟨S512x1024, .f32⟩
  | .local _ .vmem, ⟨1, _⟩ => ⟨S512x1024, .f32⟩
  | .local _ .vmem, ⟨2, _⟩ => ⟨S1x512, .f32⟩
  | .local _ .vmem, ⟨3, _⟩ => ⟨S1x128, .f32⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x128, .bf16⟩
  | .local _ .vmem, ⟨9, _⟩ => ⟨S1x512x128, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== LatentNormsRefIdeal.lean ====
abbrev S16384x2048 : Shape := ⟨2, ![16384, 2048]⟩
abbrev S512 : Shape := ⟨1, ![512]⟩
abbrev S128 : Shape := ⟨1, ![128]⟩
abbrev S16384x512 : Shape := ⟨2, ![16384, 512]⟩
abbrev S_ : Shape := ⟨0, ![]⟩
abbrev S16384 : Shape := ⟨1, ![16384]⟩
abbrev S16384x1 : Shape := ⟨2, ![16384, 1]⟩
abbrev S1x512 : Shape := ⟨2, ![1, 512]⟩
abbrev S2x8192x512 : Shape := ⟨3, ![2, 8192, 512]⟩
abbrev S16384x128 : Shape := ⟨2, ![16384, 128]⟩
abbrev S1x128 : Shape := ⟨2, ![1, 128]⟩
abbrev S2x8192x128 : Shape := ⟨3, ![2, 8192, 128]⟩
abbrev S2x512x8192 : Shape := ⟨3, ![2, 512, 8192]⟩

abbrev nBuf : Space → Nat
  | .hbm => 42
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S512, .f32⟩
  | .hbm, ⟨2, _⟩ => ⟨S128, .f32⟩
  | .hbm, ⟨3, _⟩ => ⟨S16384x512, .f32⟩
  | .hbm, ⟨4, _⟩ => ⟨S16384x512, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x512, .f32⟩
  | .hbm, ⟨16, _⟩ => ⟨S16384x512, .f32⟩
  | .hbm, ⟨17, _⟩ => ⟨S1x512, .f32⟩
  | .hbm, ⟨18, _⟩ => ⟨S16384x512, .f32⟩
  | .hbm, ⟨19, _⟩ => ⟨S16384x512, .f32⟩
  | .hbm, ⟨20, _⟩ => ⟨S2x8192x512, .f32⟩
  | .hbm, ⟨21, _⟩ => ⟨S2x8192x512, .bf16⟩
  | .hbm, ⟨22, _⟩ => ⟨S16384x128, .f32⟩
  | .hbm, ⟨23, _⟩ => ⟨S16384x128, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x1, .f32⟩
  | .hbm, ⟨34, _⟩ => ⟨S16384x128, .f32⟩
  | .hbm, ⟨35, _⟩ => ⟨S16384x128, .f32⟩
  | .hbm, ⟨36, _⟩ => ⟨S1x128, .f32⟩
  | .hbm, ⟨37, _⟩ => ⟨S16384x128, .f32⟩
  | .hbm, ⟨38, _⟩ => ⟨S16384x128, .f32⟩
  | .hbm, ⟨39, _⟩ => ⟨S2x8192x128, .f32⟩
  | .hbm, ⟨40, _⟩ => ⟨S2x8192x128, .bf16⟩
  | .hbm, ⟨41, _⟩ => ⟨S2x512x8192, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== MixNorm.lean ====
abbrev S16384x4096 : Shape := ⟨2, ![16384, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MixNormRefIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | .hbm, ⟨18, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Combine.lean ====
abbrev S16384x4096 : Shape := ⟨2, ![16384, 4096]⟩
abbrev S2x16384x4096 : Shape := ⟨3, ![2, 16384, 4096]⟩
abbrev S16384x2 : Shape := ⟨2, ![16384, 2]⟩
abbrev S4096 : Shape := ⟨1, ![4096]⟩
abbrev S1x4096 : Shape := ⟨2, ![1, 4096]⟩
abbrev S256x4096 : Shape := ⟨2, ![256, 4096]⟩
abbrev S1x256x4096 : Shape := ⟨3, ![1, 256, 4096]⟩
abbrev S256x2 : Shape := ⟨2, ![256, 2]⟩
abbrev S256x1 : Shape := ⟨2, ![256, 1]⟩
abbrev S256 : Shape := ⟨1, ![256]⟩

abbrev nBuf : Space → Nat
  | .hbm => 6
  | .vmem => 11
  | .smem => 0
  | _ => 0

abbrev bufTy : (tb : Table) → Fin (tcTables nBuf tb) → BufTy
  | .hbm, ⟨0, _⟩ => ⟨S16384x4096, .f32⟩
  | .hbm, ⟨1, _⟩ => ⟨S2x16384x4096, .f32⟩
  | .hbm, ⟨2, _⟩ => ⟨S16384x2, .f32⟩
  | .hbm, ⟨3, _⟩ => ⟨S4096, .f32⟩
  | .hbm, ⟨4, _⟩ => ⟨S1x4096, .f32⟩
  | .hbm, ⟨5, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S1x256x4096, .f32⟩
  | .local _ .vmem, ⟨3, _⟩ => ⟨S1x256x4096, .f32⟩
  | .local _ .vmem, ⟨4, _⟩ => ⟨S1x256x4096, .f32⟩
  | .local _ .vmem, ⟨5, _⟩ => ⟨S1x256x4096, .f32⟩
  | .local _ .vmem, ⟨6, _⟩ => ⟨S256x2, .f32⟩
  | .local _ .vmem, ⟨7, _⟩ => ⟨S256x2, .f32⟩
  | .local _ .vmem, ⟨8, _⟩ => ⟨S1x4096, .f32⟩
  | .local _ .vmem, ⟨9, _⟩ => ⟨S256x4096, .f32⟩
  | .local _ .vmem, ⟨10, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== CombineRefIdeal.lean ====
abbrev S16384x4096 : Shape := ⟨2, ![16384, 4096]⟩
abbrev S2x16384x4096 : Shape := ⟨3, ![2, 16384, 4096]⟩
abbrev S16384x2 : Shape := ⟨2, ![16384, 2]⟩
abbrev S4096 : Shape := ⟨1, ![4096]⟩
abbrev S1x16384x4096 : Shape := ⟨3, ![1, 16384, 4096]⟩
abbrev S16384x1 : Shape := ⟨2, ![16384, 1]⟩
abbrev S_ : Shape := ⟨0, ![]⟩
abbrev S16384 : Shape := ⟨1, ![16384]⟩
abbrev S1x4096 : Shape := ⟨2, ![1, 4096]⟩

abbrev nBuf : Space → Nat
  | .hbm => 32
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S2x16384x4096, .f32⟩
  | .hbm, ⟨2, _⟩ => ⟨S16384x2, .f32⟩
  | .hbm, ⟨3, _⟩ => ⟨S4096, .f32⟩
  | .hbm, ⟨4, _⟩ => ⟨S1x16384x4096, .f32⟩
  | .hbm, ⟨5, _⟩ => ⟨S16384x4096, .f32⟩
  | .hbm, ⟨6, _⟩ => ⟨S16384x1, .f32⟩
  | .hbm, ⟨7, _⟩ => ⟨S16384x4096, .f32⟩
  | .hbm, ⟨8, _⟩ => ⟨S16384x4096, .f32⟩
  | .hbm, ⟨9, _⟩ => ⟨S1x16384x4096, .f32⟩
  | .hbm, ⟨10, _⟩ => ⟨S16384x4096, .f32⟩
  | .hbm, ⟨11, _⟩ => ⟨S16384x1, .f32⟩
  | .hbm, ⟨12, _⟩ => ⟨S16384x4096, .f32⟩
  | .hbm, ⟨13, _⟩ => ⟨S16384x4096, .f32⟩
  | .hbm, ⟨14, _⟩ => ⟨S16384x4096, .f32⟩
  | .hbm, ⟨15, _⟩ => ⟨S16384x4096, .f32⟩
  | .hbm, ⟨16, _⟩ => ⟨S16384x4096, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1, .f32⟩
  | .hbm, ⟨27, _⟩ => ⟨S16384x4096, .f32⟩
  | .hbm, ⟨28, _⟩ => ⟨S16384x4096, .f32⟩
  | .hbm, ⟨29, _⟩ => ⟨S1x4096, .f32⟩
  | .hbm, ⟨30, _⟩ => ⟨S16384x4096, .f32⟩
  | .hbm, ⟨31, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Xattn.lean ====
abbrev S16384x4096 : Shape := ⟨2, ![16384, 4096]⟩
abbrev S4096 : Shape := ⟨1, ![4096]⟩
abbrev S4096x512 : Shape := ⟨2, ![4096, 512]⟩
abbrev S2x256x1024 : Shape := ⟨3, ![2, 256, 1024]⟩
abbrev S512x4096 : Shape := ⟨2, ![512, 4096]⟩
abbrev S4096x8 : Shape := ⟨2, ![4096, 8]⟩
abbrev S4096x64 : Shape := ⟨2, ![4096, 64]⟩
abbrev S4096x72 : Shape := ⟨2, ![4096, 72]⟩
abbrev S_ : Shape := ⟨0, ![]⟩
abbrev S4096x128 : Shape := ⟨2, ![4096, 128]⟩
abbrev S1x4096 : Shape := ⟨2, ![1, 4096]⟩
abbrev S16384x2048 : Shape := ⟨2, ![16384, 2048]⟩
abbrev S16384x128 : Shape := ⟨2, ![16384, 128]⟩
abbrev S256x4096 : Shape := ⟨2, ![256, 4096]⟩
abbrev S1x256x1024 : Shape := ⟨3, ![1, 256, 1024]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩
abbrev S256x512 : Shape := ⟨2, ![256, 512]⟩
abbrev S1x256x128 : Shape := ⟨3, ![1, 256, 128]⟩
abbrev S256x256 : Shape := ⟨2, ![256, 256]⟩

abbrev nBuf : Space → Nat
  | .hbm => 20
  | .vmem => 15
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x512, .f32⟩
  | .hbm, ⟨3, _⟩ => ⟨S2x256x1024, .bf16⟩
  | .hbm, ⟨4, _⟩ => ⟨S512x4096, .f32⟩
  | .hbm, ⟨5, _⟩ => ⟨S4096, .f32⟩
  | .hbm, ⟨6, _⟩ => ⟨S4096x8, .f32⟩
  | .hbm, ⟨7, _⟩ => ⟨S4096x64, .f32⟩
  | .hbm, ⟨8, _⟩ => ⟨S4096x72, .f32⟩
  | .hbm, ⟨9, _⟩ => ⟨S_, .i32⟩
  | .hbm, ⟨10, _⟩ => ⟨S_, .f32⟩
  | .hbm, ⟨11, _⟩ => ⟨S4096x128, .f32⟩
  | .hbm, ⟨12, _⟩ => ⟨S4096x128, .bf16⟩
  | .hbm, ⟨13, _⟩ => ⟨S4096x512, .bf16⟩
  | .hbm, ⟨14, _⟩ => ⟨S512x4096, .bf16⟩
  | .hbm, ⟨15, _⟩ => ⟨S1x4096, .f32⟩
  | .hbm, ⟨16, _⟩ => ⟨S1x4096, .f32⟩
  | .hbm, ⟨17, _⟩ => ⟨S16384x4096, .f32⟩
  | .hbm, ⟨18, _⟩ => ⟨S16384x2048, .i32⟩
  | .hbm, ⟨19, _⟩ => ⟨S16384x128, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S4096x512, .bf16⟩
  | .local _ .vmem, ⟨4, _⟩ => ⟨S1x256x1024, .bf16⟩
  | .local _ .vmem, ⟨5, _⟩ => ⟨S1x256x1024, .bf16⟩
  | .local _ .vmem, ⟨6, _⟩ => ⟨S512x4096, .bf16⟩
  | .local _ .vmem, ⟨7, _⟩ => ⟨S1x4096, .f32⟩
  | .local _ .vmem, ⟨8, _⟩ => ⟨S4096x128, .bf16⟩
  | .local _ .vmem, ⟨9, _⟩ => ⟨S256x4096, .f32⟩
  | .local _ .vmem, ⟨10, _⟩ => ⟨S256x4096, .f32⟩
  | .local _ .vmem, ⟨11, _⟩ => ⟨S256x2048, .i32⟩
  | .local _ .vmem, ⟨12, _⟩ => ⟨S256x2048, .i32⟩
  | .local _ .vmem, ⟨13, _⟩ => ⟨S256x128, .f32⟩
  | .local _ .vmem, ⟨14, _⟩ => ⟨S256x128, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== XattnIdeal.lean ====
abbrev S16384x4096 : Shape := ⟨2, ![16384, 4096]⟩
abbrev S4096 : Shape := ⟨1, ![4096]⟩
abbrev S4096x512 : Shape := ⟨2, ![4096, 512]⟩
abbrev S2x256x1024 : Shape := ⟨3, ![2, 256, 1024]⟩
abbrev S512x4096 : Shape := ⟨2, ![512, 4096]⟩
abbrev S4096x8 : Shape := ⟨2, ![4096, 8]⟩
abbrev S4096x64 : Shape := ⟨2, ![4096, 64]⟩
abbrev S4096x72 : Shape := ⟨2, ![4096, 72]⟩
abbrev S_ : Shape := ⟨0, ![]⟩
abbrev S4096x128 : Shape := ⟨2, ![4096, 128]⟩
abbrev S1x4096 : Shape := ⟨2, ![1, 4096]⟩
abbrev S16384x2x2048 : Shape := ⟨3, ![16384, 2, 2048]⟩
abbrev S16384x128 : Shape := ⟨2, ![16384, 128]⟩
abbrev S16384x1x2048 : Shape := ⟨3, ![16384, 1, 2048]⟩
abbrev S16384x2048 : Shape := ⟨2, ![16384, 2048]⟩
abbrev S256x4096 : Shape := ⟨2, ![256, 4096]⟩
abbrev S1x256x1024 : Shape := ⟨3, ![1, 256, 1024]⟩
abbrev S256x2048 : Shape := ⟨2, ![256, 2048]⟩
abbrev S256x2x2048 : Shape := ⟨3, ![256, 2, 2048]⟩
abbrev S256x1x2048 : Shape := ⟨3, ![256, 1, 2048]⟩
abbrev S256x128 : Shape := ⟨2, ![256, 128]⟩
abbrev S256 : Shape := ⟨1, ![256]⟩
abbrev S256x1 : Shape := ⟨2, ![256, 1]⟩
abbrev S256x512 : Shape := ⟨2, ![256, 512]⟩
abbrev S1x256x128 : Shape := ⟨3, ![1, 256, 128]⟩
abbrev S256x256 : Shape := ⟨2, ![256, 256]⟩

abbrev nBuf : Space → Nat
  | .hbm => 20
  | .vmem => 15
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x512, .f32⟩
  | .hbm, ⟨3, _⟩ => ⟨S2x256x1024, .bf16⟩
  | .hbm, ⟨4, _⟩ => ⟨S512x4096, .f32⟩
  | .hbm, ⟨5, _⟩ => ⟨S4096, .f32⟩
  | .hbm, ⟨6, _⟩ => ⟨S4096x8, .f32⟩
  | .hbm, ⟨7, _⟩ => ⟨S4096x64, .f32⟩
  | .hbm, ⟨8, _⟩ => ⟨S4096x72, .f32⟩
  | .hbm, ⟨9, _⟩ => ⟨S_, .i32⟩
  | .hbm, ⟨10, _⟩ => ⟨S_, .f32⟩
  | .hbm, ⟨11, _⟩ => ⟨S4096x128, .f32⟩
  | .hbm, ⟨12, _⟩ => ⟨S4096x128, .bf16⟩
  | .hbm, ⟨13, _⟩ => ⟨S4096x512, .bf16⟩
  | .hbm, ⟨14, _⟩ => ⟨S512x4096, .bf16⟩
  | .hbm, ⟨15, _⟩ => ⟨S1x4096, .f32⟩
  | .hbm, ⟨16, _⟩ => ⟨S1x4096, .f32⟩
  | .hbm, ⟨17, _⟩ => ⟨S16384x4096, .f32⟩
  | .hbm, ⟨18, _⟩ => ⟨S16384x2x2048, .bf16⟩
  | .hbm, ⟨19, _⟩ => ⟨S16384x128, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S4096x512, .bf16⟩
  | .local _ .vmem, ⟨4, _⟩ => ⟨S1x256x1024, .bf16⟩
  | .local _ .vmem, ⟨5, _⟩ => ⟨S1x256x1024, .bf16⟩
  | .local _ .vmem, ⟨6, _⟩ => ⟨S512x4096, .bf16⟩
  | .local _ .vmem, ⟨7, _⟩ => ⟨S1x4096, .f32⟩
  | .local _ .vmem, ⟨8, _⟩ => ⟨S4096x128, .bf16⟩
  | .local _ .vmem, ⟨9, _⟩ => ⟨S256x4096, .f32⟩
  | .local _ .vmem, ⟨10, _⟩ => ⟨S256x4096, .f32⟩
  | .local _ .vmem, ⟨11, _⟩ => ⟨S256x2x2048, .bf16⟩
  | .local _ .vmem, ⟨12, _⟩ => ⟨S256x2x2048, .bf16⟩
  | .local _ .vmem, ⟨13, _⟩ => ⟨S256x128, .f32⟩
  | .local _ .vmem, ⟨14, _⟩ => ⟨S256x128, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== XattnRefIdeal.lean ====
abbrev S16384x4096 : Shape := ⟨2, ![16384, 4096]⟩
abbrev S4096 : Shape := ⟨1, ![4096]⟩
abbrev S4096x512 : Shape := ⟨2, ![4096, 512]⟩
abbrev S2x256x1024 : Shape := ⟨3, ![2, 256, 1024]⟩
abbrev S512x4096 : Shape := ⟨2, ![512, 4096]⟩
abbrev S4096x8 : Shape := ⟨2, ![4096, 8]⟩
abbrev S4096x64 : Shape := ⟨2, ![4096, 64]⟩
abbrev S2x256x512 : Shape := ⟨3, ![2, 256, 512]⟩
abbrev S2x256x4x128 : Shape := ⟨4, ![2, 256, 4, 128]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S16384x512 : Shape := ⟨2, ![16384, 512]⟩
abbrev S2x8192x4x128 : Shape := ⟨4, ![2, 8192, 4, 128]⟩
abbrev S2x4x8192x256 : Shape := ⟨4, ![2, 4, 8192, 256]⟩
abbrev S2x4x8192 : Shape := ⟨3, ![2, 4, 8192]⟩
abbrev S2x4x8192x1 : Shape := ⟨4, ![2, 4, 8192, 1]⟩
abbrev S2x4x128x8192 : Shape := ⟨4, ![2, 4, 128, 8192]⟩
abbrev S16384x8 : Shape := ⟨2, ![16384, 8]⟩
abbrev S16384x64 : Shape := ⟨2, ![16384, 64]⟩
abbrev S16384x72 : Shape := ⟨2, ![16384, 72]⟩
abbrev S16384x128 : Shape := ⟨2, ![16384, 128]⟩

abbrev nBuf : Space → Nat
  | .hbm => 77
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x512, .f32⟩
  | .hbm, ⟨3, _⟩ => ⟨S2x256x1024, .bf16⟩
  | .hbm, ⟨4, _⟩ => ⟨S512x4096, .f32⟩
  | .hbm, ⟨5, _⟩ => ⟨S4096, .f32⟩
  | .hbm, ⟨6, _⟩ => ⟨S4096x8, .f32⟩
  | .hbm, ⟨7, _⟩ => ⟨S4096x64, .f32⟩
  | .hbm, ⟨8, _⟩ => ⟨S2x256x512, .bf16⟩
  | .hbm, ⟨9, _⟩ => ⟨S2x256x512, .f32⟩
  | .hbm, ⟨10, _⟩ => ⟨S2x256x4x128, .f32⟩
  | .hbm, ⟨11, _⟩ => ⟨S2x256x512, .bf16⟩
  | .hbm, ⟨12, _⟩ => ⟨S2x256x512, .f32⟩
  | .hbm, ⟨13, _⟩ => ⟨S2x256x4x128, .f32⟩
  | .hbm, ⟨14, _⟩ => ⟨S16384x4096, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x4096, .f32⟩
  | .hbm, ⟨26, _⟩ => ⟨S16384x4096, .f32⟩
  | .hbm, ⟨27, _⟩ => ⟨S1x4096, .f32⟩
  | .hbm, ⟨28, _⟩ => ⟨S16384x4096, .f32⟩
  | .hbm, ⟨29, _⟩ => ⟨S16384x4096, .f32⟩
  | .hbm, ⟨30, _⟩ => ⟨S16384x512, .f32⟩
  | .hbm, ⟨31, _⟩ => ⟨S2x8192x4x128, .f32⟩
  | .hbm, ⟨32, _⟩ => ⟨S2x4x8192x256, .f32⟩
  | .hbm, ⟨33, _⟩ => ⟨S_, .f32⟩
  | .hbm, ⟨34, _⟩ => ⟨S2x4x8192x256, .f32⟩
  | .hbm, ⟨35, _⟩ => ⟨S2x4x8192x256, .f32⟩
  | .hbm, ⟨36, _⟩ => ⟨S_, .f32⟩
  | .hbm, ⟨37, _⟩ => ⟨S2x4x8192, .f32⟩
  | .hbm, ⟨38, _⟩ => ⟨S_, .f32⟩
  | .hbm, ⟨39, _⟩ => ⟨S2x4x8192, .f32⟩
  | .hbm, ⟨40, _⟩ => ⟨S2x4x8192, .f32⟩
  | .hbm, ⟨41, _⟩ => ⟨S2x4x8192x1, .f32⟩
  | .hbm, ⟨42, _⟩ => ⟨S2x4x8192x256, .f32⟩
  | .hbm, ⟨43, _⟩ => ⟨S2x4x8192x256, .f32⟩
  | .hbm, ⟨44, _⟩ => ⟨S2x4x8192x256, .f32⟩
  | .hbm, ⟨45, _⟩ => ⟨S_, .f32⟩
  | .hbm, ⟨46, _⟩ => ⟨S2x4x8192, .f32⟩
  | .hbm, ⟨47, _⟩ => ⟨S2x4x8192x1, .f32⟩
  | .hbm, ⟨48, _⟩ => ⟨S2x4x8192x256, .f32⟩
  | .hbm, ⟨49, _⟩ => ⟨S2x4x8192x256, .f32⟩
  | .hbm, ⟨50, _⟩ => ⟨S2x4x128x8192, .f32⟩
  | .hbm, ⟨51, _⟩ => ⟨S2x8192x4x128, .f32⟩
  | .hbm, ⟨52, _⟩ => ⟨S16384x512, .f32⟩
  | .hbm, ⟨53, _⟩ => ⟨S16384x4096, .f32⟩
  | .hbm, ⟨54, _⟩ => ⟨S16384x4096, .f32⟩
  | .hbm, ⟨55, _⟩ => ⟨S16384x4096, .f32⟩
  | .hbm, ⟨56, _⟩ => ⟨S_, .f32⟩
  | .hbm, ⟨57, _⟩ => ⟨S16384, .f32⟩
  | .hbm, ⟨58, _⟩ => ⟨S16384x1, .f32⟩
  | .hbm, ⟨59, _⟩ => ⟨S_, .f32⟩
  | .hbm, ⟨60, _⟩ => ⟨S16384x1, .f32⟩
  | .hbm, ⟨61, _⟩ => ⟨S16384x1, .f32⟩
  | .hbm, ⟨62, _⟩ => ⟨S_, .f32⟩
  | .hbm, ⟨63, _⟩ => ⟨S16384x1, .f32⟩
  | .hbm, ⟨64, _⟩ => ⟨S16384x1, .f32⟩
  | .hbm, ⟨65, _⟩ => ⟨S16384x1, .f32⟩
  | .hbm, ⟨66, _⟩ => ⟨S16384x4096, .f32⟩
  | .hbm, ⟨67, _⟩ => ⟨S16384x4096, .f32⟩
  | .hbm, ⟨68, _⟩ => ⟨S1x4096, .f32⟩
  | .hbm, ⟨69, _⟩ => ⟨S16384x4096, .f32⟩
  | .hbm, ⟨70, _⟩ => ⟨S16384x4096, .f32⟩
  | .hbm, ⟨71, _⟩ => ⟨S16384x8, .f32⟩
  | .hbm, ⟨72, _⟩ => ⟨S16384x64, .f32⟩
  | .hbm, ⟨73, _⟩ => ⟨S16384x72, .f32⟩
  | .hbm, ⟨74, _⟩ => ⟨S_, .i32⟩
  | .hbm, ⟨75, _⟩ => ⟨S_, .f32⟩
  | .hbm, ⟨76, _⟩ => ⟨S16384x128, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_c : Ref sig .tc := ⟨.hbm, 74, rfl⟩
abbrev main_call0_v0 : Ref sig .tc := ⟨.hbm, 75, rfl⟩
abbrev main_v56 : Ref sig .tc := ⟨.hbm, 76, rfl⟩

abbrev nD : Nat := 1
abbrev τ : Topo := Topo.v7x

variable {F : FTy → Type} [FloatOps F]
-- ==== MemNorm.lean ====
abbrev S512x4096 : Shape := ⟨2, ![512, 4096]⟩
abbrev S4096 : Shape := ⟨1, ![4096]⟩
abbrev S1x4096 : Shape := ⟨2, ![1, 4096]⟩
abbrev S512 : Shape := ⟨1, ![512]⟩
abbrev S512x1 : Shape := ⟨2, ![512, 1]⟩

abbrev nBuf : Space → Nat
  | .hbm => 4
  | .vmem => 3
  | .smem => 0
  | _ => 0

abbrev bufTy : (tb : Table) → Fin (tcTables nBuf tb) → BufTy
  | .hbm, ⟨0, _⟩ => ⟨S512x4096, .f32⟩
  | .hbm, ⟨1, _⟩ => ⟨S4096, .f32⟩
  | .hbm, ⟨2, _⟩ => ⟨S1x4096, .f32⟩
  | .hbm, ⟨3, _⟩ => ⟨S512x4096, .bf16⟩
  | .local _ .vmem, ⟨0, _⟩ => ⟨S512x4096, .f32⟩
  | .local _ .vmem, ⟨1, _⟩ => ⟨S1x4096, .f32⟩
  | .local _ .vmem, ⟨2, _⟩ => ⟨S512x4096, .bf16⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== MemNormRefIdeal.lean ====
abbrev S512x4096 : Shape := ⟨2, ![512, 4096]⟩
abbrev S4096 : Shape := ⟨1, ![4096]⟩
abbrev S_ : Shape := ⟨0, ![]⟩
abbrev S512 : Shape := ⟨1, ![512]⟩
abbrev S512x1 : Shape := ⟨2, ![512, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S4096, .f32⟩
  | .hbm, ⟨2, _⟩ => ⟨S512x4096, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S_, .f32⟩
  | .hbm, ⟨7, _⟩ => ⟨S512x1, .f32⟩
  | .hbm, ⟨8, _⟩ => ⟨S512x1, .f32⟩
  | .hbm, ⟨9, _⟩ => ⟨S_, .f32⟩
  | .hbm, ⟨10, _⟩ => ⟨S512x1, .f32⟩
  | .hbm, ⟨11, _⟩ => ⟨S512x1, .f32⟩
  | .hbm, ⟨12, _⟩ => ⟨S512x1, .f32⟩
  | .hbm, ⟨13, _⟩ => ⟨S512x4096, .f32⟩
  | .hbm, ⟨14, _⟩ => ⟨S512x4096, .f32⟩
  | .hbm, ⟨15, _⟩ => ⟨S1x4096, .f32⟩
  | .hbm, ⟨16, _⟩ => ⟨S512x4096, .f32⟩
  | .hbm, ⟨17, _⟩ => ⟨S512x4096, .f32⟩
  | .hbm, ⟨18, _⟩ => ⟨S512x4096, .bf16⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== MemKv.lean ====
abbrev S512x4096 : Shape := ⟨2, ![512, 4096]⟩
abbrev S4096x512 : Shape := ⟨2, ![4096, 512]⟩
abbrev S4096x1024 : Shape := ⟨2, ![4096, 1024]⟩
abbrev S512x1024 : Shape := ⟨2, ![512, 1024]⟩
abbrev S512x512 : Shape := ⟨2, ![512, 512]⟩

abbrev nBuf : Space → Nat
  | .hbm => 6
  | .vmem => 5
  | .smem => 0
  | _ => 0

abbrev bufTy : (tb : Table) → Fin (tcTables nBuf tb) → BufTy
  | .hbm, ⟨0, _⟩ => ⟨S512x4096, .bf16⟩
  | .hbm, ⟨1, _⟩ => ⟨S4096x512, .f32⟩
  | .hbm, ⟨2, _⟩ => ⟨S4096x512, .f32⟩
  | .hbm, ⟨3, _⟩ => ⟨S4096x1024, .f32⟩
  | .hbm, ⟨4, _⟩ => ⟨S4096x1024, .bf16⟩
  | .hbm, ⟨5, _⟩ => ⟨S512x1024, .bf16⟩
  | .local _ .vmem, ⟨0, _⟩ => ⟨S512x4096, .bf16⟩
  | .local _ .vmem, ⟨1, _⟩ => ⟨S4096x512, .bf16⟩
  | .local _ .vmem, ⟨2, _⟩ => ⟨S4096x512, .bf16⟩
  | .local _ .vmem, ⟨3, _⟩ => ⟨S512x512, .bf16⟩
  | .local _ .vmem, ⟨4, _⟩ => ⟨S512x512, .bf16⟩
  | _, _ => ⟨S512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MemKvRefIdeal.lean ====
abbrev S512x4096 : Shape := ⟨2, ![512, 4096]⟩
abbrev S4096x512 : Shape := ⟨2, ![4096, 512]⟩
abbrev S512x512 : Shape := ⟨2, ![512, 512]⟩
abbrev S512x1024 : Shape := ⟨2, ![512, 1024]⟩

abbrev nBuf : Space → Nat
  | .hbm => 9
  | .vmem => 0
  | .smem => 0
  | _ => 0

abbrev bufTy : (tb : Table) → Fin (tcTables nBuf tb) → BufTy
  | .hbm, ⟨0, _⟩ => ⟨S512x4096, .bf16⟩
  | .hbm, ⟨1, _⟩ => ⟨S4096x512, .f32⟩
  | .hbm, ⟨2, _⟩ => ⟨S4096x512, .f32⟩
  | .hbm, ⟨3, _⟩ => ⟨S512x4096, .f32⟩
  | .hbm, ⟨4, _⟩ => ⟨S512x512, .f32⟩
  | .hbm, ⟨5, _⟩ => ⟨S512x4096, .f32⟩
  | .hbm, ⟨6, _⟩ => ⟨S512x512, .f32⟩
  | .hbm, ⟨7, _⟩ => ⟨S512x1024, .f32⟩
  | .hbm, ⟨8, _⟩ => ⟨S512x1024, .bf16⟩
  | _, _ => ⟨S512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.SwaSoftmax.lean ====
module

public import Idealize.ShloMosaic.PureOps.Ideal
public import Idealize.ShloMosaic.PureOps.IdealRules
public import Idealize.ShloMosaic.Lib.Pointwise.Tactic
public import Idealize.ShloMosaic.Lib.Pipeline.ValueKit

/-! The softmax over a row of logits and one sink, as the kernel and as the reference compute it, on extended reals. -/

@[expose] public section

noncomputable section

namespace Cert.SwaSoftmax

open Idealize.ShloMosaic

/-- The greatest of the logits and the sink. -/
def top (lg : Fin 256 → EReal) (sk : EReal) : EReal := max (Finset.univ.fold max ⊥ lg) sk

/-- The denominator: the sum of the exponentials of the logits and of the sink. -/
def den (lg : Fin 256 → EReal) (sk : EReal) : EReal :=
  (∑ s, Ideal.exp (lg s - top lg sk)) + Ideal.exp (sk - top lg sk)

/-- The row's weighted sum as the kernel takes it: the exponentials times the denominator's reciprocal. -/
def attend (lg : Fin 256 → EReal) (sk : EReal) (v : Fin 256 → EReal) : EReal :=
  ∑ s, Ideal.exp (lg s - top lg sk) * Ideal.div 1 (den lg sk) * v s

theorem exp_nonneg (x : EReal) : 0 ≤ Ideal.exp x := by
  induction x with
  | bot => exact le_refl _
  | top => exact le_top
  | coe r => exact EReal.coe_nonneg.2 (Real.exp_pos r).le

theorem exp_pos {x : EReal} (h : x ≠ ⊥) : 0 < Ideal.exp x := by
  induction x with
  | bot => exact absurd rfl h
  | top => exact EReal.coe_lt_top 0
  | coe r => exact EReal.coe_pos.2 (Real.exp_pos r)

theorem fold_eq_sup (lg : Fin 256 → EReal) : Finset.univ.fold max ⊥ lg = Finset.univ.sup lg := rfl

theorem top_ne_top {lg : Fin 256 → EReal} {sk : EReal} (h : ∀ s, lg s ≠ ⊤) (hs : sk ≠ ⊤) : top lg sk ≠ ⊤ := by
  unfold top
  rw [fold_eq_sup]
  refine (max_lt ?_ (lt_top_iff_ne_top.2 hs)).ne
  exact (Finset.sup_lt_iff bot_lt_top).2 fun s _ => lt_top_iff_ne_top.2 (h s)

theorem den_ne_zero {lg : Fin 256 → EReal} {sk : EReal} (h : ∀ s, lg s ≠ ⊤) (hs : sk ≠ ⊤) (hb : sk ≠ ⊥) : den lg sk ≠ 0 := by
  have h1 : 0 < Ideal.exp (sk - top lg sk) := exp_pos (by
    have ht := top_ne_top h hs
    rw [sub_eq_add_neg]
    intro e
    rcases EReal.add_eq_bot_iff.1 e with e | e
    · exact hb e
    · exact ht (EReal.neg_eq_bot_iff.1 e))
  have h2 : 0 ≤ ∑ s, Ideal.exp (lg s - top lg sk) := Finset.sum_nonneg fun s _ => exp_nonneg _
  exact (lt_of_lt_of_le h1 (le_add_of_nonneg_left h2)).ne'

theorem div_eq {p d : EReal} (hd : d ≠ 0) : Ideal.div p d = p * Ideal.div 1 d := by
  unfold Ideal.div
  rw [if_neg hd, if_neg hd, one_mul]

/-- The reference's row: the softmax over the 257 entries, the sink the last, without its last entry, times the values. Where a
    logit is minus infinity the values need not agree. -/
theorem attend_eq (lg : Fin 256 → EReal) (sk : EReal) (v v' : Fin 256 → EReal) (L : Fin 257 → EReal)
    (hL : ∀ s : Fin 256, L s.castSucc = lg s) (hl : L (Fin.last 256) = sk) (h : ∀ s, lg s ≠ ⊤) (hs : sk ≠ ⊤) (hb : sk ≠ ⊥)
    (hv : ∀ s, lg s = ⊥ ∨ v s = v' s) :
    attend lg sk v = ∑ s : Fin 256, v' s * Ideal.div (Ideal.exp (L s.castSucc - max ⊥ (Finset.univ.fold max ⊥ L)))
      (0 + ∑ u, Ideal.exp (L u - max ⊥ (Finset.univ.fold max ⊥ L))) := by
  have e1 : max ⊥ (Finset.univ.fold max ⊥ L) = top lg sk := by
    rw [max_eq_right bot_le]
    show Finset.univ.sup L = _
    unfold top
    rw [fold_eq_sup, Fin.univ_castSuccEmb, Finset.sup_cons, Finset.sup_map, hl, max_comm]
    refine congrArg₂ max (Finset.sup_congr rfl fun s _ => hL s) rfl
  have e2 : 0 + ∑ u, Ideal.exp (L u - top lg sk) = den lg sk := by
    rw [zero_add, Fin.sum_univ_castSucc, hl]
    unfold den
    simp only [hL]
  rw [e1, e2]
  unfold attend
  refine Finset.sum_congr rfl fun s _ => ?_
  rw [hL, div_eq (p := Ideal.exp (lg s - top lg sk)) (den_ne_zero h hs hb)]
  rcases hv s with e | e
  · rw [e, EReal.bot_sub, show Ideal.exp ⊥ = 0 from rfl]
    simp
  · rw [e, mul_comm]

/-- One where the key `s` of the band lies at a distance of 0 to 127 before the query `r`. -/
def near (r : Fin 128) (s : Fin 256) : BitVec 1 :=
  IntOp.andi (IntOp.cmpi .sge (IntOp.subi (IntOp.addi (BitVec.ofNat 32 r.val) 128#32) (BitVec.ofNat 32 s.val)) 0#32)
    (IntOp.cmpi .slt (IntOp.subi (IntOp.addi (BitVec.ofNat 32 r.val) 128#32) (BitVec.ofNat 32 s.val)) 128#32)

/-- The reference's test that the key lies in the sequence: all but the first half of block 0's band. -/
theorem key_mask : ∀ (n : Fin 64) (s : Fin 256),
    IntOp.cmpi .sge (IntOp.addi (IntOp.subi (IntOp.muli (BitVec.ofNat 32 n.val) 128#32) 128#32) (BitVec.ofNat 32 s.val)) 0#32
      = if n.val = 0 ∧ s.val < 128 then 0#1 else 1#1 := by
  decide +kernel

/-- The kernel's test for the same keys. -/
theorem first_mask : ∀ (n : Fin 64) (s : Fin 256),
    IntOp.andi (IntOp.cmpi .slt (BitVec.ofNat 32 s.val) 128#32) (Scalar.cmpi .eq (BitVec.ofNat 32 n.val) 0#32)
      = if n.val = 0 ∧ s.val < 128 then 1#1 else 0#1 := by
  decide +kernel

/-- Neither infinity. -/
def IsReal (x : EReal) : Prop := x ≠ ⊤ ∧ x ≠ ⊥

theorem IsReal.coe (r : ℝ) : IsReal (r : EReal) := ⟨EReal.coe_ne_top r, EReal.coe_ne_bot r⟩

theorem IsReal.exists_coe {x : EReal} (h : IsReal x) : ∃ r : ℝ, x = (r : EReal) :=
  ⟨x.toReal, (EReal.coe_toReal h.1 h.2).symm⟩

theorem IsReal.mul {x y : EReal} (hx : IsReal x) (hy : IsReal y) : IsReal (x * y) := by
  obtain ⟨a, rfl⟩ := hx.exists_coe
  obtain ⟨b, rfl⟩ := hy.exists_coe
  rw [← EReal.coe_mul]; exact IsReal.coe _

theorem IsReal.add {x y : EReal} (hx : IsReal x) (hy : IsReal y) : IsReal (x + y) := by
  obtain ⟨a, rfl⟩ := hx.exists_coe
  obtain ⟨b, rfl⟩ := hy.exists_coe
  rw [← EReal.coe_add]; exact IsReal.coe _

theorem IsReal.sum {n : Nat} (f : Fin n → EReal) (h : ∀ i, IsReal (f i)) : IsReal (∑ i, f i) :=
  Finset.sum_induction f IsReal (fun _ _ => IsReal.add) (IsReal.coe 0) fun i _ => h i

/-- The logits' scale is a number. -/
theorem scale_finite : IsReal (Ideal.ofBits FTy.f32 1035273459#32) := by
  simp only [Ideal.ofBits, Ideal.ieee]
  norm_num
  exact IsReal.coe _

/-- A value whose absolute value is below infinity is finite. -/
theorem finite_of_cmp {x y : EReal} (hy : y = ⊤) (h : Ideal.cmp .olt (max x (-x)) y = 1#1) : IsReal x := by
  subst hy
  have hlt : max x (-x) < ⊤ := by
    by_contra hn
    simp [Ideal.cmp, hn] at h
  rw [max_lt_iff] at hlt
  refine ⟨hlt.1.ne, fun hb => ?_⟩
  subst hb
  exact absurd hlt.2 (by simp)

end Cert.SwaSoftmax
-- ==== Proof.SwaKern.lean ====
module

public import proofs.«01_k».proof.Defs
public import proofs.«01_k».proof.Proof.Gen.Swa.Frame
public import proofs.«01_k».proof.Proof.Gen.SwaIdeal.Value
public import proofs.«01_k».proof.Proof.Gen.SwaRefIdeal.Read
public import Idealize.ShloMosaic.Lib.Pipeline.ValueKit
public import Idealize.ShloMosaic.Lib.Pointwise.Tactic
public import Idealize.ShloMosaic.Lib.Pipeline.Value
public import Idealize.ShloMosaic.Lib.Quiescent
public import proofs.«01_k».proof.Proof.SwaSoftmax

@[expose] public section

set_option maxRecDepth 16384

noncomputable section

open Idealize.ShloMosaic Idealize.ShloMosaic.TcCoe Idealize.SL.Sem
open Idealize.ShloMosaic.Pipeline (Dat)

namespace Cert.SwaIdeal.RefValue

open Cert.SwaIdeal Cert.SwaIdeal.Gen Cert.SwaSoftmax

variable (m : (ℓ : Loc nD τ sig) → Buf (Elt Ideal) ℓ) (ρ : Dev nD → PrngReg)

/-- The key or value row: the previous block's rows, then the current one's. -/
def band (kp kc : S128x512.Idx → EReal) (s : Fin 256) (q : Fin 512) : EReal :=
  if h : s.val < 128 then kp (ix2 (⟨s.val, h⟩ : Fin 128) q) else kc (ix2 (⟨s.val - 128, by omega⟩ : Fin 128) q)

/-- One logit of one head's row. -/
def lgK (q : S128x2048.Idx → EReal) (kp kc : S128x512.Idx → EReal) (bs : S4x512x256.Idx → EReal) (np : S1x256.Idx → EReal)
    (h : Fin 16) (r : Fin 128) (s : Fin 256) : EReal :=
  (∑ d : Fin 128, q (ix2 r (⟨128 * h.val + d.val, by omega⟩ : Fin 2048)) * band kp kc s ⟨128 * (h.val / 4) + d.val, by omega⟩)
    * Ideal.ofBits FTy.f32 1035273459#32 + bs (ix3 (⟨h.val / 4, by omega⟩ : Fin 4) (⟨128 * (h.val % 4) + r.val, by omega⟩ : Fin 512) s)
    + np (ix2 (0 : Fin 1) s)

/-- One element of the block the kernel leaves. -/
def rowK (q : S128x2048.Idx → EReal) (kp kc vp vc : S128x512.Idx → EReal) (bs : S4x512x256.Idx → EReal) (np : S1x256.Idx → EReal)
    (sk : S16.Idx → EReal) (h : Fin 16) (r d : Fin 128) : EReal :=
  attend (lgK q kp kc bs np h r) (sk (ix1 h)) fun s => band vp vc s ⟨128 * (h.val / 4) + d.val, by omega⟩

/-- One group's stacked logits. -/
def logits (qs : FVec Ideal S512x128 .bf16) (k : FVec Ideal S256x128 .bf16) (b : Vec Ideal S1x512x256 .f32) (np : FVec Ideal S1x256 .f32) :
    FVec Ideal S512x256 .f32 :=
  addf (addf (mulf (matmul dot_S512x128_S256x128_S512x256_1_1_0_0_n_n none qs k (constant S512x256 .f32 0x00000000#32))
    (broadcast S512x256 (Scalar.ofBits (F := Ideal) .f32 0x3DB504F3#32))) (shapeCast S512x256 b shapeCasts_S1x512x256_S512x256))
    (broadcastTo S512x256 np broadcasts_S1x256_S512x256)

/-- One group's stacked result: the softmax of its logits and sinks on its values. -/
def chain (w : FVec Ideal S256x128 .bf16) (L : FVec Ideal S512x256 .f32) (s0 s1 s2 s3 : Elt Ideal .f32) : FVec Ideal S512x128 .f32 :=
  k0_pay9 w L (k0_pay8 s0) s1 s2 s3

theorem pay7_eq (i : grid0.Coords) (v0 v1 : Vec Ideal S128x512 .bf16) (q0 q1 q2 q3 : Vec Ideal S128x128 .bf16) (b : Vec Ideal S1x512x256 .f32) :
    k0_pay7 i v0 v1 q0 q1 q2 q3 b = logits (k0_pay29 q0 q1 q2 q3)
      (extractStridedSlice S256x128 ![0, 0] (k0_pay3 v0 v1) slices_S256x512_o0_0_S256x128) b (k0_pay5 i) := rfl

theorem pay14_eq (k v : FVec Ideal S256x512 .bf16) (np : FVec Ideal S1x256 .f32) (q0 q1 q2 q3 : Vec Ideal S128x128 .bf16) (b : Vec Ideal S1x512x256 .f32)
    (s0 s1 s2 s3 : Elt Ideal .f32) :
    k0_pay14 k v np q0 q1 q2 q3 b s0 s1 s2 s3 = chain (extractStridedSlice S256x128 ![0, 128] v slices_S256x512_o0_128_S256x128)
      (logits (k0_pay29 q0 q1 q2 q3) (extractStridedSlice S256x128 ![0, 128] k slices_S256x512_o0_128_S256x128) b np) s0 s1 s2 s3 := rfl

theorem pay20_eq (k : FVec Ideal S256x512 .bf16) (np : FVec Ideal S1x256 .f32) (q0 q1 q2 q3 : Vec Ideal S128x128 .bf16) (b : Vec Ideal S1x512x256 .f32) :
    k0_pay20 k np q0 q1 q2 q3 b = logits (k0_pay29 q0 q1 q2 q3) (extractStridedSlice S256x128 ![0, 256] k slices_S256x512_o0_256_S256x128) b np := rfl

theorem pay24_eq (w : FVec Ideal S256x128 .bf16) (L : FVec Ideal S512x256 .f32) (s0 s1 s2 s3 : Elt Ideal .f32) :
    k0_pay24 w L (k0_pay21 s0) (k0_pay22 s1) (k0_pay23 s2) s3 = chain w L s0 s1 s2 s3 := rfl

theorem pay9_eq (w : FVec Ideal S256x128 .bf16) (L : FVec Ideal S512x256 .f32) (s0 s1 s2 s3 : Elt Ideal .f32) :
    k0_pay9 w L (k0_pay8 s0) s1 s2 s3 = chain w L s0 s1 s2 s3 := rfl

theorem pay30_eq (k v : FVec Ideal S256x512 .bf16) (np : FVec Ideal S1x256 .f32) (qs : FVec Ideal S512x128 .bf16) (b : Vec Ideal S1x512x256 .f32)
    (s0 s1 s2 s3 : Elt Ideal .f32) :
    k0_pay30 k v np qs b s0 s1 s2 s3 = chain (extractStridedSlice S256x128 ![0, 384] v slices_S256x512_o0_384_S256x128)
      (logits qs (extractStridedSlice S256x128 ![0, 384] k slices_S256x512_o0_384_S256x128) b np) s0 s1 s2 s3 := rfl

theorem logits_row (qs : FVec Ideal S512x128 .bf16) (k : FVec Ideal S256x128 .bf16) (b : Vec Ideal S1x512x256 .f32) (np : FVec Ideal S1x256 .f32)
    (R : Fin 512) (s : Fin 256) :
    (logits qs k b np (ix2 R s) : EReal) = (∑ d : Fin 128, (qs (ix2 R d) : EReal) * k (ix2 s d)) * Ideal.ofBits FTy.f32 1035273459#32
      + b (ix3 (0 : Fin 1) R s) + np (ix2 (0 : Fin 1) s) := by
  unfold logits
  pointwise [dot_S512x128_S256x128_S512x256_1_1_0_0_n_n]

theorem ofBits_neg_inf : Ideal.ofBits FTy.f32 4286578688#32 = ⊥ := by
  decide +kernel

/-- The piece of a stack of four that a row lies in. -/
theorem pick {α : Type} (a0 a1 a2 a3 : α) (j : Fin 4) (r : Fin 128) (R : Fin 512) (hR : R.val = 128 * j.val + r.val) :
    (if _h : R.val < 128 then a0 else if _h : R.val - 128 < 128 then a1 else if _h : R.val - 128 - 128 < 128 then a2 else a3)
      = (![a0, a1, a2, a3] : Fin 4 → α) j := by
  have hr := r.isLt
  fin_cases j <;> simp only [Fin.val_zero, Fin.val_one] at hR
  · rw [dif_pos (by omega)]; rfl
  · rw [dif_neg (by omega), dif_pos (by omega)]; rfl
  · rw [dif_neg (by omega), dif_neg (by omega), dif_pos (by omega)]; rfl
  · rw [dif_neg (by omega), dif_neg (by omega), dif_neg (by omega)]; rfl

theorem pay29_row (q0 q1 q2 q3 : Vec Ideal S128x128 .bf16) (j : Fin 4) (r d : Fin 128) (R : Fin 512) (hR : R.val = 128 * j.val + r.val) :
    k0_pay29 q0 q1 q2 q3 (ix2 R d) = (![q0, q1, q2, q3] : Fin 4 → Vec Ideal S128x128 .bf16) j (ix2 r d) := by
  unfold k0_pay29
  pointwise []
  have hr := r.isLt
  have e : ∀ (n : Nat) (hn : n < 128) (q : Vec Ideal S128x128 .bf16), n = r.val → q (ix2 (⟨n, hn⟩ : Fin 128) d) = q (ix2 r d) :=
    fun n hn q h => by subst h; rfl
  fin_cases j <;> simp only [Fin.val_zero, Fin.val_one] at hR
  · rw [dif_pos (by omega)]; exact e _ _ q0 (by omega)
  · rw [dif_neg (by omega), dif_pos (by omega)]; exact e _ _ q1 (by omega)
  · rw [dif_neg (by omega), dif_neg (by omega), dif_pos (by omega)]; exact e _ _ q2 (by omega)
  · rw [dif_neg (by omega), dif_neg (by omega), dif_neg (by omega)]; exact e _ _ q3 (by omega)

theorem chain_row (w : FVec Ideal S256x128 .bf16) (L : FVec Ideal S512x256 .f32) (s0 s1 s2 s3 : Elt Ideal .f32) (j : Fin 4) (r d : Fin 128) (R : Fin 512)
    (hR : R.val = 128 * j.val + r.val) :
    (chain w L s0 s1 s2 s3 (ix2 R d) : EReal) = attend (fun s => L (ix2 R s)) ((![s0, s1, s2, s3] : Fin 4 → EReal) j) fun s => w (ix2 s d) := by
  unfold chain k0_pay9 k0_pay8
  unfold attend den top
  pointwise [dot_S512x256_S256x128_S512x128_1_0_0_1_n_n]
  rw [pick s0 s1 s2 s3 j r R hR, ofBits_neg_inf]

/-- A group's stacked result at a row is the head's row, given what its operands hold. -/
theorem group_eq (q : S128x2048.Idx → EReal) (kp kc vp vc : S128x512.Idx → EReal) (bs : S4x512x256.Idx → EReal) (np : S1x256.Idx → EReal)
    (sk : S16.Idx → EReal) (g j : Fin 4) (r d : Fin 128) (R : Fin 512) (hR : R.val = 128 * j.val + r.val) (h : Fin 16)
    (hh : h.val = 4 * g.val + j.val) (q0 q1 q2 q3 : S128x128.Idx → EReal) (k w : S256x128.Idx → EReal) (b : S1x512x256.Idx → EReal)
    (s0 s1 s2 s3 : EReal)
    (hq : ∀ d : Fin 128, (![q0, q1, q2, q3] : Fin 4 → S128x128.Idx → EReal) j (ix2 r d) = q (ix2 r (⟨128 * h.val + d.val, by omega⟩ : Fin 2048)))
    (hk : ∀ (s : Fin 256) (d : Fin 128), k (ix2 s d) = band kp kc s ⟨128 * (h.val / 4) + d.val, by omega⟩)
    (hw : ∀ (s : Fin 256) (d : Fin 128), w (ix2 s d) = band vp vc s ⟨128 * (h.val / 4) + d.val, by omega⟩)
    (hb : ∀ s : Fin 256, b (ix3 (0 : Fin 1) R s) = bs (ix3 (⟨h.val / 4, by omega⟩ : Fin 4) (⟨128 * (h.val % 4) + r.val, by omega⟩ : Fin 512) s))
    (hs : (![s0, s1, s2, s3] : Fin 4 → EReal) j = sk (ix1 h)) :
    (chain w (logits (k0_pay29 (F := Ideal) q0 q1 q2 q3) k b np) s0 s1 s2 s3 (ix2 R d) : EReal) = rowK q kp kc vp vc bs np sk h r d := by
  rw [chain_row _ _ _ _ _ _ j r d R hR]
  unfold rowK
  have e1 : (fun s => (logits (k0_pay29 (F := Ideal) q0 q1 q2 q3) k b np (ix2 R s) : EReal)) = lgK q kp kc bs np h r := by
    funext s
    rw [logits_row]
    unfold lgK
    rw [hb]
    refine congrArg (· * _ + _ + _) (Fin.sum_fin_congr fun d => ?_)
    rw [pay29_row q0 q1 q2 q3 j r d R hR, hk]
    exact congrArg (· * _) (hq d)
  have e2 : (fun s => w (ix2 s d)) = fun s => band vp vc s ⟨128 * (h.val / 4) + d.val, by omega⟩ := funext fun s => hw s d
  rw [e1, e2, hs]

set_option maxHeartbeats 4000000 in
theorem out_eq (c : Dev nD) (t : Fin cfg0.N) (y : (S128x2048).Idx) : (outsAt0 m c t y : EReal)
    = rowK (X0_1 m c t) (iblk m c 2 t) (iblk m c 3 t) (iblk m c 4 t) (iblk m c 5 t) (iblk m c 6 t) (k0_pay5 (F := Ideal) (grid0.coords t)) (iblk m c 0 t)
        (⟨(y 1).val / 128, by have h : (y 1).val < 2048 := (y 1).isLt; omega⟩ : Fin 16) (⟨(y 0).val, (y 0).isLt⟩ : Fin 128) (⟨(y 1).val % 128, by omega⟩ : Fin 128) := by
  unfold outsAt0 out0_A_7
  frame_out
  unfold k0_pay1 k0_pay2 k0_pay10 k0_pay11 k0_pay12 k0_pay13 k0_pay15 k0_pay16 k0_pay17 k0_pay18 k0_pay25 k0_pay26 k0_pay27 k0_pay28 k0_pay31 k0_pay32 k0_pay6 k0_pay19
  simp only [pay7_eq, pay9_eq, pay14_eq, pay20_eq, pay24_eq, pay30_eq]
  generalize X0_1 m c t = q
  generalize iblk m c 2 t = kp
  generalize iblk m c 3 t = kc
  generalize iblk m c 4 t = vp
  generalize iblk m c 5 t = vc
  generalize iblk m c 6 t = bs
  generalize iblk m c 0 t = sk
  generalize k0_pay5 (F := Ideal) (grid0.coords t) = np
  canon_tiles x h
  · idx_vars x
    pointwise []
    have e1 : (⟨(y 1).val / 128, by have h : (y 1).val < 2048 := (y 1).isLt; omega⟩ : Fin 16) = ⟨15, by omega⟩ := Fin.ext (by show (y 1).val / 128 = 15; omega)
    have e2 : (⟨(y 1).val % 128, by omega⟩ : Fin 128) = x1 := Fin.ext (by show (y 1).val % 128 = x1.val; omega)
    have e3 : (y 0 : Fin 128) = x0 := Fin.ext h0
    refine Eq.trans ?_ (congr (congr (congrArg (rowK q kp kc vp vc bs np sk) e1) e3) e2).symm
    clear e1 e2 e3
    refine group_eq q kp kc vp vc bs np sk ⟨3, by omega⟩ ⟨3, by omega⟩ x0 x1 _ ?_ ⟨15, by omega⟩ rfl _ _ _ _ _ _ _ _ _ _ _ ?_ ?_ ?_ ?_ ?_
    · first | rfl | (dsimp only; omega)
    · intro d
      change View.ld q (Rect.unit (s := S128x2048) ![0, 1920] ![128, 128] inb_S128x2048_S128x128_0_1920) (ix2 x0 d) = _
      pointwise []
    · intro s d
      unfold k0_pay3 band
      pointwise []
    · intro s d
      unfold k0_pay4 band
      pointwise []
    · intro s
      pointwise []
    · rfl
  · idx_vars x
    pointwise []
    have e1 : (⟨(y 1).val / 128, by have h : (y 1).val < 2048 := (y 1).isLt; omega⟩ : Fin 16) = ⟨14, by omega⟩ := Fin.ext (by show (y 1).val / 128 = 14; omega)
    have e2 : (⟨(y 1).val % 128, by omega⟩ : Fin 128) = x1 := Fin.ext (by show (y 1).val % 128 = x1.val; omega)
    have e3 : (y 0 : Fin 128) = x0 := Fin.ext h0
    refine Eq.trans ?_ (congr (congr (congrArg (rowK q kp kc vp vc bs np sk) e1) e3) e2).symm
    clear e1 e2 e3
    refine group_eq q kp kc vp vc bs np sk ⟨3, by omega⟩ ⟨2, by omega⟩ x0 x1 _ ?_ ⟨14, by omega⟩ rfl _ _ _ _ _ _ _ _ _ _ _ ?_ ?_ ?_ ?_ ?_
    · first | rfl | (dsimp only; omega)
    · intro d
      change View.ld q (Rect.unit (s := S128x2048) ![0, 1792] ![128, 128] inb_S128x2048_S128x128_0_1792) (ix2 x0 d) = _
      pointwise []
    · intro s d
      unfold k0_pay3 band
      pointwise []
    · intro s d
      unfold k0_pay4 band
      pointwise []
    · intro s
      pointwise []
    · rfl
  · idx_vars x
    pointwise []
    have e1 : (⟨(y 1).val / 128, by have h : (y 1).val < 2048 := (y 1).isLt; omega⟩ : Fin 16) = ⟨13, by omega⟩ := Fin.ext (by show (y 1).val / 128 = 13; omega)
    have e2 : (⟨(y 1).val % 128, by omega⟩ : Fin 128) = x1 := Fin.ext (by show (y 1).val % 128 = x1.val; omega)
    have e3 : (y 0 : Fin 128) = x0 := Fin.ext h0
    refine Eq.trans ?_ (congr (congr (congrArg (rowK q kp kc vp vc bs np sk) e1) e3) e2).symm
    clear e1 e2 e3
    refine group_eq q kp kc vp vc bs np sk ⟨3, by omega⟩ ⟨1, by omega⟩ x0 x1 _ ?_ ⟨13, by omega⟩ rfl _ _ _ _ _ _ _ _ _ _ _ ?_ ?_ ?_ ?_ ?_
    · first | rfl | (dsimp only; omega)
    · intro d
      change View.ld q (Rect.unit (s := S128x2048) ![0, 1664] ![128, 128] inb_S128x2048_S128x128_0_1664) (ix2 x0 d) = _
      pointwise []
    · intro s d
      unfold k0_pay3 band
      pointwise []
    · intro s d
      unfold k0_pay4 band
      pointwise []
    · intro s
      pointwise []
    · rfl
  · idx_vars x
    pointwise []
    have e1 : (⟨(y 1).val / 128, by have h : (y 1).val < 2048 := (y 1).isLt; omega⟩ : Fin 16) = ⟨12, by omega⟩ := Fin.ext (by show (y 1).val / 128 = 12; omega)
    have e2 : (⟨(y 1).val % 128, by omega⟩ : Fin 128) = x1 := Fin.ext (by show (y 1).val % 128 = x1.val; omega)
    have e3 : (y 0 : Fin 128) = x0 := Fin.ext h0
    refine Eq.trans ?_ (congr (congr (congrArg (rowK q kp kc vp vc bs np sk) e1) e3) e2).symm
    clear e1 e2 e3
    refine group_eq q kp kc vp vc bs np sk ⟨3, by omega⟩ ⟨0, by omega⟩ x0 x1 _ ?_ ⟨12, by omega⟩ rfl _ _ _ _ _ _ _ _ _ _ _ ?_ ?_ ?_ ?_ ?_
    · first | rfl | (dsimp only; omega)
    · intro d
      change View.ld q (Rect.unit (s := S128x2048) ![0, 1536] ![128, 128] inb_S128x2048_S128x128_0_1536) (ix2 x0 d) = _
      pointwise []
    · intro s d
      unfold k0_pay3 band
      pointwise []
    · intro s d
      unfold k0_pay4 band
      pointwise []
    · intro s
      pointwise []
    · rfl
  · idx_vars x
    pointwise []
    have e1 : (⟨(y 1).val / 128, by have h : (y 1).val < 2048 := (y 1).isLt; omega⟩ : Fin 16) = ⟨11, by omega⟩ := Fin.ext (by show (y 1).val / 128 = 11; omega)
    have e2 : (⟨(y 1).val % 128, by omega⟩ : Fin 128) = x1 := Fin.ext (by show (y 1).val % 128 = x1.val; omega)
    have e3 : (y 0 : Fin 128) = x0 := Fin.ext h0
    refine Eq.trans ?_ (congr (congr (congrArg (rowK q kp kc vp vc bs np sk) e1) e3) e2).symm
    clear e1 e2 e3
    refine group_eq q kp kc vp vc bs np sk ⟨2, by omega⟩ ⟨3, by omega⟩ x0 x1 _ ?_ ⟨11, by omega⟩ rfl _ _ _ _ _ _ _ _ _ _ _ ?_ ?_ ?_ ?_ ?_
    · first | rfl | (dsimp only; omega)
    · intro d
      change View.ld q (Rect.unit (s := S128x2048) ![0, 1408] ![128, 128] inb_S128x2048_S128x128_0_1408) (ix2 x0 d) = _
      pointwise []
    · intro s d
      unfold k0_pay3 band
      pointwise []
    · intro s d
      unfold k0_pay4 band
      pointwise []
    · intro s
      pointwise []
    · rfl
  · idx_vars x
    pointwise []
    have e1 : (⟨(y 1).val / 128, by have h : (y 1).val < 2048 := (y 1).isLt; omega⟩ : Fin 16) = ⟨10, by omega⟩ := Fin.ext (by show (y 1).val / 128 = 10; omega)
    have e2 : (⟨(y 1).val % 128, by omega⟩ : Fin 128) = x1 := Fin.ext (by show (y 1).val % 128 = x1.val; omega)
    have e3 : (y 0 : Fin 128) = x0 := Fin.ext h0
    refine Eq.trans ?_ (congr (congr (congrArg (rowK q kp kc vp vc bs np sk) e1) e3) e2).symm
    clear e1 e2 e3
    refine group_eq q kp kc vp vc bs np sk ⟨2, by omega⟩ ⟨2, by omega⟩ x0 x1 _ ?_ ⟨10, by omega⟩ rfl _ _ _ _ _ _ _ _ _ _ _ ?_ ?_ ?_ ?_ ?_
    · first | rfl | (dsimp only; omega)
    · intro d
      change View.ld q (Rect.unit (s := S128x2048) ![0, 1280] ![128, 128] inb_S128x2048_S128x128_0_1280) (ix2 x0 d) = _
      pointwise []
    · intro s d
      unfold k0_pay3 band
      pointwise []
    · intro s d
      unfold k0_pay4 band
      pointwise []
    · intro s
      pointwise []
    · rfl
  · idx_vars x
    pointwise []
    have e1 : (⟨(y 1).val / 128, by have h : (y 1).val < 2048 := (y 1).isLt; omega⟩ : Fin 16) = ⟨9, by omega⟩ := Fin.ext (by show (y 1).val / 128 = 9; omega)
    have e2 : (⟨(y 1).val % 128, by omega⟩ : Fin 128) = x1 := Fin.ext (by show (y 1).val % 128 = x1.val; omega)
    have e3 : (y 0 : Fin 128) = x0 := Fin.ext h0
    refine Eq.trans ?_ (congr (congr (congrArg (rowK q kp kc vp vc bs np sk) e1) e3) e2).symm
    clear e1 e2 e3
    refine group_eq q kp kc vp vc bs np sk ⟨2, by omega⟩ ⟨1, by omega⟩ x0 x1 _ ?_ ⟨9, by omega⟩ rfl _ _ _ _ _ _ _ _ _ _ _ ?_ ?_ ?_ ?_ ?_
    · first | rfl | (dsimp only; omega)
    · intro d
      change View.ld q (Rect.unit (s := S128x2048) ![0, 1152] ![128, 128] inb_S128x2048_S128x128_0_1152) (ix2 x0 d) = _
      pointwise []
    · intro s d
      unfold k0_pay3 band
      pointwise []
    · intro s d
      unfold k0_pay4 band
      pointwise []
    · intro s
      pointwise []
    · rfl
  · idx_vars x
    pointwise []
    have e1 : (⟨(y 1).val / 128, by have h : (y 1).val < 2048 := (y 1).isLt; omega⟩ : Fin 16) = ⟨8, by omega⟩ := Fin.ext (by show (y 1).val / 128 = 8; omega)
    have e2 : (⟨(y 1).val % 128, by omega⟩ : Fin 128) = x1 := Fin.ext (by show (y 1).val % 128 = x1.val; omega)
    have e3 : (y 0 : Fin 128) = x0 := Fin.ext h0
    refine Eq.trans ?_ (congr (congr (congrArg (rowK q kp kc vp vc bs np sk) e1) e3) e2).symm
    clear e1 e2 e3
    refine group_eq q kp kc vp vc bs np sk ⟨2, by omega⟩ ⟨0, by omega⟩ x0 x1 _ ?_ ⟨8, by omega⟩ rfl _ _ _ _ _ _ _ _ _ _ _ ?_ ?_ ?_ ?_ ?_
    · first | rfl | (dsimp only; omega)
    · intro d
      change View.ld q (Rect.unit (s := S128x2048) ![0, 1024] ![128, 128] inb_S128x2048_S128x128_0_1024) (ix2 x0 d) = _
      pointwise []
    · intro s d
      unfold k0_pay3 band
      pointwise []
    · intro s d
      unfold k0_pay4 band
      pointwise []
    · intro s
      pointwise []
    · rfl
  · idx_vars x
    pointwise []
    have e1 : (⟨(y 1).val / 128, by have h : (y 1).val < 2048 := (y 1).isLt; omega⟩ : Fin 16) = ⟨7, by omega⟩ := Fin.ext (by show (y 1).val / 128 = 7; omega)
    have e2 : (⟨(y 1).val % 128, by omega⟩ : Fin 128) = x1 := Fin.ext (by show (y 1).val % 128 = x1.val; omega)
    have e3 : (y 0 : Fin 128) = x0 := Fin.ext h0
    refine Eq.trans ?_ (congr (congr (congrArg (rowK q kp kc vp vc bs np sk) e1) e3) e2).symm
    clear e1 e2 e3
    refine group_eq q kp kc vp vc bs np sk ⟨1, by omega⟩ ⟨3, by omega⟩ x0 x1 _ ?_ ⟨7, by omega⟩ rfl _ _ _ _ _ _ _ _ _ _ _ ?_ ?_ ?_ ?_ ?_
    · first | rfl | (dsimp only; omega)
    · intro d
      change View.ld q (Rect.unit (s := S128x2048) ![0, 896] ![128, 128] inb_S128x2048_S128x128_0_896) (ix2 x0 d) = _
      pointwise []
    · intro s d
      unfold k0_pay3 band
      pointwise []
    · intro s d
      unfold k0_pay4 band
      pointwise []
    · intro s
      pointwise []
    · rfl
  · idx_vars x
    pointwise []
    have e1 : (⟨(y 1).val / 128, by have h : (y 1).val < 2048 := (y 1).isLt; omega⟩ : Fin 16) = ⟨6, by omega⟩ := Fin.ext (by show (y 1).val / 128 = 6; omega)
    have e2 : (⟨(y 1).val % 128, by omega⟩ : Fin 128) = x1 := Fin.ext (by show (y 1).val % 128 = x1.val; omega)
    have e3 : (y 0 : Fin 128) = x0 := Fin.ext h0
    refine Eq.trans ?_ (congr (congr (congrArg (rowK q kp kc vp vc bs np sk) e1) e3) e2).symm
    clear e1 e2 e3
    refine group_eq q kp kc vp vc bs np sk ⟨1, by omega⟩ ⟨2, by omega⟩ x0 x1 _ ?_ ⟨6, by omega⟩ rfl _ _ _ _ _ _ _ _ _ _ _ ?_ ?_ ?_ ?_ ?_
    · first | rfl | (dsimp only; omega)
    · intro d
      change View.ld q (Rect.unit (s := S128x2048) ![0, 768] ![128, 128] inb_S128x2048_S128x128_0_768) (ix2 x0 d) = _
      pointwise []
    · intro s d
      unfold k0_pay3 band
      pointwise []
    · intro s d
      unfold k0_pay4 band
      pointwise []
    · intro s
      pointwise []
    · rfl
  · idx_vars x
    pointwise []
    have e1 : (⟨(y 1).val / 128, by have h : (y 1).val < 2048 := (y 1).isLt; omega⟩ : Fin 16) = ⟨5, by omega⟩ := Fin.ext (by show (y 1).val / 128 = 5; omega)
    have e2 : (⟨(y 1).val % 128, by omega⟩ : Fin 128) = x1 := Fin.ext (by show (y 1).val % 128 = x1.val; omega)
    have e3 : (y 0 : Fin 128) = x0 := Fin.ext h0
    refine Eq.trans ?_ (congr (congr (congrArg (rowK q kp kc vp vc bs np sk) e1) e3) e2).symm
    clear e1 e2 e3
    refine group_eq q kp kc vp vc bs np sk ⟨1, by omega⟩ ⟨1, by omega⟩ x0 x1 _ ?_ ⟨5, by omega⟩ rfl _ _ _ _ _ _ _ _ _ _ _ ?_ ?_ ?_ ?_ ?_
    · first | rfl | (dsimp only; omega)
    · intro d
      change View.ld q (Rect.unit (s := S128x2048) ![0, 640] ![128, 128] inb_S128x2048_S128x128_0_640) (ix2 x0 d) = _
      pointwise []
    · intro s d
      unfold k0_pay3 band
      pointwise []
    · intro s d
      unfold k0_pay4 band
      pointwise []
    · intro s
      pointwise []
    · rfl
  · idx_vars x
    pointwise []
    have e1 : (⟨(y 1).val / 128, by have h : (y 1).val < 2048 := (y 1).isLt; omega⟩ : Fin 16) = ⟨4, by omega⟩ := Fin.ext (by show (y 1).val / 128 = 4; omega)
    have e2 : (⟨(y 1).val % 128, by omega⟩ : Fin 128) = x1 := Fin.ext (by show (y 1).val % 128 = x1.val; omega)
    have e3 : (y 0 : Fin 128) = x0 := Fin.ext h0
    refine Eq.trans ?_ (congr (congr (congrArg (rowK q kp kc vp vc bs np sk) e1) e3) e2).symm
    clear e1 e2 e3
    refine group_eq q kp kc vp vc bs np sk ⟨1, by omega⟩ ⟨0, by omega⟩ x0 x1 _ ?_ ⟨4, by omega⟩ rfl _ _ _ _ _ _ _ _ _ _ _ ?_ ?_ ?_ ?_ ?_
    · first | rfl | (dsimp only; omega)
    · intro d
      change View.ld q (Rect.unit (s := S128x2048) ![0, 512] ![128, 128] inb_S128x2048_S128x128_0_512) (ix2 x0 d) = _
      pointwise []
    · intro s d
      unfold k0_pay3 band
      pointwise []
    · intro s d
      unfold k0_pay4 band
      pointwise []
    · intro s
      pointwise []
    · rfl
  · idx_vars x
    pointwise []
    have e1 : (⟨(y 1).val / 128, by have h : (y 1).val < 2048 := (y 1).isLt; omega⟩ : Fin 16) = ⟨3, by omega⟩ := Fin.ext (by show (y 1).val / 128 = 3; omega)
    have e2 : (⟨(y 1).val % 128, by omega⟩ : Fin 128) = x1 := Fin.ext (by show (y 1).val % 128 = x1.val; omega)
    have e3 : (y 0 : Fin 128) = x0 := Fin.ext h0
    refine Eq.trans ?_ (congr (congr (congrArg (rowK q kp kc vp vc bs np sk) e1) e3) e2).symm
    clear e1 e2 e3
    refine group_eq q kp kc vp vc bs np sk ⟨0, by omega⟩ ⟨3, by omega⟩ x0 x1 _ ?_ ⟨3, by omega⟩ rfl _ _ _ _ _ _ _ _ _ _ _ ?_ ?_ ?_ ?_ ?_
    · first | rfl | (dsimp only; omega)
    · intro d
      change View.ld q (Rect.unit (s := S128x2048) ![0, 384] ![128, 128] inb_S128x2048_S128x128_0_384) (ix2 x0 d) = _
      pointwise []
    · intro s d
      unfold k0_pay3 band
      pointwise []
    · intro s d
      unfold k0_pay4 band
      pointwise []
    · intro s
      pointwise []
    · rfl
  · idx_vars x
    pointwise []
    have e1 : (⟨(y 1).val / 128, by have h : (y 1).val < 2048 := (y 1).isLt; omega⟩ : Fin 16) = ⟨2, by omega⟩ := Fin.ext (by show (y 1).val / 128 = 2; omega)
    have e2 : (⟨(y 1).val % 128, by omega⟩ : Fin 128) = x1 := Fin.ext (by show (y 1).val % 128 = x1.val; omega)
    have e3 : (y 0 : Fin 128) = x0 := Fin.ext h0
    refine Eq.trans ?_ (congr (congr (congrArg (rowK q kp kc vp vc bs np sk) e1) e3) e2).symm
    clear e1 e2 e3
    refine group_eq q kp kc vp vc bs np sk ⟨0, by omega⟩ ⟨2, by omega⟩ x0 x1 _ ?_ ⟨2, by omega⟩ rfl _ _ _ _ _ _ _ _ _ _ _ ?_ ?_ ?_ ?_ ?_
    · first | rfl | (dsimp only; omega)
    · intro d
      change View.ld q (Rect.unit (s := S128x2048) ![0, 256] ![128, 128] inb_S128x2048_S128x128_0_256) (ix2 x0 d) = _
      pointwise []
    · intro s d
      unfold k0_pay3 band
      pointwise []
    · intro s d
      unfold k0_pay4 band
      pointwise []
    · intro s
      pointwise []
    · rfl
  · idx_vars x
    pointwise []
    have e1 : (⟨(y 1).val / 128, by have h : (y 1).val < 2048 := (y 1).isLt; omega⟩ : Fin 16) = ⟨1, by omega⟩ := Fin.ext (by show (y 1).val / 128 = 1; omega)
    have e2 : (⟨(y 1).val % 128, by omega⟩ : Fin 128) = x1 := Fin.ext (by show (y 1).val % 128 = x1.val; omega)
    have e3 : (y 0 : Fin 128) = x0 := Fin.ext h0
    refine Eq.trans ?_ (congr (congr (congrArg (rowK q kp kc vp vc bs np sk) e1) e3) e2).symm
    clear e1 e2 e3
    refine group_eq q kp kc vp vc bs np sk ⟨0, by omega⟩ ⟨1, by omega⟩ x0 x1 _ ?_ ⟨1, by omega⟩ rfl _ _ _ _ _ _ _ _ _ _ _ ?_ ?_ ?_ ?_ ?_
    · first | rfl | (dsimp only; omega)
    · intro d
      change View.ld q (Rect.unit (s := S128x2048) ![0, 128] ![128, 128] inb_S128x2048_S128x128_0_128) (ix2 x0 d) = _
      pointwise []
    · intro s d
      unfold k0_pay3 band
      pointwise []
    · intro s d
      unfold k0_pay4 band
      pointwise []
    · intro s
      pointwise []
    · rfl
  · idx_vars x
    pointwise []
    have e1 : (⟨(y 1).val / 128, by have h : (y 1).val < 2048 := (y 1).isLt; omega⟩ : Fin 16) = ⟨0, by omega⟩ := Fin.ext (by show (y 1).val / 128 = 0; omega)
    have e2 : (⟨(y 1).val % 128, by omega⟩ : Fin 128) = x1 := Fin.ext (by show (y 1).val % 128 = x1.val; omega)
    have e3 : (y 0 : Fin 128) = x0 := Fin.ext h0
    refine Eq.trans ?_ (congr (congr (congrArg (rowK q kp kc vp vc bs np sk) e1) e3) e2).symm
    clear e1 e2 e3
    refine group_eq q kp kc vp vc bs np sk ⟨0, by omega⟩ ⟨0, by omega⟩ x0 x1 _ ?_ ⟨0, by omega⟩ rfl _ _ _ _ _ _ _ _ _ _ _ ?_ ?_ ?_ ?_ ?_
    · first | rfl | (dsimp only; omega)
    · intro d
      change View.ld q (Rect.unit (s := S128x2048) ![0, 0] ![128, 128] inb_S128x2048_S128x128_0_0) (ix2 x0 d) = _
      pointwise []
    · intro s d
      unfold k0_pay3 band
      pointwise []
    · intro s d
      unfold k0_pay4 band
      pointwise []
    · intro s
      pointwise []
    · rfl

end Cert.SwaIdeal.RefValue
-- ==== Proof.SwaRead.lean ====
module

public import proofs.«01_k».proof.Defs
public import proofs.«01_k».proof.Proof.Gen.SwaRefIdeal.Read
public import proofs.«01_k».proof.Proof.SwaSoftmax
public import Idealize.ShloMosaic.Lib.Pipeline.ValueKit
public import Idealize.ShloMosaic.Lib.Pointwise.Tactic
public import Idealize.ShloMosaic.Lib.Pipeline.Value

/-! The reference's result at an index. -/

@[expose] public section

set_option maxRecDepth 16384

noncomputable section

open Idealize.ShloMosaic

namespace Cert.SwaRead

open Cert.SwaSoftmax

open Cert.SwaRefIdeal Cert.SwaRefIdeal.Read Cert.SwaRefIdeal.Gen

variable (x0 : (⟨S16384x3072, .bf16⟩ : BufTy).Contents (Elt Ideal)) (x1 : (⟨S16, .f32⟩ : BufTy).Contents (Elt Ideal))
  (x2 : (⟨S32x16, .f32⟩ : BufTy).Contents (Elt Ideal))

/-- The maximum over the 257 entries. -/
theorem v84_apply (b : Fin 2) (n : Fin 64) (g j : Fin 4) (r : Fin 128) :
    (val_main_v84 (F := Ideal) x0 x1 x2 (ix5 b n g j r) : EReal)
      = Finset.univ.fold max ⊥ fun s : Fin 257 => (val_main_v83 (F := Ideal) x0 x1 x2 (ix6 b n g j r s) : EReal) := by
  unfold val_main_v84
  generalize val_main_v83 (F := Ideal) x0 x1 x2 = y
  refine (Host.reduce_eq_fold_single (FloatOps.maximumf (F := Ideal) (φ := .f32)) y _ reducesTo_S2x64x4x4x128x257_S2x64x4x4x128_d5 (by decide) h_S_ _).trans ?_
  have e : (val_main_cst_18 (F := Ideal) (Shape.Idx.first h_S_) : EReal) = ⊥ := by
    rw [val_main_cst_18_apply]
    pointwise []
    exact (by decide +kernel : Ideal.ofBits FTy.f32 4286578688#32 = ⊥)
  rw [e]
  refine congrArg (Finset.fold _ _ · _) (funext fun s => congrArg y (funext fun a => Fin.ext ?_))
  rw [Shape.Reduces.lift_val]
  fin_cases a <;> rfl

theorem ofBits_neg_inf : Ideal.ofBits FTy.f32 4286578688#32 = ⊥ := by
  decide +kernel

theorem v90_apply (b : Fin 2) (n : Fin 64) (g j : Fin 4) (r : Fin 128) (s : Fin 257) :
    (val_main_v90 (F := Ideal) x0 x1 x2 (ix6 b n g j r s) : EReal)
      = Ideal.exp (val_main_v83 (F := Ideal) x0 x1 x2 (ix6 b n g j r s) - max ⊥ (Finset.univ.fold max ⊥ fun s : Fin 257 => (val_main_v83 (F := Ideal) x0 x1 x2 (ix6 b n g j r s) : EReal))) := by
  have i1 : idx_main_v88 (ix6 b n g j r s) = ix6 b n g j r 0 := by funext a; fin_cases a <;> rfl
  have i2 : idx_main_v87 (ix6 b n g j r 0) = ix5 b n g j r := by funext a; fin_cases a <;> rfl
  rw [val_main_v90_apply, val_main_v89_apply, val_main_v88_apply, i1, val_main_v87_apply, i2, val_main_v86_apply, val_main_v85_apply, v84_apply]
  rw [val_main_cst_19_apply]
  pointwise [ofBits_neg_inf]

theorem v91_apply (b : Fin 2) (n : Fin 64) (g j : Fin 4) (r : Fin 128) :
    (val_main_v91 (F := Ideal) x0 x1 x2 (ix5 b n g j r) : EReal)
      = 0 + ∑ s : Fin 257, (val_main_v90 (F := Ideal) x0 x1 x2 (ix6 b n g j r s) : EReal) := by
  have i1 : ∀ s, idx_main_v91 (ix5 b n g j r) s = ix6 b n g j r s := fun s => by funext a; fin_cases a <;> rfl
  rw [val_main_v91_apply, val_main_cst_20_apply]
  refine congrArg₂ (· + · : EReal → EReal → EReal) ?_ ?_
  · pointwise []
  · exact Fin.sum_fin_congr fun s => by rw [i1]

theorem v95_apply (b : Fin 2) (n : Fin 64) (g j : Fin 4) (r : Fin 128) (s : Fin 256) :
    (val_main_v95 (F := Ideal) x0 x1 x2 (ix6 b n g j r s) : EReal)
      = Ideal.div (val_main_v90 (F := Ideal) x0 x1 x2 (ix6 b n g j r s.castSucc)) (val_main_v91 (F := Ideal) x0 x1 x2 (ix5 b n g j r)) := by
  have i0 : idx_main_v95 (ix6 b n g j r s) = ix6 b n g j r s.castSucc := by funext a; fin_cases a <;> rfl
  have i1 : idx_main_v93 (ix6 b n g j r s.castSucc) = ix6 b n g j r 0 := by funext a; fin_cases a <;> rfl
  have i2 : idx_main_v92 (ix6 b n g j r 0) = ix5 b n g j r := by funext a; fin_cases a <;> rfl
  rw [val_main_v95_apply, i0, val_main_v94_apply, val_main_v93_apply, i1, val_main_v92_apply, i2]
  rfl

theorem v97_apply (b : Fin 2) (n : Fin 64) (r : Fin 128) (g j : Fin 4) (d : Fin 128) :
    (val_main_v97 (F := Ideal) x0 x1 x2 (ix6 b n r g j d) : EReal)
      = ∑ s : Fin 256, (val_main_v12 (F := Ideal) x0 (ix5 b n s g d) : EReal) * (val_main_v95 (F := Ideal) x0 x1 x2 (ix6 b n g j r s) : EReal) := by
  rw [val_main_v97_apply, val_main_v96_apply]
  refine Fin.sum_fin_congr fun s => ?_
  have i1 : lidx_main_v96 (idx_main_v97 (ix6 b n r g j d)) s = ix5 b n s g d := by funext a; fin_cases a <;> rfl
  have i2 : ridx_main_v96 (idx_main_v97 (ix6 b n r g j d)) s = ix6 b n g j r s := by funext a; fin_cases a <;> rfl
  rw [i1, i2]

theorem v98_apply (R : Fin 16384) (C : Fin 2048) :
    val_main_v98 (F := Ideal) x0 x1 x2 (ix2 R C) = val_main_v97 (F := Ideal) x0 x1 x2
      (ix6 (⟨R.val / 8192, by omega⟩ : Fin 2) (⟨R.val / 128 % 64, by omega⟩ : Fin 64) (⟨R.val % 128, by omega⟩ : Fin 128)
        (⟨C.val / 512, by omega⟩ : Fin 4) (⟨C.val / 128 % 4, by omega⟩ : Fin 4) (⟨C.val % 128, by omega⟩ : Fin 128)) := by
  unfold val_main_v98
  generalize val_main_v97 (F := Ideal) x0 x1 x2 = y
  pointwise []

theorem v83_apply (b : Fin 2) (n : Fin 64) (g j : Fin 4) (r : Fin 128) (s : Fin 257) :
    val_main_v83 (F := Ideal) x0 x1 x2 (ix6 b n g j r s) = if h : s.val < 256 then val_main_v80 (F := Ideal) x0 x2 (ix6 b n g j r ⟨s.val, h⟩)
      else x1 (ix1 (⟨4 * g.val + j.val, by omega⟩ : Fin 16)) := by
  unfold val_main_v83
  have e : ∀ t : Fin 1, val_main_v82 (F := Ideal) x1 (ix6 b n g j r t) = x1 (ix1 (⟨4 * g.val + j.val, by omega⟩ : Fin 16)) := fun t => by
    rw [val_main_v82_apply]
    unfold val_main_v81
    pointwise []
    blk_point []
  pointwise [e]

theorem v13_apply (b : Fin 2) (n : Fin 64) (g j : Fin 4) (r : Fin 128) (s : Fin 256) :
    (val_main_v14 (F := Ideal) x0 (ix6 b n g j r s) : EReal)
      = ∑ d : Fin 128, (val_main_v9 (F := Ideal) x0 (ix5 b n s g d) : EReal) * (val_main_v2 (F := Ideal) x0 (ix6 b n r g j d) : EReal) := by
  rw [val_main_v14_apply, val_main_v13_apply]
  refine Fin.sum_fin_congr fun d => ?_
  have i1 : lidx_main_v13 (idx_main_v14 (ix6 b n g j r s)) d = ix5 b n s g d := by funext a; fin_cases a <;> rfl
  have i2 : ridx_main_v13 (idx_main_v14 (ix6 b n g j r s)) d = ix6 b n r g j d := by funext a; fin_cases a <;> rfl
  rw [i1, i2]

theorem v2_apply (b : Fin 2) (n : Fin 64) (g j : Fin 4) (r : Fin 128) (d : Fin 128) :
    (val_main_v2 (F := Ideal) x0 (ix6 b n r g j d) : EReal)
      = x0 (ix2 (⟨8192 * b.val + 128 * n.val + r.val, by omega⟩ : Fin 16384) (⟨512 * g.val + 128 * j.val + d.val, by omega⟩ : Fin 3072)) := by
  unfold val_main_v2 val_main_v1 val_main_v0
  pointwise []
  blk_point []

theorem v4_apply (b : Fin 2) (n : Fin 64) (g : Fin 4) (r : Fin 128) (d : Fin 128) :
    (val_main_v4 (F := Ideal) x0 (ix5 b n r g d) : EReal)
      = x0 (ix2 (⟨8192 * b.val + 128 * n.val + r.val, by omega⟩ : Fin 16384) (⟨2048 + 128 * g.val + d.val, by omega⟩ : Fin 3072)) := by
  unfold val_main_v4 val_main_v3 val_main_v0
  pointwise []
  blk_point []

theorem v6_apply (b : Fin 2) (n : Fin 64) (g : Fin 4) (r : Fin 128) (d : Fin 128) :
    (val_main_v6 (F := Ideal) x0 (ix5 b n r g d) : EReal)
      = x0 (ix2 (⟨8192 * b.val + 128 * n.val + r.val, by omega⟩ : Fin 16384) (⟨2560 + 128 * g.val + d.val, by omega⟩ : Fin 3072)) := by
  unfold val_main_v6 val_main_v5 val_main_v0
  pointwise []
  blk_point []

theorem sitofp_zero : FloatOps.sitofp (F := Ideal) FTy.f32 (0#32) = (0 : EReal) := by
  show (((0#32).toInt : ℝ) : EReal) = 0
  simp

theorem v12_apply (b : Fin 2) (n : Fin 64) (s : Fin 256) (g : Fin 4) (d : Fin 128) :
    (val_main_v12 (F := Ideal) x0 (ix5 b n s g d) : EReal) = if h : s.val < 128 then
      if h' : 1 ≤ n.val then val_main_v6 (F := Ideal) x0 (ix5 b ⟨n.val - 1, by omega⟩ ⟨s.val, h⟩ g d) else 0
      else val_main_v6 (F := Ideal) x0 (ix5 b n ⟨s.val - 128, by omega⟩ g d) := by
  unfold val_main_v12 val_main_v11 val_main_v10
  have e : val_main_call1_v0 (F := Ideal) (Shape.Idx.first h_S_) = (0 : EReal) := by
    rw [val_main_call1_v0_apply, val_main_c_0_apply]; exact sitofp_zero
  pointwise [e]
  by_cases h : s.val < 128
  · rw [dif_pos h, dif_pos h]
    by_cases h' : 1 ≤ n.val
    · rw [dif_pos h', dif_pos ⟨⟨h', by omega⟩, h⟩]
    · rw [dif_neg h', dif_neg fun q => h' q.1.1]
  · rw [dif_neg h, dif_neg h]

theorem v9_apply (b : Fin 2) (n : Fin 64) (s : Fin 256) (g : Fin 4) (d : Fin 128) :
    (val_main_v9 (F := Ideal) x0 (ix5 b n s g d) : EReal) = if h : s.val < 128 then
      if h' : 1 ≤ n.val then val_main_v4 (F := Ideal) x0 (ix5 b ⟨n.val - 1, by omega⟩ ⟨s.val, h⟩ g d) else 0
      else val_main_v4 (F := Ideal) x0 (ix5 b n ⟨s.val - 128, by omega⟩ g d) := by
  unfold val_main_v9 val_main_v8 val_main_v7
  have e : val_main_call0_v0 (F := Ideal) (Shape.Idx.first h_S_) = (0 : EReal) := by
    rw [val_main_call0_v0_apply, val_main_c_apply]; exact sitofp_zero
  pointwise [e]
  by_cases h : s.val < 128
  · rw [dif_pos h, dif_pos h]
    by_cases h' : 1 ≤ n.val
    · rw [dif_pos h', dif_pos ⟨⟨h', by omega⟩, h⟩]
    · rw [dif_neg h', dif_neg fun q => h' q.1.1]
  · rw [dif_neg h, dif_neg h]

theorem v54_apply (g j : Fin 4) (r : Fin 128) (s : Fin 256) :
    (val_main_v54 (F := Ideal) x2 (ix4 g j r s) : EReal)
      = val_main_v52 (F := Ideal) x2 (ix3 r s (⟨4 * g.val + j.val, by omega⟩ : Fin 16)) := by
  unfold val_main_v54 val_main_v53
  pointwise []
  blk_point []

theorem v80_apply (b : Fin 2) (n : Fin 64) (g j : Fin 4) (r : Fin 128) (s : Fin 256) :
    (val_main_v80 (F := Ideal) x0 x2 (ix6 b n g j r s) : EReal) = if near r s = 1 ∧ ¬(n.val = 0 ∧ s.val < 128)
      then val_main_v14 (F := Ideal) x0 (ix6 b n g j r s) * Ideal.ofBits FTy.f32 1035273459#32
        + val_main_v52 (F := Ideal) x2 (ix3 r s (⟨4 * g.val + j.val, by omega⟩ : Fin 16)) else ⊥ := by
  have i1 : idx_main_v77 (idx_main_v78 (ix6 b n g j r s)) = ix4 g j r s := by
    funext a; fin_cases a <;> rfl
  simp only [val_main_v80_apply, val_main_call3_v2_apply, val_main_call3_v1_apply, val_main_call3_v0_apply, val_main_cst_17_apply, val_main_v79_apply, val_main_v78_apply, val_main_v77_apply, val_main_v76_apply, val_main_v75_apply, val_main_v74_apply, val_main_v73_apply, val_main_v72_apply, val_main_v71_apply, val_main_v70_apply, val_main_c_16_apply, val_main_v69_apply, val_main_v68_apply, val_main_v67_apply, val_main_c_15_apply, val_main_v66_apply, val_main_v65_apply, val_main_c_14_apply, val_main_v64_apply, val_main_v63_apply, val_main_v62_apply, val_main_v61_apply, val_main_v60_apply, val_main_v59_apply, val_main_v58_apply, val_main_c_13_apply, val_main_v57_apply, val_main_v56_apply, val_main_c_12_apply, val_main_v55_apply, val_main_c_11_apply, val_main_c_10_apply, val_main_c_9_apply, val_main_c_8_apply, val_main_c_7_apply, val_main_cst_6_apply, val_main_cst_5_apply, val_main_cst_4_apply, val_main_v30_apply, val_main_v29_apply, val_main_v28_apply, val_main_c_3_apply, val_main_v27_apply, val_main_v26_apply, val_main_c_2_apply, val_main_v25_apply, val_main_v24_apply, val_main_v23_apply, val_main_v22_apply, val_main_v21_apply, val_main_c_1_apply, val_main_v20_apply, val_main_v19_apply, val_main_v18_apply, val_main_v17_apply, val_main_v16_apply, val_main_v15_apply, val_main_cst_apply, val_main_call1_v0_apply, val_main_c_0_apply, val_main_call0_v0_apply, val_main_c_apply]
  pointwise []
  rw [key_mask, i1, v54_apply, ofBits_neg_inf]
  show Scalar.select (IntOp.andi (near r s) _) _ _ = _
  generalize near r s = w
  by_cases h : n.val = 0 ∧ s.val < 128
  · rw [if_pos h, if_neg fun q => q.2 h]
    have : IntOp.andi w 0#1 ≠ 1 := by revert w; decide
    exact if_neg this
  · rw [if_neg h]
    have : IntOp.andi w 1#1 = w := by revert w; decide
    rw [this]
    by_cases hw : w = 1
    · rw [if_pos ⟨hw, h⟩]; exact if_pos hw
    · rw [if_neg fun q => hw q.1]; exact if_neg hw

end Cert.SwaRead
-- ==== Proof.SwaHost.lean ====
module

public import proofs.«01_k».proof.Defs
public import proofs.«01_k».proof.Proof.Gen.Swa.Frame
public import proofs.«01_k».proof.Proof.Gen.SwaIdeal.Value
public import proofs.«01_k».proof.Proof.Gen.SwaRefIdeal.Read
public import Idealize.ShloMosaic.Lib.Pipeline.ValueKit
public import Idealize.ShloMosaic.Lib.Pointwise.Tactic
public import Idealize.ShloMosaic.Lib.Pipeline.Value
public import Idealize.ShloMosaic.Lib.Quiescent
public import proofs.«01_k».proof.Proof.SwaSoftmax
public import proofs.«01_k».proof.Proof.SwaRead

@[expose] public section

set_option maxRecDepth 16384

noncomputable section

open Idealize.ShloMosaic Idealize.ShloMosaic.TcCoe Idealize.SL.Sem
open Idealize.ShloMosaic.Pipeline (Dat)

namespace Cert.SwaIdeal.RefValue

open Cert.SwaIdeal Cert.SwaIdeal.Gen Cert.SwaSoftmax

variable (m : (ℓ : Loc nD τ sig) → Buf (Elt Ideal) ℓ) (ρ : Dev nD → PrngReg)

/-- The bias array the kernel reads: the gathered biases where the distance is in the window, -inf elsewhere. -/
theorem bias_arr (c : Dev nD) : V m c main_v44 = shapeCast S4x512x256
    (select (broadcastInDim S16x128x256 ![0, 1, 2] bcast_S1x128x256_S16x128x256_0_1_2 (broadcastInDim S1x128x256 ![1, 2] bcast_S128x256_S1x128x256_1_2
      (andi (cmpi .sge (Cert.SwaRefIdeal.Read.val_main_v25 (F := Ideal)) (broadcastInDim S128x256 ![] bcast_S_S128x256 (constantI S_ 32 0#32)))
        (cmpi .slt (Cert.SwaRefIdeal.Read.val_main_v25 (F := Ideal)) (broadcastInDim S128x256 ![] bcast_S_S128x256 (constantI S_ 32 128#32))))))
      (Cert.SwaRefIdeal.Read.val_main_v53 (F := Ideal) (m ((c : Thread nD τ).loc main_arg2)))
      (broadcastInDim S16x128x256 ![] bcast_S_S16x128x256 (constant (F := Ideal) S_ .f32 4286578688#32)))
    shapeCasts_S16x128x256_S4x512x256 := by
  rw [show V m c main_v44 = StableHlo.after (hostOps0 ++ hostOps0_1 ++ hostOps0_2 ++ hostOps0_3 ++ hostOps0_4) (fun b => m (c, b)) (Proc.devRef .tc main_v44) from rfl]
  simp only [hostOps0, hostOps0_1, hostOps0_2, hostOps0_3, hostOps0_4, List.cons_append, List.nil_append]
  after_results_simp
  simp only [StableHlo.TRef.ofBuf_toBuf, id]
  simp only [Cert.SwaRefIdeal.Read.val_main_v53, Cert.SwaRefIdeal.Read.val_main_v52, Cert.SwaRefIdeal.Read.val_main_v51, Cert.SwaRefIdeal.Read.val_main_v50, Cert.SwaRefIdeal.Read.val_main_v49, Cert.SwaRefIdeal.Read.val_main_v48, Cert.SwaRefIdeal.Read.val_main_v47, Cert.SwaRefIdeal.Read.val_main_v46, Cert.SwaRefIdeal.Read.val_main_v45, Cert.SwaRefIdeal.Read.val_main_v44, Cert.SwaRefIdeal.Read.val_main_v43, Cert.SwaRefIdeal.Read.val_main_v42, Cert.SwaRefIdeal.Read.val_main_v41, Cert.SwaRefIdeal.Read.val_main_v40, Cert.SwaRefIdeal.Read.val_main_v39, Cert.SwaRefIdeal.Read.val_main_v38, Cert.SwaRefIdeal.Read.val_main_v37, Cert.SwaRefIdeal.Read.val_main_v36, Cert.SwaRefIdeal.Read.val_main_v35, Cert.SwaRefIdeal.Read.val_main_v34, Cert.SwaRefIdeal.Read.val_main_v33, Cert.SwaRefIdeal.Read.val_main_v32, Cert.SwaRefIdeal.Read.val_main_v31, Cert.SwaRefIdeal.Read.val_main_v30, Cert.SwaRefIdeal.Read.val_main_v29, Cert.SwaRefIdeal.Read.val_main_v28, Cert.SwaRefIdeal.Read.val_main_v27, Cert.SwaRefIdeal.Read.val_main_v26, Cert.SwaRefIdeal.Read.val_main_v25, Cert.SwaRefIdeal.Read.val_main_v24, Cert.SwaRefIdeal.Read.val_main_v23, Cert.SwaRefIdeal.Read.val_main_v22, Cert.SwaRefIdeal.Read.val_main_v21, Cert.SwaRefIdeal.Read.val_main_v20, Cert.SwaRefIdeal.Read.val_main_v19, Cert.SwaRefIdeal.Read.val_main_v18, Cert.SwaRefIdeal.Read.val_main_v17, Cert.SwaRefIdeal.Read.val_main_c_1, Cert.SwaRefIdeal.Read.val_main_c_2, Cert.SwaRefIdeal.Read.val_main_c_3, Cert.SwaRefIdeal.Read.val_main_c_7, Cert.SwaRefIdeal.Read.val_main_c_8, Cert.SwaRefIdeal.Read.val_main_c_9, Cert.SwaRefIdeal.Read.val_main_c_10, Cert.SwaRefIdeal.Read.val_main_c_11, Cert.SwaRefIdeal.Read.val_main_cst_4, Cert.SwaRefIdeal.Read.val_main_cst_5, Cert.SwaRefIdeal.Read.val_main_cst_6]
  have e1 : ∀ (v : (⟨S128x256, .i1⟩ : BufTy).Contents (Elt Ideal)) p1 p2 p3, (StableHlo.TRef.of (sig := sig) (T := ⟨S128x256, .i1⟩) main_v27 p1 p2 p3).ofBuf v = v := fun _ _ _ _ => rfl
  have e2 : ∀ (v : (⟨S128x256, .i32⟩ : BufTy).Contents (Elt Ideal)) p1 p2 p3, (StableHlo.TRef.of (sig := sig) (T := ⟨S128x256, .i32⟩) main_v10 p1 p2 p3).ofBuf v = v := fun _ _ _ _ => rfl
  have e3 : ∀ (v : (⟨S128x256, .i32⟩ : BufTy).Contents (Elt Ideal)) p1 p2 p3, (StableHlo.TRef.of (sig := sig) (T := ⟨S128x256, .i32⟩) main_v25 p1 p2 p3).ofBuf v = v := fun _ _ _ _ => rfl
  have e4 : ∀ (v : (⟨S128x256, .i32⟩ : BufTy).Contents (Elt Ideal)) p1 p2 p3, (StableHlo.TRef.of (sig := sig) (T := ⟨S128x256, .i32⟩) main_v28 p1 p2 p3).toBuf v = v := fun _ _ _ _ => rfl
  simp only [e1, e2, e3, e4]
  refine congrArg (shapeCast S4x512x256 · shapeCasts_S16x128x256_S4x512x256) ?_
  refine congrArg (fun z => select z _ _) ?_
  rfl

theorem bias_eq (c : Dev nD) (g j : Fin 4) (r : Fin 128) (s : Fin 256) (R : Fin 512) (hR : R.val = 128 * j.val + r.val) :
    (V m c main_v44 (ix3 g R s) : EReal) = if near r s = 1
      then (Cert.SwaRefIdeal.Read.val_main_v52 (F := Ideal) (m ((c : Thread nD τ).loc main_arg2)) (ix3 r s (⟨4 * g.val + j.val, by omega⟩ : Fin 16)) : EReal) else (⊥ : EReal) := by
  have i1 : Cert.SwaRefIdeal.Read.idx_main_v53 (ix3 (⟨g.val * 4 + R.val / 128, by omega⟩ : Fin 16) (⟨R.val % 128, by omega⟩ : Fin 128) s)
      = ix3 r s (⟨4 * g.val + j.val, by omega⟩ : Fin 16) := by
    have e1 : (⟨R.val % 128, by omega⟩ : Fin 128) = r := Fin.ext (by show R.val % 128 = r.val; omega)
    have e2 : (⟨g.val * 4 + R.val / 128, by omega⟩ : Fin 16) = ⟨4 * g.val + j.val, by omega⟩ := Fin.ext (by show g.val * 4 + R.val / 128 = 4 * g.val + j.val; omega)
    rw [e1, e2]
    funext a; fin_cases a <;> rfl
  have e3 : R.val % 128 = r.val := by omega
  rw [bias_arr]
  simp only [Cert.SwaRefIdeal.Read.val_main_v25_apply, Cert.SwaRefIdeal.Read.val_main_v24_apply, Cert.SwaRefIdeal.Read.val_main_v23_apply, Cert.SwaRefIdeal.Read.val_main_v22_apply, Cert.SwaRefIdeal.Read.val_main_v21_apply, Cert.SwaRefIdeal.Read.val_main_v20_apply, Cert.SwaRefIdeal.Read.val_main_v19_apply, Cert.SwaRefIdeal.Read.val_main_v18_apply, Cert.SwaRefIdeal.Read.val_main_v17_apply, Cert.SwaRefIdeal.Read.val_main_c_1_apply]
  pointwise [Cert.SwaRefIdeal.Read.val_main_v25_apply, Cert.SwaRefIdeal.Read.val_main_v24_apply, Cert.SwaRefIdeal.Read.val_main_v23_apply, Cert.SwaRefIdeal.Read.val_main_v22_apply, Cert.SwaRefIdeal.Read.val_main_v21_apply, Cert.SwaRefIdeal.Read.val_main_v20_apply, Cert.SwaRefIdeal.Read.val_main_v19_apply, Cert.SwaRefIdeal.Read.val_main_v18_apply, Cert.SwaRefIdeal.Read.val_main_v17_apply, Cert.SwaRefIdeal.Read.val_main_c_1_apply, Cert.SwaRefIdeal.Read.val_main_v53_apply]
  rw [i1, Cert.SwaRead.ofBits_neg_inf, e3]
  rfl

theorem coords_one : ∀ t : Fin cfg0.N, (grid0.coords t 1).val = t.val % 64 := by decide +kernel

theorem pay5_apply (t : Fin cfg0.N) (s : Fin 256) : (k0_pay5 (F := Ideal) (grid0.coords t) (ix2 (0 : Fin 1) s) : EReal) = if t.val % 64 = 0 ∧ s.val < 128 then ⊥ else 0 := by
  unfold k0_pay5
  pointwise []
  rw [coords_one, first_mask ⟨t.val % 64, by omega⟩ s, Cert.SwaRead.ofBits_neg_inf]
  by_cases h : t.val % 64 = 0 ∧ s.val < 128
  · rw [if_pos h, if_pos h]; rfl
  · rw [if_neg h, if_neg h]; rfl

end Cert.SwaIdeal.RefValue
-- ==== Proof.SwaFin.lean ====
module

public import proofs.«01_k».proof.Defs
public import proofs.«01_k».proof.Proof.Gen.SwaRefIdeal.Read
public import proofs.«01_k».proof.Proof.SwaSoftmax
public import Idealize.ShloMosaic.Lib.ReduceAll
public import Idealize.ShloMosaic.Lib.Pipeline.ValueKit

/-! IsReal values: what the precondition says of the arguments, and the sums and products that stay finite. -/

@[expose] public section

noncomputable section

open Idealize.ShloMosaic

namespace Cert.SwaFinite

open Cert.SwaSoftmax Cert.Pre_swa_finite

/-- The side conditions of the precondition's operations. -/
theorem facts : Cert.Pre_swa_finite.Facts where
  bcast_S_S16384x3072 := by decide
  reducesTo_S16384x3072_S_d0_1 := by decide
  h_S_ := by decide
  bcast_S_S16 := by decide
  reducesTo_S16_S_d0 := by decide
  bcast_S_S32x16 := by decide
  reducesTo_S32x16_S_d0_1 := by decide

/-- Under the precondition every element of the three arguments is finite. -/
theorem of_pre (x0 : FVec Ideal S16384x3072 .bf16) (x1 : FVec Ideal S16 .f32) (x2 : FVec Ideal S32x16 .f32)
    (h : @Cert.Pre_swa_finite.fn facts Ideal _ x0 x1 x2 = fun _ => 1#1) :
    (∀ i, IsReal (x0 i)) ∧ (∀ i, IsReal (x1 i)) ∧ ∀ i, IsReal (x2 i) := by
  have h0 := congrFun h (Shape.Idx.first facts.h_S_)
  unfold Cert.Pre_swa_finite.fn at h0
  have hs : Subsingleton S_.Idx := ⟨fun a b => funext fun i => i.elim0⟩
  obtain ⟨h12, h3⟩ := IntOp.andi_eq_one.1 h0
  obtain ⟨h1, h2⟩ := IntOp.andi_eq_one.1 h12
  refine ⟨fun i => ?_, fun i => ?_, fun i => ?_⟩
  · exact finite_of_cmp (show Ideal.ofBits .bf16 32640#16 = ⊤ by simp [Ideal.ofBits, Ideal.ieee]) (Host.reduce_andi_all _ _ _ _ _ h1 i)
  · exact finite_of_cmp (show Ideal.ofBits .f32 2139095040#32 = ⊤ by simp [Ideal.ofBits, Ideal.ieee]) (Host.reduce_andi_all _ _ _ _ _ h2 i)
  · exact finite_of_cmp (show Ideal.ofBits .f32 2139095040#32 = ⊤ by simp [Ideal.ofBits, Ideal.ieee]) (Host.reduce_andi_all _ _ _ _ _ h3 i)

/-- A gathered bias is an element of the table. -/
theorem bias_finite (x2 : FVec Ideal S32x16 .f32) (h : ∀ i, IsReal (x2 i)) (i : Cert.SwaRefIdeal.S128x256x16.Idx) :
    IsReal (Cert.SwaRefIdeal.Read.val_main_v52 (F := Ideal) x2 i) :=
  h _

end Cert.SwaFinite
-- ==== Proof.SwaBlk.lean ====
module

public import proofs.«01_k».proof.Defs
public import proofs.«01_k».proof.Proof.Gen.Swa.Frame
public import proofs.«01_k».proof.Proof.Gen.SwaIdeal.Value
public import proofs.«01_k».proof.Proof.Gen.SwaRefIdeal.Read
public import Idealize.ShloMosaic.Lib.Pipeline.ValueKit
public import Idealize.ShloMosaic.Lib.Pointwise.Tactic
public import Idealize.ShloMosaic.Lib.Pipeline.Value
public import Idealize.ShloMosaic.Lib.Quiescent
public import proofs.«01_k».proof.Proof.SwaSoftmax

@[expose] public section

set_option maxRecDepth 16384

noncomputable section

open Idealize.ShloMosaic Idealize.ShloMosaic.TcCoe Idealize.SL.Sem
open Idealize.ShloMosaic.Pipeline (Dat)

/-! The kernel's input blocks, element by element, as the arguments. -/

namespace Cert.SwaIdeal.RefValue

open Cert.SwaIdeal Cert.SwaIdeal.Gen Cert.SwaSoftmax

variable (m : (ℓ : Loc nD τ sig) → Buf (Elt Ideal) ℓ) (ρ : Dev nD → PrngReg)

/-- The input blocks' indices at each grid point. -/
theorem idx : ∀ t : Fin cfg0.N, win0_0.index t = ![0] ∧ win0_1.index t = ![t.val, 0] ∧ win0_2.index t = ![(t.val / 64) * 64 + (t.val % 64 - 1), 4]
    ∧ win0_3.index t = ![t.val, 4] ∧ win0_4.index t = ![(t.val / 64) * 64 + (t.val % 64 - 1), 5] ∧ win0_5.index t = ![t.val, 5]
    ∧ win0_6.index t = ![0, 0, 0] ∧ win0_7.index t = ![t.val, 0] ∧ t.val < 128 :=
  (by decide +kernel : ∀ t : Fin grid0.N, win0_0.index t = ![0] ∧ win0_1.index t = ![t.val, 0] ∧ win0_2.index t = ![(t.val / 64) * 64 + (t.val % 64 - 1), 4]
    ∧ win0_3.index t = ![t.val, 4] ∧ win0_4.index t = ![(t.val / 64) * 64 + (t.val % 64 - 1), 5] ∧ win0_5.index t = ![t.val, 5]
    ∧ win0_6.index t = ![0, 0, 0] ∧ win0_7.index t = ![t.val, 0] ∧ t.val < 128)

theorem sink_apply (c : Dev nD) (t : Fin cfg0.N) (h : Fin 16) :
    iblk m c 0 t (ix1 h) = m ((c : Thread nD τ).loc main_arg1) (ix1 h) := by
  blk_point [iblk, V, idx t]

theorem q_apply (c : Dev nD) (t : Fin cfg0.N) (r : Fin 128) (d : Fin 2048) :
    X0_1 m c t (ix2 r d) = m ((c : Thread nD τ).loc main_arg0)
      (ix2 (⟨128 * t.val + r.val, by have := (idx t).2.2.2.2.2.2.2.2; omega⟩ : Fin 16384) (⟨d.val, by omega⟩ : Fin 3072)) := by
  unfold X0_1 Pipeline.Window.fill
  rw [dif_pos (moved0_1 t _)]
  blk_point [iblk, V, idx t]

theorem kp_apply (c : Dev nD) (t : Fin cfg0.N) (r : Fin 128) (d : Fin 512) :
    iblk m c 2 t (ix2 r d) = m ((c : Thread nD τ).loc main_arg0)
      (ix2 (⟨128 * ((t.val / 64) * 64 + (t.val % 64 - 1)) + r.val, by have := (idx t).2.2.2.2.2.2.2.2; omega⟩ : Fin 16384) (⟨2048 + d.val, by omega⟩ : Fin 3072)) := by
  blk_point [iblk, V, idx t]

theorem kc_apply (c : Dev nD) (t : Fin cfg0.N) (r : Fin 128) (d : Fin 512) :
    iblk m c 3 t (ix2 r d) = m ((c : Thread nD τ).loc main_arg0)
      (ix2 (⟨128 * t.val + r.val, by have := (idx t).2.2.2.2.2.2.2.2; omega⟩ : Fin 16384) (⟨2048 + d.val, by omega⟩ : Fin 3072)) := by
  blk_point [iblk, V, idx t]

theorem vp_apply (c : Dev nD) (t : Fin cfg0.N) (r : Fin 128) (d : Fin 512) :
    iblk m c 4 t (ix2 r d) = m ((c : Thread nD τ).loc main_arg0)
      (ix2 (⟨128 * ((t.val / 64) * 64 + (t.val % 64 - 1)) + r.val, by have := (idx t).2.2.2.2.2.2.2.2; omega⟩ : Fin 16384) (⟨2560 + d.val, by omega⟩ : Fin 3072)) := by
  blk_point [iblk, V, idx t]

theorem vc_apply (c : Dev nD) (t : Fin cfg0.N) (r : Fin 128) (d : Fin 512) :
    iblk m c 5 t (ix2 r d) = m ((c : Thread nD τ).loc main_arg0)
      (ix2 (⟨128 * t.val + r.val, by have := (idx t).2.2.2.2.2.2.2.2; omega⟩ : Fin 16384) (⟨2560 + d.val, by omega⟩ : Fin 3072)) := by
  blk_point [iblk, V, idx t]

theorem bs_apply (c : Dev nD) (t : Fin cfg0.N) (g : Fin 4) (R : Fin 512) (s : Fin 256) :
    iblk m c 6 t (ix3 g R s) = V m c main_v44 (ix3 g R s) := by
  blk_point [iblk, idx t]

end Cert.SwaIdeal.RefValue
-- ==== Proof.SwaValue.lean ====
module

public import proofs.«01_k».proof.Defs
public import proofs.«01_k».proof.Proof.Gen.Swa.Frame
public import proofs.«01_k».proof.Proof.Gen.SwaIdeal.Value
public import proofs.«01_k».proof.Proof.Gen.SwaRefIdeal.Read
public import Idealize.ShloMosaic.Lib.Pipeline.ValueKit
public import Idealize.ShloMosaic.Lib.Pointwise.Tactic
public import Idealize.ShloMosaic.Lib.Pipeline.Value
public import Idealize.ShloMosaic.Lib.Quiescent
public import proofs.«01_k».proof.Proof.SwaKern
public import proofs.«01_k».proof.Proof.SwaHost
public import proofs.«01_k».proof.Proof.SwaFin
public import proofs.«01_k».proof.Proof.SwaBlk
public import proofs.«01_k».proof.Proof.SwaRead

@[expose] public section

set_option maxRecDepth 16384

noncomputable section

open Idealize.ShloMosaic Idealize.ShloMosaic.TcCoe Idealize.SL.Sem
open Idealize.ShloMosaic.Pipeline (Dat)

/-! The sliding-window attention: the kernel's blocks are the reference's result. -/

namespace Cert.SwaIdeal.RefValue

open Cert.SwaIdeal Cert.SwaIdeal.Gen Cert.SwaSoftmax

variable (m : (ℓ : Loc nD τ sig) → Buf (Elt Ideal) ℓ) (ρ : Dev nD → PrngReg)

/-- The reference's result, as a function of this program's arguments. -/
abbrev G (c : Dev nD) : Buf (Elt Ideal) ((c : Thread nD τ).loc main_v45) :=
  Cert.SwaRefIdeal.Read.val_main_v99 (F := Ideal) (m ((c : Thread nD τ).loc main_arg0)) (m ((c : Thread nD τ).loc main_arg1)) (m ((c : Thread nD τ).loc main_arg2))

/-- Every element of the three arguments is finite. -/
def Real (c : Dev nD) : Prop :=
  (∀ i, IsReal (m ((c : Thread nD τ).loc main_arg0) i)) ∧ (∀ i, IsReal (m ((c : Thread nD τ).loc main_arg1) i))
    ∧ ∀ i, IsReal (m ((c : Thread nD τ).loc main_arg2) i)

theorem lt_N (t : Fin cfg0.N) : t.val < 128 := (idx t).2.2.2.2.2.2.2.2

/-- The sequence, the block in it, the group and the head in it, of a grid point and a head. -/
abbrev tb (t : Fin cfg0.N) : Fin 2 := ⟨t.val / 64, by have := lt_N t; omega⟩
abbrev tn (t : Fin cfg0.N) : Fin 64 := ⟨t.val % 64, by omega⟩
abbrev hg (h : Fin 16) : Fin 4 := ⟨h.val / 4, by omega⟩
abbrev hj (h : Fin 16) : Fin 4 := ⟨h.val % 4, by omega⟩

/-- A key of the band the kernel reads is the reference's, but in the half block before the sequence. -/
theorem key_eq (c : Dev nD) (t : Fin cfg0.N) (h : Fin 16) (s : Fin 256) (d : Fin 128) (hn : ¬(t.val % 64 = 0 ∧ s.val < 128)) :
    band (iblk m c 2 t) (iblk m c 3 t) s ⟨128 * (h.val / 4) + d.val, by omega⟩
      = Cert.SwaRefIdeal.Read.val_main_v9 (F := Ideal) (m ((c : Thread nD τ).loc main_arg0)) (ix5 (tb t) (tn t) s (hg h) d) := by
  have ht := lt_N t
  rw [Cert.SwaRead.v9_apply]
  unfold band
  by_cases hs : s.val < 128
  · have h1 : 1 ≤ t.val % 64 := by omega
    rw [dif_pos hs, dif_pos hs, dif_pos h1, kp_apply, Cert.SwaRead.v4_apply]
    exact congrArg _ (congrArg₂ ix2 (Fin.ext (by dsimp only; omega)) (Fin.ext (by dsimp only; omega)))
  · rw [dif_neg hs, dif_neg hs, kc_apply, Cert.SwaRead.v4_apply]
    exact congrArg _ (congrArg₂ ix2 (Fin.ext (by dsimp only; omega)) (Fin.ext (by dsimp only; omega)))

/-- So is a value. -/
theorem value_eq (c : Dev nD) (t : Fin cfg0.N) (h : Fin 16) (s : Fin 256) (d : Fin 128) (hn : ¬(t.val % 64 = 0 ∧ s.val < 128)) :
    band (iblk m c 4 t) (iblk m c 5 t) s ⟨128 * (h.val / 4) + d.val, by omega⟩
      = Cert.SwaRefIdeal.Read.val_main_v12 (F := Ideal) (m ((c : Thread nD τ).loc main_arg0)) (ix5 (tb t) (tn t) s (hg h) d) := by
  have ht := lt_N t
  rw [Cert.SwaRead.v12_apply]
  unfold band
  by_cases hs : s.val < 128
  · have h1 : 1 ≤ t.val % 64 := by omega
    rw [dif_pos hs, dif_pos hs, dif_pos h1, vp_apply, Cert.SwaRead.v6_apply]
    exact congrArg _ (congrArg₂ ix2 (Fin.ext (by dsimp only; omega)) (Fin.ext (by dsimp only; omega)))
  · rw [dif_neg hs, dif_neg hs, vc_apply, Cert.SwaRead.v6_apply]
    exact congrArg _ (congrArg₂ ix2 (Fin.ext (by dsimp only; omega)) (Fin.ext (by dsimp only; omega)))

/-- The kernel's logits at a grid point. -/
abbrev lgAt (c : Dev nD) (t : Fin cfg0.N) (h : Fin 16) (r : Fin 128) : Fin 256 → EReal :=
  lgK (X0_1 m c t) (iblk m c 2 t) (iblk m c 3 t) (iblk m c 6 t) (k0_pay5 (F := Ideal) (grid0.coords t)) h r

/-- The bias block of the kernel at a head, a row and a key. -/
theorem bias_at (c : Dev nD) (t : Fin cfg0.N) (h : Fin 16) (r : Fin 128) (s : Fin 256) :
    (iblk m c 6 t (ix3 (⟨h.val / 4, by omega⟩ : Fin 4) (⟨128 * (h.val % 4) + r.val, by omega⟩ : Fin 512) s) : EReal) = if near r s = 1
      then (Cert.SwaRefIdeal.Read.val_main_v52 (F := Ideal) (m ((c : Thread nD τ).loc main_arg2)) (ix3 r s (⟨4 * (hg h).val + (hj h).val, by omega⟩ : Fin 16)) : EReal) else (⊥ : EReal) :=
  (bs_apply m c t _ _ s).trans (bias_eq m c (hg h) (hj h) r s _ rfl)

theorem key_real (c : Dev nD) (hm : Real m c) (t : Fin cfg0.N) (s : Fin 256) (q : Fin 512) :
    IsReal (band (iblk m c 2 t) (iblk m c 3 t) s q) := by
  unfold band
  by_cases hs : s.val < 128
  · rw [dif_pos hs, kp_apply]; exact hm.1 _
  · rw [dif_neg hs, kc_apply]; exact hm.1 _

/-- No logit is +inf. -/
theorem lg_ne_top (c : Dev nD) (hm : Real m c) (t : Fin cfg0.N) (h : Fin 16) (r : Fin 128) (s : Fin 256) : lgAt m c t h r s ≠ ⊤ := by
  unfold lgAt lgK
  rw [bias_at, pay5_apply]
  refine EReal.add_ne_top (EReal.add_ne_top ?_ ?_) ?_
  · refine (IsReal.mul (IsReal.sum _ fun d => IsReal.mul ?_ (key_real m c hm t s _)) scale_finite).1
    rw [q_apply]; exact hm.1 _
  · split
    · exact (Cert.SwaFinite.bias_finite _ hm.2.2 _).1
    · exact bot_ne_top
  · split
    · exact bot_ne_top
    · exact EReal.zero_ne_top

/-- The kernel's logits are the reference's masked logits. -/
theorem lg_eq (c : Dev nD) (t : Fin cfg0.N) (h : Fin 16) (r : Fin 128) (s : Fin 256) : lgAt m c t h r s
    = Cert.SwaRefIdeal.Read.val_main_v80 (F := Ideal) (m ((c : Thread nD τ).loc main_arg0)) (m ((c : Thread nD τ).loc main_arg2)) (ix6 (tb t) (tn t) (hg h) (hj h) r s) := by
  have ht := lt_N t
  rw [Cert.SwaRead.v80_apply]
  unfold lgAt lgK
  rw [bias_at, pay5_apply]
  by_cases hr : near r s = 1
  · rw [if_pos hr]
    by_cases he : t.val % 64 = 0 ∧ s.val < 128
    · rw [if_pos he, if_neg fun q => q.2 he, EReal.add_bot]
    · rw [if_neg he, if_pos ⟨hr, he⟩, add_zero, Cert.SwaRead.v13_apply]
      refine congrArg (fun z : EReal => z * Ideal.ofBits FTy.f32 1035273459#32 + _) (Fin.sum_fin_congr fun d => ?_)
      rw [key_eq m c t h s d he, q_apply, Cert.SwaRead.v2_apply, mul_comm]
      exact congrArg (fun z : EReal => _ * z) (congrArg _ (congrArg₂ ix2 (Fin.ext (by dsimp only; omega)) (Fin.ext (by dsimp only; omega))))
  · rw [if_neg hr, if_neg (fun q : near r s = 1 ∧ _ => hr q.1), EReal.add_bot, EReal.bot_add]

/-- In the half block before the sequence every logit is -inf. -/
theorem lg_bot (c : Dev nD) (t : Fin cfg0.N) (h : Fin 16) (r : Fin 128) (s : Fin 256) (he : t.val % 64 = 0 ∧ s.val < 128) :
    lgAt m c t h r s = ⊥ := by
  unfold lgAt lgK
  rw [pay5_apply, if_pos he, EReal.add_bot]

/-- The reference's result at a row of a grid point and a column of a head. -/
theorem G_apply (c : Dev nD) (t : Fin cfg0.N) (h : Fin 16) (r d : Fin 128) (L : Fin 257 → EReal)
    (hL : ∀ u, L u = Cert.SwaRefIdeal.Read.val_main_v83 (F := Ideal) (m ((c : Thread nD τ).loc main_arg0)) (m ((c : Thread nD τ).loc main_arg1)) (m ((c : Thread nD τ).loc main_arg2)) (ix6 (tb t) (tn t) (hg h) (hj h) r u)) :
    (G m c (ix2 (⟨128 * t.val + r.val, by have := lt_N t; omega⟩ : Fin 16384) (⟨128 * h.val + d.val, by omega⟩ : Fin 2048)) : EReal)
      = ∑ s : Fin 256, (Cert.SwaRefIdeal.Read.val_main_v12 (F := Ideal) (m ((c : Thread nD τ).loc main_arg0)) (ix5 (tb t) (tn t) s (hg h) d) : EReal)
          * Ideal.div (Ideal.exp (L s.castSucc - max ⊥ (Finset.univ.fold max ⊥ L))) (0 + ∑ u, Ideal.exp (L u - max ⊥ (Finset.univ.fold max ⊥ L))) := by
  have ht := lt_N t
  obtain rfl : L = _ := funext hL
  show Cert.SwaRefIdeal.Read.val_main_v98 (F := Ideal) _ _ _ _ = _
  rw [Cert.SwaRead.v98_apply]
  have e1 : (⟨(128 * t.val + r.val) / 8192, by omega⟩ : Fin 2) = tb t := Fin.ext (by dsimp only; omega)
  have e2 : (⟨(128 * t.val + r.val) / 128 % 64, by omega⟩ : Fin 64) = tn t := Fin.ext (by dsimp only; omega)
  have e3 : (⟨(128 * t.val + r.val) % 128, by omega⟩ : Fin 128) = r := Fin.ext (by dsimp only; omega)
  have e4 : (⟨(128 * h.val + d.val) / 512, by omega⟩ : Fin 4) = hg h := Fin.ext (by dsimp only; omega)
  have e5 : (⟨(128 * h.val + d.val) / 128 % 4, by omega⟩ : Fin 4) = hj h := Fin.ext (by dsimp only; omega)
  have e6 : (⟨(128 * h.val + d.val) % 128, by omega⟩ : Fin 128) = d := Fin.ext (by dsimp only; omega)
  rw [e1, e2, e3, e4, e5, e6, Cert.SwaRead.v97_apply]
  refine Fin.sum_fin_congr fun s => ?_
  rw [Cert.SwaRead.v95_apply, Cert.SwaRead.v91_apply, Cert.SwaRead.v90_apply]
  refine congrArg (fun z : EReal => _ * Ideal.div _ (0 + z)) (Fin.sum_fin_congr fun u => ?_)
  rw [Cert.SwaRead.v90_apply]

/-- One element the kernel leaves is the reference's. -/
theorem row_eq (c : Dev nD) (hm : Real m c) (t : Fin cfg0.N) (h : Fin 16) (r d : Fin 128) :
    rowK (X0_1 m c t) (iblk m c 2 t) (iblk m c 3 t) (iblk m c 4 t) (iblk m c 5 t) (iblk m c 6 t) (k0_pay5 (F := Ideal) (grid0.coords t)) (iblk m c 0 t) h r d
      = G m c (ix2 (⟨128 * t.val + r.val, by have := lt_N t; omega⟩ : Fin 16384) (⟨128 * h.val + d.val, by omega⟩ : Fin 2048)) := by
  rw [G_apply m c t h r d _ fun _ => rfl]
  unfold rowK
  refine attend_eq _ _ _ _ _ (fun s => ?_) ?_ (lg_ne_top m c hm t h r) ?_ ?_ fun s => ?_
  · rw [Cert.SwaRead.v83_apply, dif_pos (show s.castSucc.val < 256 from s.isLt)]
    exact (lg_eq m c t h r s).symm
  · rw [Cert.SwaRead.v83_apply, dif_neg (show ¬ (Fin.last 256).val < 256 from lt_irrefl 256), sink_apply]
    exact congrArg _ (congrArg ix1 (Fin.ext (by dsimp only; omega)))
  · rw [sink_apply]; exact (hm.2.1 _).1
  · rw [sink_apply]; exact (hm.2.1 _).2
  · by_cases he : t.val % 64 = 0 ∧ s.val < 128
    · exact Or.inl (lg_bot m c t h r s he)
    · exact Or.inr (value_eq m c t h s d he)

/-- Every block written back is the reference's result there, so the whole array is. -/
theorem final (c : Dev nD) (hm : Real m c) : (dats m 0 c).arrAt 7 cfg0.N = G m c := by
  refine (dats m 0 c).arrAt_eq_of_covers 7 _ (by decide +kernel) fun t hf y => ?_
  blk_simp; rw [after0_7]
  have ht := lt_N t
  have h0 : (y 0).val < 128 := (y 0).isLt
  have h1 : (y 1).val < 2048 := (y 1).isLt
  have he : (win0_7.blk t).view.emb y = ix2 (⟨128 * t.val + (y 0).val, by omega⟩ : Fin 16384) (⟨128 * ((y 1).val / 128) + (y 1).val % 128, by omega⟩ : Fin 2048) := by
    blk_ext [idx t]
  rw [he]
  exact (out_eq m c t y).trans (row_eq m c hm t ⟨(y 1).val / 128, by omega⟩ ⟨(y 0).val, h0⟩ ⟨(y 1).val % 128, by omega⟩)

end Cert.SwaIdeal.RefValue

namespace Cert.SwaCert

/-- The kernel as printed runs and keeps its arguments. -/
theorem frame_kernel : Cert.quiescent_Swa (hSwa := Cert.Swa.Gen.facts) :=
  fun m ρ _ => Cert.Swa.Gen.frame m ρ

/-- So does its idealization. -/
theorem frame_ideal : Cert.quiescent_SwaIdeal (hSwaIdeal := Cert.SwaIdeal.Gen.facts) :=
  fun m ρ _ => Cert.SwaIdeal.Gen.frame m ρ

/-- In particular under the precondition. -/
theorem frame_ideal_pre : Cert.quiescent_SwaIdeal_pre_swa_finite (hSwaIdeal := Cert.SwaIdeal.Gen.facts)
    (hPre_swa_finite := Cert.SwaFinite.facts) :=
  fun m ρ _ => Cert.SwaIdeal.Gen.frame m ρ

/-- And the reference. -/
theorem frame_ref : Cert.quiescent_SwaRefIdeal (hSwaRefIdeal := Cert.SwaRefIdeal.Gen.facts) :=
  fun m ρ _ => (θ_run Cert.SwaRefIdeal.defs _ _).mono
    (fun r h => ⟨fun c => (h c).2, Idealize.ShloMosaic.sem_eq_zero_of_no_sems (by decide) r.2⟩)
    (Cert.SwaRefIdeal.Value.run (F := Ideal) m ρ)

/-- The reference too, in particular. -/
theorem frame_ref_pre : Cert.quiescent_SwaRefIdeal_pre_swa_finite (hSwaRefIdeal := Cert.SwaRefIdeal.Gen.facts)
    (hPre_swa_finite := Cert.SwaFinite.facts) :=
  fun m ρ _ => frame_ref m ρ trivial

/-- On equal finite arguments the kernel and the reference end with equal results. -/
theorem algebraic : Cert.algebraic_SwaIdeal_SwaRefIdeal_pre_swa_finite (hSwaIdeal := Cert.SwaIdeal.Gen.facts)
    (hSwaRefIdeal := Cert.SwaRefIdeal.Gen.facts) (hPre_swa_finite := Cert.SwaFinite.facts) := by
  intro m ρ m' ρ' hpre hagree
  refine ⟨fun c => Cert.SwaIdeal.RefValue.G m c, ?_, ?_⟩
  · exact (θ_run Cert.SwaIdeal.defs _ _).mono
      (fun _ h c => ⟨(h c).1.trans (Cert.SwaIdeal.RefValue.final m c (Cert.SwaFinite.of_pre _ _ _ (hpre c))), (h c).2⟩)
      (Cert.SwaIdeal.Value.run_blocks (F := Ideal) m ρ)
  · refine (θ_run Cert.SwaRefIdeal.defs _ _).mono (fun _ h c => ⟨(h c).1.trans ?_, (h c).2⟩)
      (Cert.SwaRefIdeal.Value.run (F := Ideal) m' ρ')
    rw [Cert.SwaRefIdeal.Read.val_main_v99_eq, (hagree c).1, (hagree c).2.1, (hagree c).2.2]

end Cert.SwaCert
-- ==== Proof.MergeValue.lean ====
module

public import proofs.«01_k».proof.Defs
public import proofs.«01_k».proof.Proof.Gen.Merge.Frame
public import proofs.«01_k».proof.Proof.Gen.MergeIdeal.Value
public import proofs.«01_k».proof.Proof.Gen.MergeRefIdeal.Read
public import Idealize.ShloMosaic.Lib.Pipeline.ValueKit
public import Idealize.ShloMosaic.Lib.Pointwise.Tactic
public import Idealize.ShloMosaic.Lib.Pipeline.Value
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.MergeIdeal.RefValue

open Cert.MergeIdeal Cert.MergeIdeal.Gen

variable (m : (ℓ : Loc nD τ sig) → Buf (Elt Ideal) ℓ) (ρ : Dev nD → PrngReg)

/-- The reference's result, as a function of this program's arguments. -/
abbrev G (c : Dev nD) : Buf (Elt Ideal) ((c : Thread nD τ).loc main_v6) :=
  Cert.MergeRefIdeal.Read.val_main_v23 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The input blocks' indices at each grid point. -/
theorem idx : ∀ t : Fin cfg0.N, win0_0.index t = ![win0_7.index t 0, 0] ∧ win0_1.index t = ![win0_7.index t 0, 0] ∧ win0_2.index t = ![win0_7.index t 0, 0]
    ∧ win0_3.index t = ![0, win0_7.index t 1] ∧ win0_4.index t = ![0, win0_7.index t 1] ∧ win0_5.index t = ![0, win0_7.index t 1]
    ∧ win0_6.index t = ![0, win0_7.index t 1] :=
  (by decide +kernel : ∀ t : Fin grid0.N, win0_0.index t = ![win0_7.index t 0, 0] ∧ win0_1.index t = ![win0_7.index t 0, 0] ∧ win0_2.index t = ![win0_7.index t 0, 0]
    ∧ win0_3.index t = ![0, win0_7.index t 1] ∧ win0_4.index t = ![0, win0_7.index t 1] ∧ win0_5.index t = ![0, win0_7.index t 1]
    ∧ win0_6.index t = ![0, win0_7.index t 1])

/-- Every block written back is the reference's result there, so the whole array is. -/
theorem final (c : Dev nD) : (dats m 0 c).arrAt 7 cfg0.N = G m c := by
  refine (dats m 0 c).arrAt_eq_of_covers 7 _ (by decide +kernel) fun t hf y => ?_
  blk_simp; rw [after0_7]; frame_out
  unfold G
  simp only [Cert.MergeRefIdeal.Read.val_main_v23_apply, Cert.MergeRefIdeal.Read.val_main_v22_apply, Cert.MergeRefIdeal.Read.val_main_v21_apply, Cert.MergeRefIdeal.Read.val_main_v20_apply, Cert.MergeRefIdeal.Read.val_main_v19_apply, Cert.MergeRefIdeal.Read.val_main_v18_apply, Cert.MergeRefIdeal.Read.val_main_v17_apply, Cert.MergeRefIdeal.Read.val_main_v16_apply, Cert.MergeRefIdeal.Read.val_main_v15_apply, Cert.MergeRefIdeal.Read.val_main_v14_apply, Cert.MergeRefIdeal.Read.val_main_v13_apply, Cert.MergeRefIdeal.Read.val_main_v12_apply, Cert.MergeRefIdeal.Read.val_main_v11_apply, Cert.MergeRefIdeal.Read.val_main_v10_apply, Cert.MergeRefIdeal.Read.val_main_v9_apply, Cert.MergeRefIdeal.Read.val_main_v8_apply, Cert.MergeRefIdeal.Read.val_main_v7_apply, Cert.MergeRefIdeal.Read.val_main_v6_apply, Cert.MergeRefIdeal.Read.val_main_v5_apply, Cert.MergeRefIdeal.Read.val_main_v4_apply, Cert.MergeRefIdeal.Read.val_main_v3_apply, Cert.MergeRefIdeal.Read.val_main_v2_apply, Cert.MergeRefIdeal.Read.val_main_v1_apply, Cert.MergeRefIdeal.Read.val_main_v0_apply, Cert.MergeRefIdeal.Read.val_main_cst_apply, Cert.MergeRefIdeal.Read.val_main_cst_0_apply, Cert.MergeRefIdeal.Read.val_main_cst_1_apply, Cert.MergeRefIdeal.Read.val_main_cst_2_apply]
  unfold_payloads
  idx_vars y
  pointwise [dot_S512x4096_S4096x512_S512x512_1_0_0_1_n_n, dot_S512x2048_S2048x512_S512x512_1_0_0_1_n_n]
  unfold Ideal.logistic
  blk_point [iblk, V, idx t]

end Cert.MergeIdeal.RefValue

namespace Cert.MergeCert

/-- The kernel as printed runs and keeps its arguments. -/
theorem frame_kernel : Cert.quiescent_Merge (hMerge := Cert.Merge.Gen.facts) :=
  fun m ρ _ => Cert.Merge.Gen.frame m ρ

/-- So does its idealization. -/
theorem frame_ideal : Cert.quiescent_MergeIdeal (hMergeIdeal := Cert.MergeIdeal.Gen.facts) :=
  fun m ρ _ => Cert.MergeIdeal.Gen.frame m ρ

/-- And the reference. -/
theorem frame_ref : Cert.quiescent_MergeRefIdeal (hMergeRefIdeal := Cert.MergeRefIdeal.Gen.facts) :=
  fun m ρ _ => (θ_run Cert.MergeRefIdeal.defs _ _).mono
    (fun r h => ⟨fun c => (h c).2, Idealize.ShloMosaic.sem_eq_zero_of_no_sems (by decide) r.2⟩)
    (Cert.MergeRefIdeal.Value.run (F := Ideal) m ρ)

/-- On equal arguments the kernel and the reference end with equal results. -/
theorem algebraic : Cert.algebraic_MergeIdeal_MergeRefIdeal (hMergeIdeal := Cert.MergeIdeal.Gen.facts)
    (hMergeRefIdeal := Cert.MergeRefIdeal.Gen.facts) := by
  intro m ρ m' ρ' _ hagree
  refine ⟨fun c => Cert.MergeIdeal.RefValue.G m c, ?_, ?_⟩
  · exact (θ_run Cert.MergeIdeal.defs _ _).mono
      (fun _ h c => ⟨(h c).1.trans (Cert.MergeIdeal.RefValue.final m c), (h c).2⟩)
      (Cert.MergeIdeal.Value.run_blocks (F := Ideal) m ρ)
  · refine (θ_run Cert.MergeRefIdeal.defs _ _).mono (fun _ h c => ⟨(h c).1.trans ?_, (h c).2⟩)
      (Cert.MergeRefIdeal.Value.run (F := Ideal) m' ρ')
    rw [(hagree c).1, (hagree c).2.1, (hagree c).2.2.1, (hagree c).2.2.2.1, (hagree c).2.2.2.2.1, (hagree c).2.2.2.2.2]
    exact Cert.MergeRefIdeal.Read.val_main_v23_eq _ _ _ _ _ _

end Cert.MergeCert
-- ==== Proof.OutProjValue.lean ====
module

public import proofs.«01_k».proof.Defs
public import proofs.«01_k».proof.Proof.Gen.OutProj.Frame
public import proofs.«01_k».proof.Proof.Gen.OutProjIdeal.Value
public import proofs.«01_k».proof.Proof.Gen.OutProjRefIdeal.Read
public import Idealize.ShloMosaic.Lib.Pipeline.ValueKit
public import Idealize.ShloMosaic.Lib.Pointwise.Tactic
public import Idealize.ShloMosaic.Lib.Pipeline.Value
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.OutProjIdeal.RefValue

open Cert.OutProjIdeal Cert.OutProjIdeal.Gen

variable (m : (ℓ : Loc nD τ sig) → Buf (Elt Ideal) ℓ) (ρ : Dev nD → PrngReg)

/-- The reference's result, as a function of this program's arguments. -/
abbrev G (c : Dev nD) : Buf (Elt Ideal) ((c : Thread nD τ).loc main_v1) :=
  Cert.OutProjRefIdeal.Read.val_main_v2 (F := Ideal) (m ((c : Thread nD τ).loc main_arg0)) (m ((c : Thread nD τ).loc main_arg1))
    (m ((c : Thread nD τ).loc main_arg2))

/-- The block indices at each grid point. -/
theorem idx : ∀ t : Fin cfg0.N, win0_0.index t = ![win0_3.index t 0, 0] ∧ win0_1.index t = ![0, win0_3.index t 1]
    ∧ win0_2.index t = win0_3.index t :=
  (by decide +kernel : ∀ t : Fin grid0.N, win0_0.index t = ![win0_3.index t 0, 0] ∧ win0_1.index t = ![0, win0_3.index t 1]
    ∧ win0_2.index t = win0_3.index t)

/-- Every block written back is the reference's result there, so the whole array is. -/
theorem final (c : Dev nD) : (dats m 0 c).arrAt 3 cfg0.N = G m c := by
  refine (dats m 0 c).arrAt_eq_of_covers 3 _ (by decide +kernel) fun t hf y => ?_
  blk_simp; rw [after0_3]; frame_out
  unfold G
  rw [Cert.OutProjRefIdeal.Read.val_main_v2_apply, Cert.OutProjRefIdeal.Read.val_main_v1_apply]
  unfold_payloads
  idx_vars y
  pointwise [dot_S1024x4096_S4096x512_S1024x512_1_0_0_1_n_n, Cert.OutProjRefIdeal.Read.val_main_v0_apply]
  blk_point [iblk, V, idx t]

end Cert.OutProjIdeal.RefValue

namespace Cert.OutProjCert

/-- The kernel as printed runs and keeps its arguments. -/
theorem frame_kernel : Cert.quiescent_OutProj (hOutProj := Cert.OutProj.Gen.facts) :=
  fun m ρ _ => Cert.OutProj.Gen.frame m ρ

/-- So does its idealization. -/
theorem frame_ideal : Cert.quiescent_OutProjIdeal (hOutProjIdeal := Cert.OutProjIdeal.Gen.facts) :=
  fun m ρ _ => Cert.OutProjIdeal.Gen.frame m ρ

/-- And the reference. -/
theorem frame_ref : Cert.quiescent_OutProjRefIdeal (hOutProjRefIdeal := Cert.OutProjRefIdeal.Gen.facts) :=
  fun m ρ _ => (θ_run Cert.OutProjRefIdeal.defs _ _).mono
    (fun r h => ⟨fun c => (h c).2, Idealize.ShloMosaic.sem_eq_zero_of_no_sems (by decide) r.2⟩)
    (Cert.OutProjRefIdeal.Value.run (F := Ideal) m ρ)

/-- On equal arguments the kernel and the reference end with equal results. -/
theorem algebraic : Cert.algebraic_OutProjIdeal_OutProjRefIdeal (hOutProjIdeal := Cert.OutProjIdeal.Gen.facts)
    (hOutProjRefIdeal := Cert.OutProjRefIdeal.Gen.facts) := by
  intro m ρ m' ρ' _ hagree
  refine ⟨fun c => Cert.OutProjIdeal.RefValue.G m c, ?_, ?_⟩
  · exact (θ_run Cert.OutProjIdeal.defs _ _).mono
      (fun _ h c => ⟨(h c).1.trans (Cert.OutProjIdeal.RefValue.final m c), (h c).2⟩)
      (Cert.OutProjIdeal.Value.run_blocks (F := Ideal) m ρ)
  · refine (θ_run Cert.OutProjRefIdeal.defs _ _).mono (fun _ h c => ⟨(h c).1.trans ?_, (h c).2⟩)
      (Cert.OutProjRefIdeal.Value.run (F := Ideal) m' ρ')
    rw [(hagree c).1, (hagree c).2.1, (hagree c).2.2]
    exact Cert.OutProjRefIdeal.Read.val_main_v2_eq _ _ _

end Cert.OutProjCert
-- ==== Proof.QkvProjValue.lean ====
module

public import proofs.«01_k».proof.Defs
public import proofs.«01_k».proof.Proof.Gen.QkvProj.Frame
public import proofs.«01_k».proof.Proof.Gen.QkvProjIdeal.Value
public import proofs.«01_k».proof.Proof.Gen.QkvProjRefIdeal.Read
public import Idealize.ShloMosaic.Lib.Pipeline.ValueKit
public import Idealize.ShloMosaic.Lib.Pointwise.Tactic
public import Idealize.ShloMosaic.Lib.Pipeline.Value
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.QkvProjIdeal.RefValue

open Cert.QkvProjIdeal Cert.QkvProjIdeal.Gen

variable (m : (ℓ : Loc nD τ sig) → Buf (Elt Ideal) ℓ) (ρ : Dev nD → PrngReg)

/-- The reference's result, as a function of this program's arguments. -/
abbrev G (c : Dev nD) : Buf (Elt Ideal) ((c : Thread nD τ).loc main_v2) :=
  Cert.QkvProjRefIdeal.Read.val_main_v3 (F := Ideal) (m ((c : Thread nD τ).loc main_arg0)) (m ((c : Thread nD τ).loc main_arg1))

/-- The input blocks' indices at each grid point. -/
theorem idx : ∀ t : Fin cfg0.N, win0_0.index t = ![win0_2.index t 0, 0] ∧ win0_1.index t = ![0, win0_2.index t 1] :=
  (by decide +kernel : ∀ t : Fin grid0.N, win0_0.index t = ![win0_2.index t 0, 0] ∧ win0_1.index t = ![0, win0_2.index t 1])

/-- Every block written back is the reference's result there, so the whole array is. -/
theorem final (c : Dev nD) : (dats m 0 c).arrAt 2 cfg0.N = G m c := by
  refine (dats m 0 c).arrAt_eq_of_covers 2 _ (by decide +kernel) fun t hf y => ?_
  blk_simp; rw [after0_2]; frame_out
  unfold G
  rw [Cert.QkvProjRefIdeal.Read.val_main_v3_apply, Cert.QkvProjRefIdeal.Read.val_main_v2_apply, Cert.QkvProjRefIdeal.Read.val_main_v1_apply]
  unfold_payloads
  idx_vars y
  pointwise [dot_S1024x4096_S4096x512_S1024x512_1_0_0_1_n_n, Cert.QkvProjRefIdeal.Read.val_main_v0_apply]
  blk_point [iblk, V, idx t]

end Cert.QkvProjIdeal.RefValue

namespace Cert.QkvProjCert

/-- The kernel as printed runs and keeps its arguments. -/
theorem frame_kernel : Cert.quiescent_QkvProj (hQkvProj := Cert.QkvProj.Gen.facts) :=
  fun m ρ _ => Cert.QkvProj.Gen.frame m ρ

/-- So does its idealization. -/
theorem frame_ideal : Cert.quiescent_QkvProjIdeal (hQkvProjIdeal := Cert.QkvProjIdeal.Gen.facts) :=
  fun m ρ _ => Cert.QkvProjIdeal.Gen.frame m ρ

/-- And the reference. -/
theorem frame_ref : Cert.quiescent_QkvProjRefIdeal (hQkvProjRefIdeal := Cert.QkvProjRefIdeal.Gen.facts) :=
  fun m ρ _ => (θ_run Cert.QkvProjRefIdeal.defs _ _).mono
    (fun r h => ⟨fun c => (h c).2, Idealize.ShloMosaic.sem_eq_zero_of_no_sems (by decide) r.2⟩)
    (Cert.QkvProjRefIdeal.Value.run (F := Ideal) m ρ)

/-- On equal arguments the kernel and the reference end with equal results. -/
theorem algebraic : Cert.algebraic_QkvProjIdeal_QkvProjRefIdeal (hQkvProjIdeal := Cert.QkvProjIdeal.Gen.facts)
    (hQkvProjRefIdeal := Cert.QkvProjRefIdeal.Gen.facts) := by
  intro m ρ m' ρ' _ hagree
  refine ⟨fun c => Cert.QkvProjIdeal.RefValue.G m c, ?_, ?_⟩
  · exact (θ_run Cert.QkvProjIdeal.defs _ _).mono
      (fun _ h c => ⟨(h c).1.trans (Cert.QkvProjIdeal.RefValue.final m c), (h c).2⟩)
      (Cert.QkvProjIdeal.Value.run_blocks (F := Ideal) m ρ)
  · refine (θ_run Cert.QkvProjRefIdeal.defs _ _).mono (fun _ h c => ⟨(h c).1.trans ?_, (h c).2⟩)
      (Cert.QkvProjRefIdeal.Value.run (F := Ideal) m' ρ')
    rw [(hagree c).1, (hagree c).2]
    exact Cert.QkvProjRefIdeal.Read.val_main_v3_eq _ _

end Cert.QkvProjCert
-- ==== Proof.LatentProjValue.lean ====
module

public import proofs.«01_k».proof.Defs
public import proofs.«01_k».proof.Proof.Gen.LatentProj.Frame
public import proofs.«01_k».proof.Proof.Gen.LatentProjIdeal.Value
public import proofs.«01_k».proof.Proof.Gen.LatentProjRefIdeal.Read
public import Idealize.ShloMosaic.Lib.Pipeline.ValueKit
public import Idealize.ShloMosaic.Lib.Pointwise.Tactic
public import Idealize.ShloMosaic.Lib.Pipeline.Value
public import Idealize.ShloMosaic.Lib.Quiescent
public import Idealize.ShloMosaic.Lib.Tactic.ValueTie

@[expose] public section

set_option maxRecDepth 16384

noncomputable section

open Idealize.ShloMosaic Idealize.ShloMosaic.TcCoe Idealize.SL.Sem
open Idealize.ShloMosaic.Pipeline (Dat)

namespace Cert.LatentProjIdeal.RefValue

open Cert.LatentProjIdeal Cert.LatentProjIdeal.Gen

variable (m : (ℓ : Loc nD τ sig) → Buf (Elt Ideal) ℓ) (ρ : Dev nD → PrngReg)

/-- The reference's result, as a function of this program's arguments. -/
abbrev G (c : Dev nD) : Buf (Elt Ideal) ((c : Thread nD τ).loc main_v3) :=
  Cert.LatentProjRefIdeal.Read.val_main_v3 (F := Ideal) (m ((c : Thread nD τ).loc main_arg0)) (m ((c : Thread nD τ).loc main_arg1))

/-- The input blocks' indices at each grid point. -/
theorem idx : ∀ t : Fin cfg0.N, win0_0.index t = ![win0_2.index t 0, 0] ∧ win0_1.index t = ![0, win0_2.index t 1] :=
  (by decide +kernel : ∀ t : Fin grid0.N, win0_0.index t = ![win0_2.index t 0, 0] ∧ win0_1.index t = ![0, win0_2.index t 1])

/-- The output's blocks in bounds. -/
theorem col : ∀ t : Fin cfg0.N, win0_2.index t 0 < 16 ∧ win0_2.index t 1 < 4 :=
  (by decide +kernel : ∀ t : Fin grid0.N, win0_2.index t 0 < 16 ∧ win0_2.index t 1 < 4)

/-- The integer zero, read as a float, is the real zero. -/
theorem zero_eq : (FloatOps.sitofp .f32 (0#32 : BitVec 32) : Ideal .f32) = (0 : EReal) := by
  show ((((0#32 : BitVec 32).toInt : ℤ) : ℝ) : EReal) = 0
  simp

/-- The weights' columns past 1680 are padded with zeros. -/
theorem weight (c : Dev nD) (a : Fin 4096) (b : Fin 2048) :
    V m c main_v2 (ix2 a b) = if h : b.val < 1680 then
      m ((c : Thread nD τ).loc main_arg1) (ix2 a ⟨b.val + 3072, by omega⟩) else (0 : EReal) := by
  rw [show V m c main_v2 = StableHlo.after (hostOps0 ++ hostOps0_1 ++ hostOps0_2) (fun b => m (c, b))
    (Proc.devRef .tc main_v2) from rfl]
  simp only [hostOps0, hostOps0_1, hostOps0_2, List.cons_append, List.nil_append]
  after_results_simp
  show (truncf .bf16 (pad S4096x2048 ![0, 0] ![0, 368] ![0, 0]
    (extractStridedSlice S4096x1680 ![0, 3072] (m ((c : Thread nD τ).loc main_arg1)) slices_S4096x12944_S4096x1680_0_3072)
    (sitofp (F := Ideal) .f32 (constantI S_ 32 0#32)) pads_S4096x1680_S4096x2048_000_03680 h_S_)
    bitsLt_bf16_f32 : FVec Ideal S4096x2048 .bf16) (ix2 a b) = _
  pointwise []
  split
  · blk_ext []
  · exact zero_eq

/-- Every block written back is the reference's result there, so the whole array is. -/
theorem final (c : Dev nD) : (dats m 0 c).arrAt 2 cfg0.N = G m c := by
  refine (dats m 0 c).arrAt_eq_of_covers 2 _ (by decide +kernel) fun t hf y => ?_
  blk_simp; rw [after0_2]; frame_out
  unfold G Cert.LatentProjRefIdeal.Read.val_main_v3
  unfold_payloads
  idx_vars y
  pointwise [dot_S1024x4096_S4096x512_S1024x512_1_0_0_1_n_n, Cert.LatentProjRefIdeal.Read.val_main_call0_v0_apply, Cert.LatentProjRefIdeal.Read.val_main_c_apply, Cert.LatentProjRefIdeal.Read.val_main_v2_apply, Cert.LatentProjRefIdeal.Read.val_main_v1_apply, Cert.LatentProjRefIdeal.Read.val_main_v0_apply]
  obtain ⟨e0, e1⟩ := col t
  have hw : ∀ x : Fin 4096, iblk m c 1 t (ix2 x y1) = if h : win0_2.index t 1 * 512 + y1.val < 1680 then
      m ((c : Thread nD τ).loc main_arg1) (ix2 x ⟨win0_2.index t 1 * 512 + y1.val + 3072, by omega⟩)
      else (0 : EReal) := fun x => by
    rw [← weight m c x ⟨win0_2.index t 1 * 512 + y1.val, by omega⟩]
    blk_ext [iblk, idx t]
  simp only [hw]
  blk_simp [idx t]
  by_cases h : win0_2.index t 1 * 512 + y1.val < 1680
  · simp only [dif_pos h]
    blk_point [iblk, V, idx t]
  · simp only [dif_neg h, mul_zero, Finset.sum_const_zero]
    exact zero_eq.symm

end Cert.LatentProjIdeal.RefValue

namespace Cert.LatentProjCert

/-- The kernel as printed runs and keeps its arguments. -/
theorem frame_kernel : Cert.quiescent_LatentProj (hLatentProj := Cert.LatentProj.Gen.facts) :=
  fun m ρ _ => Cert.LatentProj.Gen.frame m ρ

/-- So does its idealization. -/
theorem frame_ideal : Cert.quiescent_LatentProjIdeal (hLatentProjIdeal := Cert.LatentProjIdeal.Gen.facts) :=
  fun m ρ _ => Cert.LatentProjIdeal.Gen.frame m ρ

/-- And the reference. -/
theorem frame_ref : Cert.quiescent_LatentProjRefIdeal (hLatentProjRefIdeal := Cert.LatentProjRefIdeal.Gen.facts) :=
  fun m ρ _ => (θ_run Cert.LatentProjRefIdeal.defs _ _).mono
    (fun r h => ⟨fun c => (h c).2, Idealize.ShloMosaic.sem_eq_zero_of_no_sems (by decide) r.2⟩)
    (Cert.LatentProjRefIdeal.Value.run (F := Ideal) m ρ)

/-- On equal arguments the kernel and the reference end with equal results. -/
theorem algebraic : Cert.algebraic_LatentProjIdeal_LatentProjRefIdeal (hLatentProjIdeal := Cert.LatentProjIdeal.Gen.facts)
    (hLatentProjRefIdeal := Cert.LatentProjRefIdeal.Gen.facts) := by
  intro m ρ m' ρ' _ hagree
  refine ⟨fun c => Cert.LatentProjIdeal.RefValue.G m c, ?_, ?_⟩
  · exact (θ_run Cert.LatentProjIdeal.defs _ _).mono
      (fun _ h c => ⟨(h c).1.trans (Cert.LatentProjIdeal.RefValue.final m c), (h c).2⟩)
      (Cert.LatentProjIdeal.Value.run_blocks (F := Ideal) m ρ)
  · refine (θ_run Cert.LatentProjRefIdeal.defs _ _).mono (fun _ h c => ⟨(h c).1.trans ?_, (h c).2⟩)
      (Cert.LatentProjRefIdeal.Value.run (F := Ideal) m' ρ')
    rw [(hagree c).1, (hagree c).2]
    exact Cert.LatentProjRefIdeal.Read.val_main_v3_eq _ _

end Cert.LatentProjCert
-- ==== Proof.HeadsValue.lean ====
module

public import proofs.«01_k».proof.Defs
public import proofs.«01_k».proof.Proof.Gen.Heads.Frame
public import proofs.«01_k».proof.Proof.Gen.HeadsIdeal.Value
public import proofs.«01_k».proof.Proof.Gen.HeadsRefIdeal.Read
public import Idealize.ShloMosaic.Lib.Pipeline.ValueKit
public import Idealize.ShloMosaic.Lib.Pointwise.Tactic
public import Idealize.ShloMosaic.Lib.Pipeline.Value
public import Idealize.ShloMosaic.Lib.Quiescent
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.HeadsIdeal.RefValue

open Cert.HeadsIdeal Cert.HeadsIdeal.Gen

variable (m : (ℓ : Loc nD τ sig) → Buf (Elt Ideal) ℓ) (ρ : Dev nD → PrngReg)

/-- The reference's result, as a function of this program's arguments. -/
abbrev G (c : Dev nD) : Buf (Elt Ideal) ((c : Thread nD τ).loc main_v3) :=
  Cert.HeadsRefIdeal.Read.val_main_v20 (F := Ideal) (m ((c : Thread nD τ).loc main_arg0))
    (m ((c : Thread nD τ).loc main_arg1)) (m ((c : Thread nD τ).loc main_arg2)) (m ((c : Thread nD τ).loc main_arg3))

/-- The reference's normalized rows. -/
abbrev Nrm (c : Dev nD) : (⟨2, ![16384, 1024]⟩ : Shape).Idx → EReal :=
  Cert.HeadsRefIdeal.Read.val_main_v13 (F := Ideal) (m ((c : Thread nD τ).loc main_arg0)) (m ((c : Thread nD τ).loc main_arg1))

/-- The windows' blocks by the point's number: the row block changes every eight points, the column block at each. -/
theorem idx : ∀ t : Fin cfg0.N, win0_0.index t = ![t.val / 8, 0] ∧ win0_1.index t = ![0, 0] ∧ win0_2.index t = ![0, t.val % 8]
    ∧ win0_3.index t = ![t.val % 8, t.val / 8, 0] ∧ t.val < 128 :=
  (by decide +kernel : ∀ t : Fin grid0.N, win0_0.index t = ![t.val / 8, 0] ∧ win0_1.index t = ![0, 0] ∧ win0_2.index t = ![0, t.val % 8]
    ∧ win0_3.index t = ![t.val % 8, t.val / 8, 0] ∧ t.val < 128)

/-- What a run's first point leaves in the scratch: the reference's normalized rows of the block. -/
theorem norm_apply (c : Dev nD) (t : Fin cfg0.N) (r : Fin 1024) (k : Fin 1024) :
    k0_pay1 (iblk m c 0 t) (iblk m c 1 t) (ix2 r k) = Nrm m c (ix2 ⟨t.val / 8 * 1024 + r.val, by
      obtain ⟨_, _, _, _, h⟩ := idx t; omega⟩ k) := by
  unfold Nrm
  simp only [Cert.HeadsRefIdeal.Read.val_main_v20_apply, Cert.HeadsRefIdeal.Read.val_main_v19_apply, Cert.HeadsRefIdeal.Read.val_main_v17_apply, Cert.HeadsRefIdeal.Read.val_main_v16_apply, Cert.HeadsRefIdeal.Read.val_main_v15_apply, Cert.HeadsRefIdeal.Read.val_main_v14_apply, Cert.HeadsRefIdeal.Read.val_main_v13_apply, Cert.HeadsRefIdeal.Read.val_main_v12_apply, Cert.HeadsRefIdeal.Read.val_main_v11_apply, Cert.HeadsRefIdeal.Read.val_main_v10_apply, Cert.HeadsRefIdeal.Read.val_main_v9_apply, Cert.HeadsRefIdeal.Read.val_main_v8_apply, Cert.HeadsRefIdeal.Read.val_main_v7_apply, Cert.HeadsRefIdeal.Read.val_main_v6_apply, Cert.HeadsRefIdeal.Read.val_main_cst_1_apply, Cert.HeadsRefIdeal.Read.val_main_v5_apply, Cert.HeadsRefIdeal.Read.val_main_v4_apply, Cert.HeadsRefIdeal.Read.val_main_cst_0_apply, Cert.HeadsRefIdeal.Read.val_main_v3_apply, Cert.HeadsRefIdeal.Read.val_main_v2_apply, Cert.HeadsRefIdeal.Read.val_main_cst_apply, Cert.HeadsRefIdeal.Read.val_main_v1_apply, Cert.HeadsRefIdeal.Read.val_main_v0_apply]
  unfold_payloads
  pointwise []
  blk_point [iblk, V, idx t]

/-- The weights' block: the columns of the two matrices side by side. -/
theorem weight_apply (c : Dev nD) (t : Fin cfg0.N) (k : Fin 1024) (q : Fin 512) :
    iblk m c 2 t (ix2 k q) = if h : t.val % 8 * 512 + q.val < 2048 then
      m ((c : Thread nD τ).loc main_arg2) (ix2 k ⟨t.val % 8 * 512 + q.val, h⟩)
      else m ((c : Thread nD τ).loc main_arg3) (ix2 k ⟨t.val % 8 * 512 + q.val - 2048, by omega⟩) := by
  blk_simp [iblk, idx t]
  entry_read
  pointwise []
  blk_simp [idx t]
  split <;> blk_ext [idx t]

/-- The row blocks of one run of points are one block. -/
theorem iblk0_eq (c : Dev nD) (t t' : Fin cfg0.N) (h : t.val / 8 = t'.val / 8) : iblk m c 0 t = iblk m c 0 t' := by
  funext y
  blk_ext [iblk, V, idx t, idx t']

theorem iblk1_eq (c : Dev nD) (t t' : Fin cfg0.N) : iblk m c 1 t = iblk m c 1 t' := by
  funext y
  blk_ext [iblk, V, idx t, idx t']

/-- The scratch holds the block's normalized rows after every point of the run. -/
theorem scratch (c : Dev nD) : ∀ (n : ℕ) (h : n < cfg0.N),
    (outsAt0 m c n h).2 = k0_pay1 (iblk m c 0 ⟨n, h⟩) (iblk m c 1 ⟨n, h⟩)
  | 0, h => by
    rw [outsAt0_A m c ⟨0, h⟩ (Nat.zero_mod _)]
    frame_out
  | n + 1, h => by
    by_cases h0 : (n + 1) % 8 = 0
    · rw [outsAt0_A m c ⟨n + 1, h⟩ h0]
      frame_out
    · rw [outsAt0_B m c ⟨n + 1, h⟩ h0]
      dsimp only [sout0_B_0]
      show (outsAt0 m c n (Nat.lt_of_succ_lt h)).2 = _
      rw [scratch c n]
      exact congrArg₂ k0_pay1 (iblk0_eq m c ⟨n, _⟩ ⟨n + 1, h⟩ (by show n / 8 = (n + 1) / 8; omega))
        (iblk1_eq m c ⟨n, _⟩ ⟨n + 1, h⟩)

/-- So does a later point find it. -/
theorem scratch_prev (c : Dev nD) (t : Fin cfg0.N) (h0 : ¬t.val % 8 = 0) (h : t.val - 1 < cfg0.N) :
    (outsAt0 m c (t.val - 1) h).2 = k0_pay1 (iblk m c 0 t) (iblk m c 1 t) :=
  (scratch m c _ h).trans (congrArg₂ k0_pay1
    (iblk0_eq m c ⟨t.val - 1, h⟩ t (by show (t.val - 1) / 8 = t.val / 8; omega)) (iblk1_eq m c ⟨t.val - 1, h⟩ t))

/-- A product of the normalized rows with a block of the weights, split into its four heads. -/
abbrev Hd (s : Vec Ideal S1024x1024 .bf16) (w : Vec Ideal S1024x512 .bf16) (y : S4x1024x128.Idx) : EReal :=
  ∑ k : Fin 1024, s (ix2 ⟨(y 1).val, (y 1).isLt⟩ k) * w (ix2 k ⟨128 * (y 0).val + (y 2).val, by
    have h0 : (y 0).val < 4 := (y 0).isLt
    have h2 : (y 2).val < 128 := (y 2).isLt
    omega⟩)

theorem canon_eq (s : Vec Ideal S1024x1024 .bf16) (w : Vec Ideal S1024x512 .bf16) (y : S4x1024x128.Idx) :
    (View.canon (Val := Elt Ideal) (s := S4x1024x128) (e := .bf16)
      [⟨Rect.unit ![3, 0, 0] ![1, 1024, 128] inb_S4x1024x128_S1x1024x128_3_0_0, k0_pay6 s w⟩,
        ⟨Rect.unit ![2, 0, 0] ![1, 1024, 128] inb_S4x1024x128_S1x1024x128_2_0_0, k0_pay5 s w⟩,
        ⟨Rect.unit ![1, 0, 0] ![1, 1024, 128] inb_S4x1024x128_S1x1024x128_1_0_0, k0_pay4 s w⟩,
        ⟨Rect.unit ![0, 0, 0] ![1, 1024, 128] inb_S4x1024x128_S1x1024x128_0_0_0, k0_pay3 s w⟩] y : EReal)
      = Hd s w y := by
  canon_tiles x h
  all_goals unfold_payloads
  all_goals unfold Hd
  all_goals pointwise [dot_S1024x1024_S1024x512_S1024x512_1_0_0_1_n_n]
  all_goals blk_point []

theorem after_eq (c : Dev nD) (t : Fin cfg0.N) (y : S4x1024x128.Idx) :
    (outsAt0 m c t.val t.isLt).1 y = Hd (k0_pay1 (iblk m c 0 t) (iblk m c 1 t)) (iblk m c 2 t) y := by
  by_cases h0 : t.val % 8 = 0
  · rw [outsAt0_A m c t h0]
    frame_out
    exact canon_eq _ _ y
  · rw [outsAt0_B m c t h0]
    rw [scratch_prev m c t h0]
    frame_out
    simp only [read_unread_whole]
    exact canon_eq _ _ y

/-- The reference's result at a head, a row and a column. -/
theorem G_apply (c : Dev nD) (h : Fin 32) (r : Fin 16384) (l : Fin 128) :
    G m c (ix3 h r l) = if hh : h.val < 16 then
      ∑ k : Fin 1024, Nrm m c (ix2 r k) * m ((c : Thread nD τ).loc main_arg2) (ix2 k ⟨h.val * 128 + l.val, by omega⟩)
      else ∑ k : Fin 1024, Nrm m c (ix2 r k) * m ((c : Thread nD τ).loc main_arg3) (ix2 k ⟨(h.val - 16) * 128 + l.val, by omega⟩) := by
  unfold G Nrm
  simp only [Cert.HeadsRefIdeal.Read.val_main_v20_apply, Cert.HeadsRefIdeal.Read.val_main_v19_apply]
  unfold Cert.HeadsRefIdeal.Read.val_main_v18
  pointwise [Cert.HeadsRefIdeal.Read.val_main_v17_apply, Cert.HeadsRefIdeal.Read.val_main_v16_apply, Cert.HeadsRefIdeal.Read.val_main_v15_apply, Cert.HeadsRefIdeal.Read.val_main_v14_apply]
  split <;> blk_point []

/-- Every block written back is the reference's result there, so the whole array is. -/
theorem final (c : Dev nD) : (dats m 0 c).arrAt 3 cfg0.N = G m c := by
  refine (dats m 0 c).arrAt_eq_of_covers 3 _ (by decide +kernel) fun t hf y => ?_
  blk_simp; rw [after0_3, after_eq]
  obtain ⟨-, -, -, e3, ht⟩ := idx t
  have h0 : (y 0).val < 4 := (y 0).isLt
  have h1 : (y 1).val < 1024 := (y 1).isLt
  have h2 : (y 2).val < 128 := (y 2).isLt
  have he : (win0_3.blk t).view.emb y = ix3 (⟨4 * (t.val % 8) + (y 0).val, by omega⟩ : Fin 32)
      (⟨t.val / 8 * 1024 + (y 1).val, by omega⟩ : Fin 16384) (⟨(y 2).val, h2⟩ : Fin 128) := by
    blk_ext [idx t]
  rw [he, G_apply]
  unfold Hd
  simp only [norm_apply, weight_apply]
  by_cases hh : 4 * (t.val % 8) + (y 0).val < 16
  · rw [dif_pos hh]
    have h' : t.val % 8 * 512 + (128 * (y 0).val + (y 2).val) < 2048 := by omega
    simp only [dif_pos h']
    blk_point []
  · rw [dif_neg hh]
    have h' : ¬ t.val % 8 * 512 + (128 * (y 0).val + (y 2).val) < 2048 := by omega
    simp only [dif_neg h']
    blk_point []

end Cert.HeadsIdeal.RefValue

namespace Cert.HeadsCert

/-- The kernel as printed runs and keeps its arguments. -/
theorem frame_kernel : Cert.quiescent_Heads (hHeads := Cert.Heads.Gen.facts) :=
  fun m ρ _ => Cert.Heads.Gen.frame m ρ

/-- So does its idealization. -/
theorem frame_ideal : Cert.quiescent_HeadsIdeal (hHeadsIdeal := Cert.HeadsIdeal.Gen.facts) :=
  fun m ρ _ => Cert.HeadsIdeal.Gen.frame m ρ

/-- And the reference. -/
theorem frame_ref : Cert.quiescent_HeadsRefIdeal (hHeadsRefIdeal := Cert.HeadsRefIdeal.Gen.facts) :=
  fun m ρ _ => (θ_run Cert.HeadsRefIdeal.defs _ _).mono
    (fun r h => ⟨fun c => (h c).2, Idealize.ShloMosaic.sem_eq_zero_of_no_sems (by decide) r.2⟩)
    (Cert.HeadsRefIdeal.Value.run (F := Ideal) m ρ)

/-- On equal arguments the kernel and the reference end with equal results. -/
theorem algebraic : Cert.algebraic_HeadsIdeal_HeadsRefIdeal (hHeadsIdeal := Cert.HeadsIdeal.Gen.facts)
    (hHeadsRefIdeal := Cert.HeadsRefIdeal.Gen.facts) := by
  intro m ρ m' ρ' _ hagree
  refine ⟨fun c => Cert.HeadsIdeal.RefValue.G m c, ?_, ?_⟩
  · exact (θ_run Cert.HeadsIdeal.defs _ _).mono
      (fun _ h c => ⟨(h c).1.trans (Cert.HeadsIdeal.RefValue.final m c), (h c).2⟩)
      (Cert.HeadsIdeal.Value.run_blocks (F := Ideal) m ρ)
  · refine (θ_run Cert.HeadsRefIdeal.defs _ _).mono (fun _ h c => ⟨(h c).1.trans ?_, (h c).2⟩)
      (Cert.HeadsRefIdeal.Value.run (F := Ideal) m' ρ')
    rw [(hagree c).1, (hagree c).2.1, (hagree c).2.2.1, (hagree c).2.2.2]
    exact Cert.HeadsRefIdeal.Read.val_main_v20_eq _ _ _ _

end Cert.HeadsCert
-- ==== Proof.LatentNormsValue.lean ====
module

public import proofs.«01_k».proof.Defs
public import proofs.«01_k».proof.Proof.Gen.LatentNorms.Frame
public import proofs.«01_k».proof.Proof.Gen.LatentNormsIdeal.Value
public import proofs.«01_k».proof.Proof.Gen.LatentNormsRefIdeal.Read
public import Idealize.ShloMosaic.Lib.Pipeline.ValueKit
public import Idealize.ShloMosaic.Lib.Pointwise.Tactic
public import Idealize.ShloMosaic.Lib.Pipeline.Value
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.LatentNormsIdeal.RefValue

open Cert.LatentNormsIdeal Cert.LatentNormsIdeal.Gen

variable (m : (ℓ : Loc nD τ sig) → Buf (Elt Ideal) ℓ) (ρ : Dev nD → PrngReg)

/-- The input blocks' indices at each grid point. -/
theorem idx : ∀ t : Fin cfg0.N, win0_0.index t = ![16 * win0_3.index t 0 + win0_3.index t 1, 1] ∧ win0_1.index t = ![0, 0] ∧ win0_2.index t = ![0, 0]
    ∧ win0_4.index t = ![win0_3.index t 0, 0, win0_3.index t 1] ∧ win0_5.index t = ![win0_3.index t 0, win0_3.index t 1, 0] :=
  (by decide +kernel : ∀ t : Fin grid0.N, win0_0.index t = ![16 * win0_3.index t 0 + win0_3.index t 1, 1] ∧ win0_1.index t = ![0, 0] ∧ win0_2.index t = ![0, 0]
    ∧ win0_4.index t = ![win0_3.index t 0, 0, win0_3.index t 1] ∧ win0_5.index t = ![win0_3.index t 0, win0_3.index t 1, 0])

theorem row : ∀ t : Fin cfg0.N, win0_3.index t 2 = 0 ∧ win0_3.index t 1 < 16 ∧ win0_3.index t 0 < 2 :=
  (by decide +kernel : ∀ t : Fin grid0.N, win0_3.index t 2 = 0 ∧ win0_3.index t 1 < 16 ∧ win0_3.index t 0 < 2)

/-- The reference's result, as a function of this program's arguments. -/
abbrev G3 (c : Dev nD) : Buf (Elt Ideal) ((c : Thread nD τ).loc main_v2_0) :=
  Cert.LatentNormsRefIdeal.Read.val_main_v15 (F := Ideal) (m ((c : Thread nD τ).loc main_arg0)) (m ((c : Thread nD τ).loc main_arg1))

/-- Every block written back is the reference's result there, so the whole array is. -/
theorem final3 (c : Dev nD) : (dats m 0 c).arrAt 3 cfg0.N = G3 m c := by
  refine (dats m 0 c).arrAt_eq_of_covers 3 _ (by decide +kernel) fun t hf y => ?_
  blk_simp; rw [after0_3]; frame_out
  unfold G3
  simp only [Cert.LatentNormsRefIdeal.Read.val_main_v32_apply, Cert.LatentNormsRefIdeal.Read.val_main_v31_apply, Cert.LatentNormsRefIdeal.Read.val_main_v30_apply, Cert.LatentNormsRefIdeal.Read.val_main_v29_apply, Cert.LatentNormsRefIdeal.Read.val_main_v28_apply, Cert.LatentNormsRefIdeal.Read.val_main_v27_apply, Cert.LatentNormsRefIdeal.Read.val_main_v26_apply, Cert.LatentNormsRefIdeal.Read.val_main_v25_apply, Cert.LatentNormsRefIdeal.Read.val_main_v24_apply, Cert.LatentNormsRefIdeal.Read.val_main_v23_apply, Cert.LatentNormsRefIdeal.Read.val_main_v22_apply, Cert.LatentNormsRefIdeal.Read.val_main_cst_4_apply, Cert.LatentNormsRefIdeal.Read.val_main_v21_apply, Cert.LatentNormsRefIdeal.Read.val_main_v20_apply, Cert.LatentNormsRefIdeal.Read.val_main_cst_3_apply, Cert.LatentNormsRefIdeal.Read.val_main_v19_apply, Cert.LatentNormsRefIdeal.Read.val_main_v18_apply, Cert.LatentNormsRefIdeal.Read.val_main_cst_2_apply, Cert.LatentNormsRefIdeal.Read.val_main_v17_apply, Cert.LatentNormsRefIdeal.Read.val_main_v16_apply, Cert.LatentNormsRefIdeal.Read.val_main_v15_apply, Cert.LatentNormsRefIdeal.Read.val_main_v14_apply, Cert.LatentNormsRefIdeal.Read.val_main_v13_apply, Cert.LatentNormsRefIdeal.Read.val_main_v12_apply, Cert.LatentNormsRefIdeal.Read.val_main_v11_apply, Cert.LatentNormsRefIdeal.Read.val_main_v10_apply, Cert.LatentNormsRefIdeal.Read.val_main_v9_apply, Cert.LatentNormsRefIdeal.Read.val_main_v8_apply, Cert.LatentNormsRefIdeal.Read.val_main_v7_apply, Cert.LatentNormsRefIdeal.Read.val_main_v6_apply, Cert.LatentNormsRefIdeal.Read.val_main_cst_1_apply, Cert.LatentNormsRefIdeal.Read.val_main_v5_apply, Cert.LatentNormsRefIdeal.Read.val_main_v4_apply, Cert.LatentNormsRefIdeal.Read.val_main_cst_0_apply, Cert.LatentNormsRefIdeal.Read.val_main_v3_apply, Cert.LatentNormsRefIdeal.Read.val_main_v2_apply, Cert.LatentNormsRefIdeal.Read.val_main_cst_apply, Cert.LatentNormsRefIdeal.Read.val_main_v1_apply, Cert.LatentNormsRefIdeal.Read.val_main_v0_apply]
  unfold_payloads
  idx_vars y
  pointwise []
  blk_point [iblk, V, idx t]
  all_goals (obtain ⟨e0, e1, e2⟩ := row t; (try rw [e0]); omega)

/-- The reference's result, as a function of this program's arguments. -/
abbrev G4 (c : Dev nD) : Buf (Elt Ideal) ((c : Thread nD τ).loc main_v2_1) :=
  Cert.LatentNormsRefIdeal.Read.val_main_v32 (F := Ideal) (m ((c : Thread nD τ).loc main_arg0)) (m ((c : Thread nD τ).loc main_arg1))

/-- Every block written back is the reference's result there, so the whole array is. -/
theorem final4 (c : Dev nD) : (dats m 0 c).arrAt 4 cfg0.N = G4 m c := by
  refine (dats m 0 c).arrAt_eq_of_covers 4 _ (by decide +kernel) fun t hf y => ?_
  blk_simp; rw [after0_4]; frame_out
  unfold G4
  simp only [Cert.LatentNormsRefIdeal.Read.val_main_v32_apply, Cert.LatentNormsRefIdeal.Read.val_main_v31_apply, Cert.LatentNormsRefIdeal.Read.val_main_v30_apply, Cert.LatentNormsRefIdeal.Read.val_main_v29_apply, Cert.LatentNormsRefIdeal.Read.val_main_v28_apply, Cert.LatentNormsRefIdeal.Read.val_main_v27_apply, Cert.LatentNormsRefIdeal.Read.val_main_v26_apply, Cert.LatentNormsRefIdeal.Read.val_main_v25_apply, Cert.LatentNormsRefIdeal.Read.val_main_v24_apply, Cert.LatentNormsRefIdeal.Read.val_main_v23_apply, Cert.LatentNormsRefIdeal.Read.val_main_v22_apply, Cert.LatentNormsRefIdeal.Read.val_main_cst_4_apply, Cert.LatentNormsRefIdeal.Read.val_main_v21_apply, Cert.LatentNormsRefIdeal.Read.val_main_v20_apply, Cert.LatentNormsRefIdeal.Read.val_main_cst_3_apply, Cert.LatentNormsRefIdeal.Read.val_main_v19_apply, Cert.LatentNormsRefIdeal.Read.val_main_v18_apply, Cert.LatentNormsRefIdeal.Read.val_main_cst_2_apply, Cert.LatentNormsRefIdeal.Read.val_main_v17_apply, Cert.LatentNormsRefIdeal.Read.val_main_v16_apply, Cert.LatentNormsRefIdeal.Read.val_main_v15_apply, Cert.LatentNormsRefIdeal.Read.val_main_v14_apply, Cert.LatentNormsRefIdeal.Read.val_main_v13_apply, Cert.LatentNormsRefIdeal.Read.val_main_v12_apply, Cert.LatentNormsRefIdeal.Read.val_main_v11_apply, Cert.LatentNormsRefIdeal.Read.val_main_v10_apply, Cert.LatentNormsRefIdeal.Read.val_main_v9_apply, Cert.LatentNormsRefIdeal.Read.val_main_v8_apply, Cert.LatentNormsRefIdeal.Read.val_main_v7_apply, Cert.LatentNormsRefIdeal.Read.val_main_v6_apply, Cert.LatentNormsRefIdeal.Read.val_main_cst_1_apply, Cert.LatentNormsRefIdeal.Read.val_main_v5_apply, Cert.LatentNormsRefIdeal.Read.val_main_v4_apply, Cert.LatentNormsRefIdeal.Read.val_main_cst_0_apply, Cert.LatentNormsRefIdeal.Read.val_main_v3_apply, Cert.LatentNormsRefIdeal.Read.val_main_v2_apply, Cert.LatentNormsRefIdeal.Read.val_main_cst_apply, Cert.LatentNormsRefIdeal.Read.val_main_v1_apply, Cert.LatentNormsRefIdeal.Read.val_main_v0_apply]
  unfold_payloads
  idx_vars y
  pointwise []
  blk_point [iblk, V, idx t]
  all_goals (obtain ⟨e0, e1, e2⟩ := row t; (try rw [e0]); omega)

/-- The reference's result, as a function of this program's arguments. -/
abbrev G5 (c : Dev nD) : Buf (Elt Ideal) ((c : Thread nD τ).loc main_v2_2) :=
  Cert.LatentNormsRefIdeal.Read.val_main_v31 (F := Ideal) (m ((c : Thread nD τ).loc main_arg0)) (m ((c : Thread nD τ).loc main_arg2))

/-- Every block written back is the reference's result there, so the whole array is. -/
theorem final5 (c : Dev nD) : (dats m 0 c).arrAt 5 cfg0.N = G5 m c := by
  refine (dats m 0 c).arrAt_eq_of_covers 5 _ (by decide +kernel) fun t hf y => ?_
  blk_simp; rw [after0_5]; frame_out
  unfold G5
  simp only [Cert.LatentNormsRefIdeal.Read.val_main_v32_apply, Cert.LatentNormsRefIdeal.Read.val_main_v31_apply, Cert.LatentNormsRefIdeal.Read.val_main_v30_apply, Cert.LatentNormsRefIdeal.Read.val_main_v29_apply, Cert.LatentNormsRefIdeal.Read.val_main_v28_apply, Cert.LatentNormsRefIdeal.Read.val_main_v27_apply, Cert.LatentNormsRefIdeal.Read.val_main_v26_apply, Cert.LatentNormsRefIdeal.Read.val_main_v25_apply, Cert.LatentNormsRefIdeal.Read.val_main_v24_apply, Cert.LatentNormsRefIdeal.Read.val_main_v23_apply, Cert.LatentNormsRefIdeal.Read.val_main_v22_apply, Cert.LatentNormsRefIdeal.Read.val_main_cst_4_apply, Cert.LatentNormsRefIdeal.Read.val_main_v21_apply, Cert.LatentNormsRefIdeal.Read.val_main_v20_apply, Cert.LatentNormsRefIdeal.Read.val_main_cst_3_apply, Cert.LatentNormsRefIdeal.Read.val_main_v19_apply, Cert.LatentNormsRefIdeal.Read.val_main_v18_apply, Cert.LatentNormsRefIdeal.Read.val_main_cst_2_apply, Cert.LatentNormsRefIdeal.Read.val_main_v17_apply, Cert.LatentNormsRefIdeal.Read.val_main_v16_apply, Cert.LatentNormsRefIdeal.Read.val_main_v15_apply, Cert.LatentNormsRefIdeal.Read.val_main_v14_apply, Cert.LatentNormsRefIdeal.Read.val_main_v13_apply, Cert.LatentNormsRefIdeal.Read.val_main_v12_apply, Cert.LatentNormsRefIdeal.Read.val_main_v11_apply, Cert.LatentNormsRefIdeal.Read.val_main_v10_apply, Cert.LatentNormsRefIdeal.Read.val_main_v9_apply, Cert.LatentNormsRefIdeal.Read.val_main_v8_apply, Cert.LatentNormsRefIdeal.Read.val_main_v7_apply, Cert.LatentNormsRefIdeal.Read.val_main_v6_apply, Cert.LatentNormsRefIdeal.Read.val_main_cst_1_apply, Cert.LatentNormsRefIdeal.Read.val_main_v5_apply, Cert.LatentNormsRefIdeal.Read.val_main_v4_apply, Cert.LatentNormsRefIdeal.Read.val_main_cst_0_apply, Cert.LatentNormsRefIdeal.Read.val_main_v3_apply, Cert.LatentNormsRefIdeal.Read.val_main_v2_apply, Cert.LatentNormsRefIdeal.Read.val_main_cst_apply, Cert.LatentNormsRefIdeal.Read.val_main_v1_apply, Cert.LatentNormsRefIdeal.Read.val_main_v0_apply]
  unfold_payloads
  idx_vars y
  pointwise []
  blk_point [iblk, V, idx t]
  all_goals (obtain ⟨e0, e1, e2⟩ := row t; (try rw [e0]); omega)

end Cert.LatentNormsIdeal.RefValue

namespace Cert.LatentNormsCert

/-- The kernel as printed runs and keeps its arguments. -/
theorem frame_kernel : Cert.quiescent_LatentNorms (hLatentNorms := Cert.LatentNorms.Gen.facts) :=
  fun m ρ _ => Cert.LatentNorms.Gen.frame m ρ

/-- So does its idealization. -/
theorem frame_ideal : Cert.quiescent_LatentNormsIdeal (hLatentNormsIdeal := Cert.LatentNormsIdeal.Gen.facts) :=
  fun m ρ _ => Cert.LatentNormsIdeal.Gen.frame m ρ

/-- And the reference. -/
theorem frame_ref : Cert.quiescent_LatentNormsRefIdeal (hLatentNormsRefIdeal := Cert.LatentNormsRefIdeal.Gen.facts) :=
  fun m ρ _ => (θ_run Cert.LatentNormsRefIdeal.defs _ _).mono
    (fun r h => ⟨fun c => (h c).2.2.2, Idealize.ShloMosaic.sem_eq_zero_of_no_sems (by decide) r.2⟩)
    (Cert.LatentNormsRefIdeal.Value.run (F := Ideal) m ρ)

/-- On equal arguments the kernel and the reference end with equal results. -/
theorem algebraic : Cert.algebraic_LatentNormsIdeal_LatentNormsRefIdeal (hLatentNormsIdeal := Cert.LatentNormsIdeal.Gen.facts)
    (hLatentNormsRefIdeal := Cert.LatentNormsRefIdeal.Gen.facts) := by
  intro m ρ m' ρ' _ hagree
  refine ⟨fun c => Cert.LatentNormsIdeal.RefValue.G3 m c, fun c => Cert.LatentNormsIdeal.RefValue.G4 m c,
    fun c => Cert.LatentNormsIdeal.RefValue.G5 m c, ?_, ?_⟩
  · exact (θ_run Cert.LatentNormsIdeal.defs _ _).mono
      (fun _ h c => ⟨(h c).1.trans (Cert.LatentNormsIdeal.RefValue.final3 m c),
        (h c).2.1.trans (Cert.LatentNormsIdeal.RefValue.final4 m c),
        (h c).2.2.1.trans (Cert.LatentNormsIdeal.RefValue.final5 m c), (h c).2.2.2⟩)
      (Cert.LatentNormsIdeal.Value.run_blocks (F := Ideal) m ρ)
  · refine (θ_run Cert.LatentNormsRefIdeal.defs _ _).mono (fun _ h c => ⟨(h c).1.trans ?_, (h c).2.1.trans ?_,
      (h c).2.2.1.trans ?_, (h c).2.2.2⟩)
      (Cert.LatentNormsRefIdeal.Value.run (F := Ideal) m' ρ')
    · rw [(hagree c).1, (hagree c).2.1]
      exact Cert.LatentNormsRefIdeal.Read.val_main_v15_eq _ _
    · rw [(hagree c).1, (hagree c).2.1]
      exact Cert.LatentNormsRefIdeal.Read.val_main_v32_eq _ _
    · rw [(hagree c).1, (hagree c).2.2]
      exact Cert.LatentNormsRefIdeal.Read.val_main_v31_eq _ _

end Cert.LatentNormsCert
-- ==== Proof.MixNormValue.lean ====
module

public import proofs.«01_k».proof.Defs
public import proofs.«01_k».proof.Proof.Gen.MixNorm.Frame
public import proofs.«01_k».proof.Proof.Gen.MixNormIdeal.Value
public import proofs.«01_k».proof.Proof.Gen.MixNormRefIdeal.Read
public import Idealize.ShloMosaic.Lib.Pipeline.ValueKit
public import Idealize.ShloMosaic.Lib.Pointwise.Tactic
public import Idealize.ShloMosaic.Lib.Pipeline.Value
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.MixNormIdeal.RefValue

open Cert.MixNormIdeal Cert.MixNormIdeal.Gen

variable (m : (ℓ : Loc nD τ sig) → Buf (Elt Ideal) ℓ) (ρ : Dev nD → PrngReg)

/-- The reference's result, as a function of this program's arguments. -/
abbrev G (c : Dev nD) : Buf (Elt Ideal) ((c : Thread nD τ).loc main_v1) :=
  Cert.MixNormRefIdeal.Read.val_main_v13 (F := Ideal) (m ((c : Thread nD τ).loc main_arg0)) (m ((c : Thread nD τ).loc main_arg1))

/-- The input blocks' indices at each grid point. -/
theorem idx : ∀ t : Fin cfg0.N, win0_0.index t = ![win0_2.index t 0, 0] ∧ win0_1.index t = ![0, 0] :=
  (by decide +kernel : ∀ t : Fin grid0.N, win0_0.index t = ![win0_2.index t 0, 0] ∧ win0_1.index t = ![0, 0])

/-- The output's blocks span the whole row. -/
theorem row : ∀ t : Fin cfg0.N, win0_2.index t 1 = 0 ∧ win0_2.index t 0 < 32 :=
  (by decide +kernel : ∀ t : Fin grid0.N, win0_2.index t 1 = 0 ∧ win0_2.index t 0 < 32)

/-- Every block written back is the reference's result there, so the whole array is. -/
theorem final (c : Dev nD) : (dats m 0 c).arrAt 2 cfg0.N = G m c := by
  refine (dats m 0 c).arrAt_eq_of_covers 2 _ (by decide +kernel) fun t hf y => ?_
  blk_simp; rw [after0_2]; frame_out
  unfold G
  simp only [Cert.MixNormRefIdeal.Read.val_main_v13_apply, Cert.MixNormRefIdeal.Read.val_main_v12_apply, Cert.MixNormRefIdeal.Read.val_main_v11_apply, Cert.MixNormRefIdeal.Read.val_main_v10_apply, Cert.MixNormRefIdeal.Read.val_main_v9_apply, Cert.MixNormRefIdeal.Read.val_main_v8_apply, Cert.MixNormRefIdeal.Read.val_main_v7_apply, Cert.MixNormRefIdeal.Read.val_main_v6_apply, Cert.MixNormRefIdeal.Read.val_main_v5_apply, Cert.MixNormRefIdeal.Read.val_main_cst_1_apply, Cert.MixNormRefIdeal.Read.val_main_v4_apply, Cert.MixNormRefIdeal.Read.val_main_v3_apply, Cert.MixNormRefIdeal.Read.val_main_cst_0_apply, Cert.MixNormRefIdeal.Read.val_main_v2_apply, Cert.MixNormRefIdeal.Read.val_main_v1_apply, Cert.MixNormRefIdeal.Read.val_main_cst_apply, Cert.MixNormRefIdeal.Read.val_main_v0_apply]
  unfold_payloads
  idx_vars y
  pointwise []
  blk_point [iblk, V, idx t]
  all_goals (obtain ⟨e0, e1⟩ := row t; rw [e0]; omega)

end Cert.MixNormIdeal.RefValue

namespace Cert.MixNormCert

/-- The kernel as printed runs and keeps its arguments. -/
theorem frame_kernel : Cert.quiescent_MixNorm (hMixNorm := Cert.MixNorm.Gen.facts) :=
  fun m ρ _ => Cert.MixNorm.Gen.frame m ρ

/-- So does its idealization. -/
theorem frame_ideal : Cert.quiescent_MixNormIdeal (hMixNormIdeal := Cert.MixNormIdeal.Gen.facts) :=
  fun m ρ _ => Cert.MixNormIdeal.Gen.frame m ρ

/-- And the reference. -/
theorem frame_ref : Cert.quiescent_MixNormRefIdeal (hMixNormRefIdeal := Cert.MixNormRefIdeal.Gen.facts) :=
  fun m ρ _ => (θ_run Cert.MixNormRefIdeal.defs _ _).mono
    (fun r h => ⟨fun c => (h c).2, Idealize.ShloMosaic.sem_eq_zero_of_no_sems (by decide) r.2⟩)
    (Cert.MixNormRefIdeal.Value.run (F := Ideal) m ρ)

/-- On equal arguments the kernel and the reference end with equal results. -/
theorem algebraic : Cert.algebraic_MixNormIdeal_MixNormRefIdeal (hMixNormIdeal := Cert.MixNormIdeal.Gen.facts)
    (hMixNormRefIdeal := Cert.MixNormRefIdeal.Gen.facts) := by
  intro m ρ m' ρ' _ hagree
  refine ⟨fun c => Cert.MixNormIdeal.RefValue.G m c, ?_, ?_⟩
  · exact (θ_run Cert.MixNormIdeal.defs _ _).mono
      (fun _ h c => ⟨(h c).1.trans (Cert.MixNormIdeal.RefValue.final m c), (h c).2⟩)
      (Cert.MixNormIdeal.Value.run_blocks (F := Ideal) m ρ)
  · refine (θ_run Cert.MixNormRefIdeal.defs _ _).mono (fun _ h c => ⟨(h c).1.trans ?_, (h c).2⟩)
      (Cert.MixNormRefIdeal.Value.run (F := Ideal) m' ρ')
    rw [(hagree c).1, (hagree c).2]
    exact Cert.MixNormRefIdeal.Read.val_main_v13_eq _ _

end Cert.MixNormCert
-- ==== Proof.CombineValue.lean ====
module

public import proofs.«01_k».proof.Defs
public import proofs.«01_k».proof.Proof.Gen.Combine.Frame
public import proofs.«01_k».proof.Proof.Gen.CombineIdeal.Value
public import proofs.«01_k».proof.Proof.Gen.CombineRefIdeal.Read
public import Idealize.ShloMosaic.Lib.Pipeline.ValueKit
public import Idealize.ShloMosaic.Lib.Pointwise.Tactic
public import Idealize.ShloMosaic.Lib.Pipeline.Value
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.CombineIdeal.RefValue

open Cert.CombineIdeal Cert.CombineIdeal.Gen

variable (m : (ℓ : Loc nD τ sig) → Buf (Elt Ideal) ℓ) (ρ : Dev nD → PrngReg)

/-- The reference's result, as a function of this program's arguments. -/
abbrev G (c : Dev nD) : Buf (Elt Ideal) ((c : Thread nD τ).loc main_v1) :=
  Cert.CombineRefIdeal.Read.val_main_v24 (F := Ideal) (m ((c : Thread nD τ).loc main_arg0)) (m ((c : Thread nD τ).loc main_arg1)) (m ((c : Thread nD τ).loc main_arg2)) (m ((c : Thread nD τ).loc main_arg3))

/-- The input blocks' indices at each grid point. -/
theorem idx : ∀ t : Fin cfg0.N, win0_0.index t = ![win0_5.index t 0, 0] ∧ win0_1.index t = ![0, win0_5.index t 0, 0] ∧ win0_2.index t = ![1, win0_5.index t 0, 0]
    ∧ win0_3.index t = ![win0_5.index t 0, 0] ∧ win0_4.index t = ![0, 0] :=
  (by decide +kernel : ∀ t : Fin grid0.N, win0_0.index t = ![win0_5.index t 0, 0] ∧ win0_1.index t = ![0, win0_5.index t 0, 0] ∧ win0_2.index t = ![1, win0_5.index t 0, 0]
    ∧ win0_3.index t = ![win0_5.index t 0, 0] ∧ win0_4.index t = ![0, 0])

/-- The output's blocks span the whole row. -/
theorem row : ∀ t : Fin cfg0.N, win0_5.index t 1 = 0 ∧ win0_5.index t 0 < 64 :=
  (by decide +kernel : ∀ t : Fin grid0.N, win0_5.index t 1 = 0 ∧ win0_5.index t 0 < 64)

/-- Every block written back is the reference's result there, so the whole array is. -/
theorem final (c : Dev nD) : (dats m 0 c).arrAt 5 cfg0.N = G m c := by
  refine (dats m 0 c).arrAt_eq_of_covers 5 _ (by decide +kernel) fun t hf y => ?_
  blk_simp; rw [after0_5]; frame_out
  unfold G
  simp only [Cert.CombineRefIdeal.Read.val_main_v24_apply, Cert.CombineRefIdeal.Read.val_main_v23_apply, Cert.CombineRefIdeal.Read.val_main_v22_apply, Cert.CombineRefIdeal.Read.val_main_v21_apply, Cert.CombineRefIdeal.Read.val_main_v20_apply, Cert.CombineRefIdeal.Read.val_main_v19_apply, Cert.CombineRefIdeal.Read.val_main_v18_apply, Cert.CombineRefIdeal.Read.val_main_v17_apply, Cert.CombineRefIdeal.Read.val_main_cst_1_apply, Cert.CombineRefIdeal.Read.val_main_v16_apply, Cert.CombineRefIdeal.Read.val_main_v15_apply, Cert.CombineRefIdeal.Read.val_main_cst_0_apply, Cert.CombineRefIdeal.Read.val_main_v14_apply, Cert.CombineRefIdeal.Read.val_main_v13_apply, Cert.CombineRefIdeal.Read.val_main_cst_apply, Cert.CombineRefIdeal.Read.val_main_v12_apply, Cert.CombineRefIdeal.Read.val_main_v11_apply, Cert.CombineRefIdeal.Read.val_main_v10_apply, Cert.CombineRefIdeal.Read.val_main_v9_apply, Cert.CombineRefIdeal.Read.val_main_v8_apply, Cert.CombineRefIdeal.Read.val_main_v7_apply, Cert.CombineRefIdeal.Read.val_main_v6_apply, Cert.CombineRefIdeal.Read.val_main_v5_apply, Cert.CombineRefIdeal.Read.val_main_v4_apply, Cert.CombineRefIdeal.Read.val_main_v3_apply, Cert.CombineRefIdeal.Read.val_main_v2_apply, Cert.CombineRefIdeal.Read.val_main_v1_apply, Cert.CombineRefIdeal.Read.val_main_v0_apply]
  unfold_payloads
  idx_vars y
  pointwise []
  blk_point [iblk, V, idx t]
  all_goals (obtain ⟨e0, e1⟩ := row t; (try rw [e0]); omega)

end Cert.CombineIdeal.RefValue

namespace Cert.CombineCert

/-- The kernel as printed runs and keeps its arguments. -/
theorem frame_kernel : Cert.quiescent_Combine (hCombine := Cert.Combine.Gen.facts) :=
  fun m ρ _ => Cert.Combine.Gen.frame m ρ

/-- So does its idealization. -/
theorem frame_ideal : Cert.quiescent_CombineIdeal (hCombineIdeal := Cert.CombineIdeal.Gen.facts) :=
  fun m ρ _ => Cert.CombineIdeal.Gen.frame m ρ

/-- And the reference. -/
theorem frame_ref : Cert.quiescent_CombineRefIdeal (hCombineRefIdeal := Cert.CombineRefIdeal.Gen.facts) :=
  fun m ρ _ => (θ_run Cert.CombineRefIdeal.defs _ _).mono
    (fun r h => ⟨fun c => (h c).2, Idealize.ShloMosaic.sem_eq_zero_of_no_sems (by decide) r.2⟩)
    (Cert.CombineRefIdeal.Value.run (F := Ideal) m ρ)

/-- On equal arguments the kernel and the reference end with equal results. -/
theorem algebraic : Cert.algebraic_CombineIdeal_CombineRefIdeal (hCombineIdeal := Cert.CombineIdeal.Gen.facts)
    (hCombineRefIdeal := Cert.CombineRefIdeal.Gen.facts) := by
  intro m ρ m' ρ' _ hagree
  refine ⟨fun c => Cert.CombineIdeal.RefValue.G m c, ?_, ?_⟩
  · exact (θ_run Cert.CombineIdeal.defs _ _).mono
      (fun _ h c => ⟨(h c).1.trans (Cert.CombineIdeal.RefValue.final m c), (h c).2⟩)
      (Cert.CombineIdeal.Value.run_blocks (F := Ideal) m ρ)
  · refine (θ_run Cert.CombineRefIdeal.defs _ _).mono (fun _ h c => ⟨(h c).1.trans ?_, (h c).2⟩)
      (Cert.CombineRefIdeal.Value.run (F := Ideal) m' ρ')
    rw [(hagree c).1, (hagree c).2.1, (hagree c).2.2.1, (hagree c).2.2.2]
    exact Cert.CombineRefIdeal.Read.val_main_v24_eq _ _ _ _

end Cert.CombineCert
-- ==== Proof.XattnRow.lean ====
module

public import proofs.«01_k».proof.Proof.SwaSoftmax

/-! The normalised row and the softmax over a row of logits, as the cross-attention kernel and its reference compute them, on
    extended reals. -/

@[expose] public section

noncomputable section

namespace Cert.XattnRow

open Idealize.ShloMosaic Cert.SwaSoftmax

/-- A row divided by its root mean square, times the gains. -/
def nrm (x g : Fin 4096 → EReal) (k : Fin 4096) : EReal :=
  x k * Ideal.rsqrt (Ideal.div (∑ j, x j * x j) (Ideal.ofBits FTy.f32 1166016512#32) + Ideal.ofBits FTy.f32 897988541#32) * g k

/-- The greatest logit. -/
def peak (lg : Fin 256 → EReal) : EReal := Finset.univ.fold max ⊥ lg

/-- The sum of the exponentials. -/
def mass (lg : Fin 256 → EReal) : EReal := ∑ s, Ideal.exp (lg s - peak lg)

/-- The row's weighted sum as the kernel takes it: the exponentials times the reciprocal of their sum. -/
def soft (lg v : Fin 256 → EReal) : EReal := ∑ s, Ideal.exp (lg s - peak lg) * Ideal.div 1 (mass lg) * v s

theorem peak_real {lg : Fin 256 → EReal} (h : ∀ s, IsReal (lg s)) : IsReal (peak lg) := by
  constructor
  · exact ((Finset.sup_lt_iff bot_lt_top).2 fun s _ => lt_top_iff_ne_top.2 (h s).1).ne
  · intro e
    have h0 : lg 0 ≤ Finset.univ.sup lg := Finset.le_sup (f := lg) (Finset.mem_univ 0)
    have e' : Finset.univ.sup lg = ⊥ := e
    rw [e'] at h0
    exact (h 0).2 (le_bot_iff.1 h0)

theorem mass_ne_zero {lg : Fin 256 → EReal} (h : ∀ s, IsReal (lg s)) : mass lg ≠ 0 := by
  have h1 : 0 < Ideal.exp (lg 0 - peak lg) := by
    obtain ⟨a, ha⟩ := (h 0).exists_coe
    obtain ⟨b, hb⟩ := (peak_real h).exists_coe
    rw [ha, hb, ← EReal.coe_sub]
    exact exp_pos (EReal.coe_ne_bot _)
  have h2 : Ideal.exp (lg 0 - peak lg) ≤ mass lg :=
    Finset.single_le_sum (f := fun s => Ideal.exp (lg s - peak lg)) (fun s _ => exp_nonneg _) (Finset.mem_univ 0)
  exact (lt_of_lt_of_le h1 h2).ne'

/-- The reference's row: the values times the quotients. -/
theorem soft_eq (lg v : Fin 256 → EReal) (h : ∀ s, IsReal (lg s)) :
    soft lg v = ∑ s, v s * Ideal.div (Ideal.exp (lg s - peak lg)) (mass lg) := by
  unfold soft
  refine Finset.sum_congr rfl fun s _ => ?_
  rw [div_eq (p := Ideal.exp (lg s - peak lg)) (mass_ne_zero h), mul_comm]

theorem width_eq : Ideal.ofBits FTy.f32 1166016512#32 = ((4096 : ℝ) : EReal) := by
  simp [Ideal.ofBits, Ideal.ieee, -EReal.coe_mul]; norm_num

theorem eps_eq : ∃ e : ℝ, 0 < e ∧ Ideal.ofBits FTy.f32 897988541#32 = (e : EReal) := by
  refine ⟨8796093 * 2 ^ (-43 : ℤ), by positivity, ?_⟩
  simp [Ideal.ofBits, Ideal.ieee, -EReal.coe_mul]

/-- A row of numbers is normalised to numbers. -/
theorem nrm_real {x g : Fin 4096 → EReal} (hx : ∀ k, IsReal (x k)) (hg : ∀ k, IsReal (g k)) (k : Fin 4096) : IsReal (nrm x g k) := by
  unfold nrm
  refine ((hx k).mul ?_).mul (hg k)
  obtain ⟨e, he, h⟩ := eps_eq
  choose f hf using fun k => (hx k).exists_coe
  have hs : ∑ j, x j * x j = ((∑ j, f j * f j : ℝ) : EReal) := by
    simp only [hf, ← EReal.coe_mul]
    exact (map_sum (⟨⟨Real.toEReal, EReal.coe_zero⟩, EReal.coe_add⟩ : ℝ →+ EReal) (fun j => f j * f j) Finset.univ).symm
  have hn : 0 ≤ ∑ j, f j * f j := Finset.sum_nonneg fun j _ => mul_self_nonneg (f j)
  rw [h, width_eq, hs]
  unfold Ideal.div
  rw [if_neg (by norm_num), ← EReal.coe_inv, ← EReal.coe_mul, ← EReal.coe_add]
  generalize hr : (∑ j, f j * f j) * (4096 : ℝ)⁻¹ + e = r
  have hp : 0 < r := by rw [← hr]; positivity
  show IsReal (if r < 0 then ⊥ else if r = 0 then ⊤ else (((Real.sqrt r)⁻¹ : ℝ) : EReal))
  rw [if_neg (not_lt.2 hp.le), if_neg hp.ne']
  exact IsReal.coe _

end Cert.XattnRow
-- ==== Proof.XattnBlk.lean ====
module

public import proofs.«01_k».proof.Defs
public import proofs.«01_k».proof.Proof.Gen.Xattn.Frame
public import proofs.«01_k».proof.Proof.Gen.XattnIdeal.Value
public import proofs.«01_k».proof.Proof.Gen.XattnRefIdeal.Read
public import Idealize.ShloMosaic.Lib.Pipeline.ValueKit
public import Idealize.ShloMosaic.Lib.Pointwise.Tactic
public import Idealize.ShloMosaic.Lib.Pipeline.Value
public import Idealize.ShloMosaic.Lib.Quiescent
public import proofs.«01_k».proof.Proof.XattnRow

@[expose] public section

set_option maxRecDepth 16384

noncomputable section

open Idealize.ShloMosaic Idealize.ShloMosaic.TcCoe Idealize.SL.Sem
open Idealize.ShloMosaic.Pipeline (Dat)

/-! The kernel's input blocks, element by element, as the arguments. -/

namespace Cert.XattnIdeal.RefValue

open Cert.XattnIdeal Cert.XattnIdeal.Gen

variable (m : (ℓ : Loc nD τ sig) → Buf (Elt Ideal) ℓ) (ρ : Dev nD → PrngReg)

/-- The blocks' indices at each grid point. -/
theorem idx : ∀ t : Fin cfg0.N, win0_0.index t = ![t.val, 0] ∧ win0_1.index t = ![0, 0] ∧ win0_2.index t = ![0, 0] ∧ win0_3.index t = ![t.val / 32, 0, 0]
    ∧ win0_4.index t = ![0, 0] ∧ win0_5.index t = ![0, 0] ∧ win0_6.index t = ![0, 0] ∧ win0_7.index t = ![t.val, 0] ∧ win0_9.index t = ![t.val, 0] ∧ t.val < 64 :=
  (by decide +kernel : ∀ t : Fin grid0.N, win0_0.index t = ![t.val, 0] ∧ win0_1.index t = ![0, 0] ∧ win0_2.index t = ![0, 0] ∧ win0_3.index t = ![t.val / 32, 0, 0]
    ∧ win0_4.index t = ![0, 0] ∧ win0_5.index t = ![0, 0] ∧ win0_6.index t = ![0, 0] ∧ win0_7.index t = ![t.val, 0] ∧ win0_9.index t = ![t.val, 0] ∧ t.val < 64)

theorem point_lt (t : Fin cfg0.N) : t.val < 64 := (idx t).2.2.2.2.2.2.2.2.2

theorem x_apply (c : Dev nD) (t : Fin cfg0.N) (r : Fin 256) (k : Fin 4096) :
    iblk m c 0 t (ix2 r k) = m ((c : Thread nD τ).loc main_arg0) (ix2 (⟨256 * t.val + r.val, by have := point_lt t; omega⟩ : Fin 16384) k) := by
  blk_point [iblk, V, idx t]

/-- The gains as a row. -/
theorem v5_arr (c : Dev nD) : V m c main_v5 = (shapeCast S1x4096 (m ((c : Thread nD τ).loc main_arg1)) shapeCasts_S4096_S1x4096 : Vec Ideal S1x4096 .f32) := by
  rw [show V m c main_v5 = StableHlo.after (hostOps0 ++ hostOps0_1 ++ hostOps0_2) (fun b => m (c, b)) (Proc.devRef .tc main_v5) from rfl]
  simp only [hostOps0, hostOps0_1, hostOps0_2, List.cons_append, List.nil_append]
  after_results_simp
  rfl

/-- The second gains as a row. -/
theorem v6_arr (c : Dev nD) : V m c main_v6 = (shapeCast S1x4096 (m ((c : Thread nD τ).loc main_arg5)) shapeCasts_S4096_S1x4096 : Vec Ideal S1x4096 .f32) := by
  rw [show V m c main_v6 = StableHlo.after (hostOps0 ++ hostOps0_1 ++ hostOps0_2) (fun b => m (c, b)) (Proc.devRef .tc main_v6) from rfl]
  simp only [hostOps0, hostOps0_1, hostOps0_2, List.cons_append, List.nil_append]
  after_results_simp
  rfl

/-- The router weights, padded. -/
theorem v2_arr (c : Dev nD) : V m c main_v2 = (truncf .bf16 (pad S4096x128 ![0, 0] ![0, 56] ![0, 0] (concatenate S4096x72 1
    [⟨S4096x8, m ((c : Thread nD τ).loc main_arg6)⟩, ⟨S4096x64, m ((c : Thread nD τ).loc main_arg7)⟩] concatenates_S4096x8_S4096x64_S4096x72_d1 : FVec Ideal S4096x72 .f32)
    (sitofp .f32 (constantI S_ 32 0#32) : FVec Ideal S_ .f32) pads_S4096x72_S4096x128_000_0560 h_S_ : FVec Ideal S4096x128 .f32) bitsLt_bf16_f32 : FVec Ideal S4096x128 .bf16) := by
  rw [show V m c main_v2 = StableHlo.after (hostOps0 ++ hostOps0_1 ++ hostOps0_2) (fun b => m (c, b)) (Proc.devRef .tc main_v2) from rfl]
  simp only [hostOps0, hostOps0_1, hostOps0_2, List.cons_append, List.nil_append]
  after_results_simp
  simp only [StableHlo.TRef.ofBuf_toBuf, id]
  rfl

theorem sitofp_zero : FloatOps.sitofp (F := Ideal) FTy.f32 (0#32) = (0 : EReal) := by
  show (((0#32).toInt : ℝ) : EReal) = 0
  simp

theorem row_apply (z : FVec Ideal S4096 .f32) (k : Fin 4096) :
    (shapeCast S1x4096 z shapeCasts_S4096_S1x4096 : FVec Ideal S1x4096 .f32) (ix2 (0 : Fin 1) k) = z (ix1 k) := by
  pointwise []

theorem g_apply (c : Dev nD) (t : Fin cfg0.N) (k : Fin 4096) :
    iblk m c 1 t (ix2 (0 : Fin 1) k) = m ((c : Thread nD τ).loc main_arg1) (ix1 k) := by
  have e : iblk m c 1 t (ix2 (0 : Fin 1) k) = V m c main_v5 (ix2 (0 : Fin 1) k) := by
    blk_point [iblk, idx t]
  rw [e, v5_arr]
  exact row_apply _ k

theorem wq_apply (c : Dev nD) (t : Fin cfg0.N) (i : Fin 4096) (j : Fin 512) :
    iblk m c 2 t (ix2 i j) = m ((c : Thread nD τ).loc main_arg2) (ix2 i j) := by
  blk_simp [iblk, idx t]
  entry_read
  pointwise []
  blk_point [idx t]

theorem kv_apply (c : Dev nD) (t : Fin cfg0.N) (s : Fin 256) (j : Fin 1024) :
    iblk m c 3 t (ix3 (0 : Fin 1) s j) = m ((c : Thread nD τ).loc main_arg3) (ix3 (⟨t.val / 32, by have := point_lt t; omega⟩ : Fin 2) s j) := by
  blk_point [iblk, V, idx t]

theorem wo_apply (c : Dev nD) (t : Fin cfg0.N) (j : Fin 512) (k : Fin 4096) :
    iblk m c 4 t (ix2 j k) = m ((c : Thread nD τ).loc main_arg4) (ix2 j k) := by
  blk_simp [iblk, idx t]
  entry_read
  pointwise []
  blk_point [idx t]

theorem g2_apply (c : Dev nD) (t : Fin cfg0.N) (k : Fin 4096) :
    iblk m c 5 t (ix2 (0 : Fin 1) k) = m ((c : Thread nD τ).loc main_arg5) (ix1 k) := by
  have e : iblk m c 5 t (ix2 (0 : Fin 1) k) = V m c main_v6 (ix2 (0 : Fin 1) k) := by
    blk_point [iblk, idx t]
  rw [e, v6_arr]
  exact row_apply _ k

theorem wr_apply (c : Dev nD) (t : Fin cfg0.N) (k : Fin 4096) (e : Fin 128) :
    iblk m c 6 t (ix2 k e) = if h : e.val < 72 then (if h' : e.val < 8 then m ((c : Thread nD τ).loc main_arg6) (ix2 k (⟨e.val, h'⟩ : Fin 8))
      else m ((c : Thread nD τ).loc main_arg7) (ix2 k (⟨e.val - 8, by omega⟩ : Fin 64))) else (0 : EReal) := by
  have e : iblk m c 6 t (ix2 k e) = V m c main_v2 (ix2 k e) := by
    blk_point [iblk, idx t]
  rw [e, v2_arr]
  pointwise []
  rw [sitofp_zero]

end Cert.XattnIdeal.RefValue
-- ==== Proof.XattnKern.lean ====
module

public import proofs.«01_k».proof.Defs
public import proofs.«01_k».proof.Proof.Gen.Xattn.Frame
public import proofs.«01_k».proof.Proof.Gen.XattnIdeal.Value
public import proofs.«01_k».proof.Proof.Gen.XattnRefIdeal.Read
public import Idealize.ShloMosaic.Lib.Pipeline.ValueKit
public import Idealize.ShloMosaic.Lib.Pointwise.Tactic
public import Idealize.ShloMosaic.Lib.Pipeline.Value
public import Idealize.ShloMosaic.Lib.Quiescent
public import proofs.«01_k».proof.Proof.XattnRow

@[expose] public section

set_option maxRecDepth 16384

noncomputable section

open Idealize.ShloMosaic Idealize.ShloMosaic.TcCoe Idealize.SL.Sem
open Idealize.ShloMosaic.Pipeline (Dat)

/-! What the kernel's block computes, element by element, from its input blocks. -/

namespace Cert.XattnIdeal.RefValue

open Cert.XattnIdeal Cert.XattnIdeal.Gen Cert.XattnRow

/-- One element of the queries' block. -/
def qK (x : S256x4096.Idx → EReal) (g : S1x4096.Idx → EReal) (w : S4096x512.Idx → EReal) (r : Fin 256) (j : Fin 512) : EReal :=
  ∑ i : Fin 4096, nrm (fun k => x (ix2 r k)) (fun k => g (ix2 (0 : Fin 1) k)) i * w (ix2 i j)

/-- One logit. -/
def lgK (q : Fin 256 → Fin 512 → EReal) (kv : S1x256x1024.Idx → EReal) (h : Fin 4) (r s : Fin 256) : EReal :=
  (∑ d : Fin 128, q r ⟨128 * h.val + d.val, by omega⟩ * kv (ix3 (0 : Fin 1) s (⟨128 * h.val + d.val, by omega⟩ : Fin 1024)))
    * Ideal.ofBits FTy.f32 1035273459#32

/-- One element of the heads' joined results. -/
def oK (q : Fin 256 → Fin 512 → EReal) (kv : S1x256x1024.Idx → EReal) (r : Fin 256) (j : Fin 512) : EReal :=
  soft (lgK q kv ⟨j.val / 128, by omega⟩ r) fun s => kv (ix3 (0 : Fin 1) s (⟨512 + j.val, by omega⟩ : Fin 1024))

/-- One head's weights. -/
def weights (q : FVec Ideal S256x128 .bf16) (k : Vec Ideal S1x256x128 .bf16) : FVec Ideal S256x256 .f32 :=
  have k' : FVec Ideal S256x128 .bf16 := shapeCast S256x128 k shapeCasts_S1x256x128_S256x128
  have l : FVec Ideal S256x256 .f32 := mulf (matmul dot_S256x128_S256x128_S256x256_1_1_0_0_n_n none q k' (constant S256x256 .f32 0x00000000#32))
    (broadcast S256x256 (Scalar.ofBits (F := Ideal) .f32 0x3DB504F3#32))
  have p : FVec Ideal S256x256 .f32 := exp (subf l (broadcastTo S256x256 (shapeCast S256x1
    (multiReduction .maximumf [1] S256 l 0xFF800000#32 reduces_S256x256_S256 (.inl rfl) rfl) shapeCasts_S256_S256x1) broadcasts_S256x1_S256x256))
  mulf p (broadcastTo S256x256 (divf (broadcast S256x1 (Scalar.ofBits (F := Ideal) .f32 0x3F800000#32)) (shapeCast S256x1
    (multiReduction .add [1] S256 p 0x00000000#32 reduces_S256x256_S256 (.inl rfl) rfl) shapeCasts_S256_S256x1)) broadcasts_S256x1_S256x256)

theorem pay5_eq (x : Vec Ideal S256x4096 .f32) (g : Vec Ideal S1x4096 .f32) (w : Vec Ideal S4096x512 .bf16) (k : Vec Ideal S1x256x128 .bf16) :
    k0_pay5 x g w k = weights (extractStridedSlice S256x128 ![0, 0] (k0_pay4 x g w) slices_S256x512_o0_0_S256x128) k := rfl

theorem pay7_eq (q : FVec Ideal S256x512 .bf16) (k v : Vec Ideal S1x256x128 .bf16) :
    k0_pay7 q k v = k0_pay6 (weights (extractStridedSlice S256x128 ![0, 128] q slices_S256x512_o0_128_S256x128) k) v := rfl

theorem pay10_eq (x : Vec Ideal S256x4096 .f32) (q : FVec Ideal S256x512 .bf16) (o0 o1 : FVec Ideal S256x128 .bf16) (k2 v2 k3 v3 : Vec Ideal S1x256x128 .bf16)
    (w : Vec Ideal S512x4096 .bf16) :
    k0_pay10 x q o0 o1 (k0_pay8 q k2) (k0_pay9 q k2) (Scalar.ofBits .f32 0x3F800000#32) v2 k3 v3 w
      = addf x (matmul dot_S256x512_S512x4096_S256x4096_1_0_0_1_n_n none (concatenate S256x512 1 [⟨S256x128, o0⟩, ⟨S256x128, o1⟩,
        ⟨S256x128, k0_pay6 (weights (extractStridedSlice S256x128 ![0, 256] q slices_S256x512_o0_256_S256x128) k2) v2⟩,
        ⟨S256x128, k0_pay6 (weights (extractStridedSlice S256x128 ![0, 384] q slices_S256x512_o0_384_S256x128) k3) v3⟩]
        concatenates_S256x128_S256x128_S256x128_S256x128_S256x512_d1) (show FVec Ideal S512x4096 .bf16 from shapeCast S512x4096 w shapeCasts_S512x4096_S512x4096) (constant S256x4096 .f32 0x00000000#32)) := rfl

theorem pay1_row (x : Vec Ideal S256x4096 .f32) (g : Vec Ideal S1x4096 .f32) (r : Fin 256) (k : Fin 4096) :
    (k0_pay1 x g (ix2 r k) : EReal) = nrm (fun k => x (ix2 r k)) (fun k => g (ix2 (0 : Fin 1) k)) k := by
  unfold k0_pay1 nrm
  pointwise []

theorem pay4_row (x : Vec Ideal S256x4096 .f32) (g : Vec Ideal S1x4096 .f32) (w : Vec Ideal S4096x512 .bf16) (r : Fin 256) (j : Fin 512) :
    (k0_pay4 x g w (ix2 r j) : EReal) = qK x g w r j := by
  unfold k0_pay4 qK nrm
  pointwise [dot_S256x4096_S4096x512_S256x512_1_0_0_1_n_n]

theorem neg_inf : Ideal.ofBits FTy.f32 4286578688#32 = ⊥ := by
  decide +kernel

theorem head_row (q : FVec Ideal S256x128 .bf16) (k v : Vec Ideal S1x256x128 .bf16) (r : Fin 256) (d : Fin 128) :
    (k0_pay6 (weights q k) v (ix2 r d) : EReal) = soft (fun s => (∑ e : Fin 128, (q (ix2 r e) : EReal) * k (ix3 (0 : Fin 1) s e)) * Ideal.ofBits FTy.f32 1035273459#32)
      fun s => v (ix3 (0 : Fin 1) s d) := by
  unfold k0_pay6 weights soft mass peak
  pointwise [dot_S256x256_S256x128_S256x128_1_0_0_1_n_n, dot_S256x128_S256x128_S256x256_1_1_0_0_n_n]
  rw [neg_inf]

end Cert.XattnIdeal.RefValue
-- ==== Proof.XattnOut.lean ====
module

public import proofs.«01_k».proof.Defs
public import proofs.«01_k».proof.Proof.Gen.Xattn.Frame
public import proofs.«01_k».proof.Proof.Gen.XattnIdeal.Value
public import proofs.«01_k».proof.Proof.Gen.XattnRefIdeal.Read
public import Idealize.ShloMosaic.Lib.Pipeline.ValueKit
public import Idealize.ShloMosaic.Lib.Pointwise.Tactic
public import Idealize.ShloMosaic.Lib.Pipeline.Value
public import Idealize.ShloMosaic.Lib.Quiescent
public import proofs.«01_k».proof.Proof.XattnKern

@[expose] public section

set_option maxRecDepth 16384

noncomputable section

open Idealize.ShloMosaic Idealize.ShloMosaic.TcCoe Idealize.SL.Sem
open Idealize.ShloMosaic.Pipeline (Dat)

/-! The blocks the kernel leaves, from its input blocks. -/

namespace Cert.XattnIdeal.RefValue

open Cert.XattnIdeal Cert.XattnIdeal.Gen Cert.XattnRow

/-- One head's element is the joined result's, given what its operands hold. -/
theorem head_eq (Q : Fin 256 → Fin 512 → EReal) (kv : S1x256x1024.Idx → EReal) (h : Fin 4) (q : FVec Ideal S256x128 .bf16) (k v : Vec Ideal S1x256x128 .bf16)
    (r : Fin 256) (d : Fin 128) (j : Fin 512) (hj : j.val = 128 * h.val + d.val)
    (hq : ∀ e : Fin 128, (q (ix2 r e) : EReal) = Q r ⟨128 * h.val + e.val, by omega⟩)
    (hk : ∀ (s : Fin 256) (e : Fin 128), (k (ix3 (0 : Fin 1) s e) : EReal) = kv (ix3 (0 : Fin 1) s (⟨128 * h.val + e.val, by omega⟩ : Fin 1024)))
    (hv : ∀ (s : Fin 256), (v (ix3 (0 : Fin 1) s d) : EReal) = kv (ix3 (0 : Fin 1) s (⟨512 + j.val, by omega⟩ : Fin 1024))) :
    (k0_pay6 (weights q k) v (ix2 r d) : EReal) = oK Q kv r j := by
  have e : (⟨j.val / 128, by omega⟩ : Fin 4) = h := Fin.ext (by show j.val / 128 = h.val; omega)
  rw [head_row]
  unfold oK
  rw [e]
  refine congrArg₂ soft (funext fun s => ?_) (funext hv)
  unfold lgK
  simp only [hq, hk]

theorem out7 (x0 : Vec Ideal S256x4096 .f32) (x1 : Vec Ideal S1x4096 .f32) (x2 : Vec Ideal S4096x512 .bf16) (x3 : Vec Ideal S1x256x1024 .bf16)
    (x4 : Vec Ideal S512x4096 .bf16) (x5 : Vec Ideal S1x4096 .f32) (x6 : Vec Ideal S4096x128 .bf16) (r : Fin 256) (k : Fin 4096) :
    (k0_pay16 x0 x1 x2 x3 x4 x5 x6 (ix2 r k) : EReal) = x0 (ix2 r k) + ∑ j : Fin 512, oK (qK x0 x1 x2) x3 r j * x4 (ix2 j k) := by
  unfold k0_pay16 k0_pay15 k0_pay14 k0_pay13 k0_pay12 k0_pay11
  have l0 : View.ld x0 r0_0 = x0 := by funext y; idx_vars y; pointwise []
  have l1 : View.ld x1 r0_1 = x1 := by funext y; idx_vars y; pointwise []; rw [Subsingleton.elim y0 0]
  have l2 : View.ld x2 r0_2 = x2 := by funext y; idx_vars y; pointwise []
  rw [pay10_eq, pay5_eq, pay7_eq, l0, l1, l2]
  have hq := pay4_row x0 x1 x2 r
  generalize k0_pay4 x0 x1 x2 = q at hq ⊢
  pointwise [dot_S256x512_S512x4096_S256x4096_1_0_0_1_n_n]
  refine congrArg₂ (· + · : EReal → EReal → EReal) rfl (Fin.sum_fin_congr fun j => congrArg₂ (· * · : EReal → EReal → EReal) ?_ rfl)
  by_cases h0 : j.val < 128
  · rw [dif_pos h0]
    refine head_eq _ _ ⟨0, by omega⟩ _ _ _ r _ j (by show j.val = 128 * 0 + j.val; omega) (fun e => ?_) (fun s e => ?_) fun s => ?_
    · rw [← hq]; pointwise []
    · pointwise []
    · pointwise []
  rw [dif_neg h0]
  by_cases h1 : j.val - 128 < 128
  · rw [dif_pos h1]
    refine head_eq _ _ ⟨1, by omega⟩ _ _ _ r _ j (by show j.val = 128 * 1 + (j.val - 128); omega) (fun e => ?_) (fun s e => ?_) fun s => ?_
    · rw [← hq]; pointwise []
    · pointwise []
    · pointwise []
      exact congrArg (fun n => x3 (ix3 (0 : Fin 1) s n)) (Fin.ext (by show 640 + (j.val - 128) = 512 + j.val; omega))
  rw [dif_neg h1]
  by_cases h2 : j.val - 128 - 128 < 128
  · rw [dif_pos h2]
    refine head_eq _ _ ⟨2, by omega⟩ _ _ _ r _ j (by show j.val = 128 * 2 + (j.val - 128 - 128); omega) (fun e => ?_) (fun s e => ?_) fun s => ?_
    · rw [← hq]; pointwise []
    · pointwise []
    · pointwise []
      exact congrArg (fun n => x3 (ix3 (0 : Fin 1) s n)) (Fin.ext (by show 768 + (j.val - 128 - 128) = 512 + j.val; omega))
  · rw [dif_neg h2]
    refine head_eq _ _ ⟨3, by omega⟩ _ _ _ r _ j (by show j.val = 128 * 3 + (j.val - 128 - 128 - 128); omega) (fun e => ?_) (fun s e => ?_) fun s => ?_
    · rw [← hq]; pointwise []
    · pointwise []
    · pointwise []
      exact congrArg (fun n => x3 (ix3 (0 : Fin 1) s n)) (Fin.ext (by show 896 + (j.val - 128 - 128 - 128) = 512 + j.val; omega))

theorem pay3_row (u : FVec Ideal S256x4096 .f32) (g : Vec Ideal S1x4096 .f32) (w : Vec Ideal S4096x128 .bf16) (r : Fin 256) (e : Fin 128) :
    (k0_pay3 u g w (ix2 r e) : EReal) = ∑ k : Fin 4096, nrm (fun k => u (ix2 r k)) (fun k => g (ix2 (0 : Fin 1) k)) k * w (ix2 k e) := by
  unfold k0_pay3
  pointwise [dot_S256x4096_S4096x128_S256x128_1_0_0_1_n_n]
  exact Fin.sum_fin_congr fun k => by rw [pay1_row]

end Cert.XattnIdeal.RefValue
-- ==== Proof.XattnRead.lean ====
module

public import proofs.«01_k».proof.Defs
public import proofs.«01_k».proof.Proof.Gen.XattnRefIdeal.Read
public import Idealize.ShloMosaic.Lib.Pipeline.ValueKit
public import Idealize.ShloMosaic.Lib.Pointwise.Tactic
public import Idealize.ShloMosaic.Lib.Pipeline.Value
public import Idealize.ShloMosaic.Lib.Quiescent
public import proofs.«01_k».proof.Proof.XattnRow

@[expose] public section

set_option maxRecDepth 16384

noncomputable section

open Idealize.ShloMosaic Idealize.ShloMosaic.TcCoe Idealize.SL.Sem
open Idealize.ShloMosaic.Pipeline (Dat)

/-! What the reference computes, element by element, from its arguments. -/

namespace Cert.XattnRead

open Cert.XattnRow Cert.SwaSoftmax

open Cert.XattnRefIdeal Cert.XattnRefIdeal.Read Cert.XattnRefIdeal.Gen

variable (x0 : (⟨S16384x4096, .f32⟩ : BufTy).Contents (Elt Ideal)) (x1 : (⟨S4096, .f32⟩ : BufTy).Contents (Elt Ideal))
  (x2 : (⟨S4096x512, .f32⟩ : BufTy).Contents (Elt Ideal)) (x3 : (⟨S2x256x1024, .bf16⟩ : BufTy).Contents (Elt Ideal))
  (x4 : (⟨S512x4096, .f32⟩ : BufTy).Contents (Elt Ideal)) (x5 : (⟨S4096, .f32⟩ : BufTy).Contents (Elt Ideal))
  (x6 : (⟨S4096x8, .f32⟩ : BufTy).Contents (Elt Ideal)) (x7 : (⟨S4096x64, .f32⟩ : BufTy).Contents (Elt Ideal))

/-- The normalised rows. -/
theorem v18_apply (R : Fin 16384) (k : Fin 4096) :
    (val_main_v18 (F := Ideal) x0 x1 (ix2 R k) : EReal) = nrm (fun k => x0 (ix2 R k)) (fun k => x1 (ix1 k)) k := by
  have i1 : idx_main_v14 (ix2 R k) = ix2 R 0 := by funext a; fin_cases a <;> rfl
  have i2 : idx_main_v8 (ix2 R 0) = ix1 R := by funext a; fin_cases a <;> rfl
  have i3 : ∀ j, idx_main_v7 (ix1 R) j = ix2 R j := fun j => by funext a; fin_cases a <;> rfl
  have i4 : idx_main_v16 (idx_main_v17 (ix2 R k)) = ix1 k := by funext a; fin_cases a <;> rfl
  rw [val_main_v18_apply, val_main_v17_apply, val_main_v16_apply, i4, val_main_v15_apply, val_main_v14_apply, i1, val_main_v13_apply, val_main_v12_apply,
    val_main_v11_apply, val_main_cst_1_apply, val_main_v10_apply, val_main_v9_apply, val_main_cst_0_apply, val_main_v8_apply, i2, val_main_v7_apply, val_main_cst_apply]
  unfold nrm
  simp only [i3, val_main_v6_apply]
  pointwise []

theorem v52_apply (R : Fin 16384) (k : Fin 4096) :
    (val_main_v52 (F := Ideal) x0 x1 x2 x3 x4 x5 (ix2 R k) : EReal)
      = nrm (fun k => val_main_v39 (F := Ideal) x0 x1 x2 x3 x4 (ix2 R k)) (fun k => x5 (ix1 k)) k := by
  have i1 : idx_main_v48 (ix2 R k) = ix2 R 0 := by funext a; fin_cases a <;> rfl
  have i2 : idx_main_v42 (ix2 R 0) = ix1 R := by funext a; fin_cases a <;> rfl
  have i3 : ∀ j, idx_main_v41 (ix1 R) j = ix2 R j := fun j => by funext a; fin_cases a <;> rfl
  have i4 : idx_main_v50 (idx_main_v51 (ix2 R k)) = ix1 k := by funext a; fin_cases a <;> rfl
  rw [val_main_v52_apply, val_main_v51_apply, val_main_v50_apply, i4, val_main_v49_apply, val_main_v48_apply, i1, val_main_v47_apply, val_main_v46_apply,
    val_main_v45_apply, val_main_cst_8_apply, val_main_v44_apply, val_main_v43_apply, val_main_cst_7_apply, val_main_v42_apply, i2, val_main_v41_apply, val_main_cst_6_apply]
  unfold nrm
  simp only [i3, val_main_v40_apply]
  generalize val_main_v39 (F := Ideal) x0 x1 x2 x3 x4 = y
  pointwise []

theorem v19_apply (R : Fin 16384) (j : Fin 512) :
    (val_main_v19 (F := Ideal) x0 x1 x2 (ix2 R j) : EReal)
      = ∑ i : Fin 4096, nrm (fun k => x0 (ix2 R k)) (fun k => x1 (ix1 k)) i * x2 (ix2 i j) := by
  have i1 : ∀ i, lidx_main_v19 (ix2 R j) i = ix2 R i := fun i => by funext a; fin_cases a <;> rfl
  have i2 : ∀ i, ridx_main_v19 (ix2 R j) i = ix2 i j := fun i => by funext a; fin_cases a <;> rfl
  rw [val_main_v19_apply]
  refine Fin.sum_fin_congr fun i => ?_
  rw [i1, i2, v18_apply]

theorem v20_apply (b : Fin 2) (S : Fin 8192) (h : Fin 4) (d : Fin 128) :
    (val_main_v20 (F := Ideal) x0 x1 x2 (ix4 b S h d) : EReal)
      = val_main_v19 (F := Ideal) x0 x1 x2 (ix2 (⟨8192 * b.val + S.val, by omega⟩ : Fin 16384) (⟨128 * h.val + d.val, by omega⟩ : Fin 512)) := by
  unfold val_main_v20
  generalize val_main_v19 (F := Ideal) x0 x1 x2 = y
  pointwise []
  blk_point []

theorem v2_apply (b : Fin 2) (s : Fin 256) (h : Fin 4) (d : Fin 128) :
    (val_main_v2 (F := Ideal) x3 (ix4 b s h d) : EReal) = x3 (ix3 b s (⟨128 * h.val + d.val, by omega⟩ : Fin 1024)) := by
  unfold val_main_v2 val_main_v1 val_main_v0
  pointwise []
  blk_point []

theorem v5_apply (b : Fin 2) (s : Fin 256) (h : Fin 4) (d : Fin 128) :
    (val_main_v5 (F := Ideal) x3 (ix4 b s h d) : EReal) = x3 (ix3 b s (⟨512 + (128 * h.val + d.val), by omega⟩ : Fin 1024)) := by
  unfold val_main_v5 val_main_v4 val_main_v3
  pointwise []
  blk_point []

/-- One logit. -/
def lgR (b : Fin 2) (h : Fin 4) (S : Fin 8192) (s : Fin 256) : EReal :=
  (∑ d : Fin 128, (∑ i : Fin 4096, nrm (fun k => x0 (ix2 (⟨8192 * b.val + S.val, by omega⟩ : Fin 16384) k)) (fun k => x1 (ix1 k)) i
      * x2 (ix2 i (⟨128 * h.val + d.val, by omega⟩ : Fin 512))) * x3 (ix3 b s (⟨128 * h.val + d.val, by omega⟩ : Fin 1024)))
    * Ideal.ofBits FTy.f32 1035273459#32

theorem v23_apply (b : Fin 2) (h : Fin 4) (S : Fin 8192) (s : Fin 256) :
    (val_main_v23 (F := Ideal) x0 x1 x2 x3 (ix4 b h S s) : EReal) = lgR x0 x1 x2 x3 b h S s := by
  have i1 : ∀ d, lidx_main_v21 (ix4 b h S s) d = ix4 b S h d := fun d => by funext a; fin_cases a <;> rfl
  have i2 : ∀ d, ridx_main_v21 (ix4 b h S s) d = ix4 b s h d := fun d => by funext a; fin_cases a <;> rfl
  rw [val_main_v23_apply, val_main_v22_apply, val_main_cst_2_apply, val_main_v21_apply]
  unfold lgR
  refine congrArg₂ (· * · : EReal → EReal → EReal) (Fin.sum_fin_congr fun d => ?_) rfl
  rw [i1, i2, v20_apply, v19_apply, v2_apply]

theorem neg_inf : Ideal.ofBits FTy.f32 4286578688#32 = ⊥ := by
  decide +kernel

/-- The maximum over the logits. -/
theorem v24_apply (b : Fin 2) (h : Fin 4) (S : Fin 8192) :
    (val_main_v24 (F := Ideal) x0 x1 x2 x3 (ix3 b h S) : EReal) = peak (lgR x0 x1 x2 x3 b h S) := by
  have e0 : lgR x0 x1 x2 x3 b h S = fun s => (val_main_v23 (F := Ideal) x0 x1 x2 x3 (ix4 b h S s) : EReal) := funext fun s => (v23_apply x0 x1 x2 x3 b h S s).symm
  rw [e0]
  unfold val_main_v24 peak
  generalize val_main_v23 (F := Ideal) x0 x1 x2 x3 = y
  refine (Host.reduce_eq_fold_single (FloatOps.maximumf (F := Ideal) (φ := .f32)) y _ reducesTo_S2x4x8192x256_S2x4x8192_d3 (by decide) h_S_ _).trans ?_
  have e : (val_main_cst_3 (F := Ideal) (Shape.Idx.first h_S_) : EReal) = ⊥ := by
    rw [val_main_cst_3_apply]
    pointwise []
    exact neg_inf
  rw [e]
  refine congrArg (Finset.fold _ _ · _) (funext fun s => congrArg y (funext fun a => Fin.ext ?_))
  rw [Shape.Reduces.lift_val]
  fin_cases a <;> rfl

theorem v30_apply (b : Fin 2) (h : Fin 4) (S : Fin 8192) (s : Fin 256) :
    (val_main_v30 (F := Ideal) x0 x1 x2 x3 (ix4 b h S s) : EReal)
      = Ideal.exp (lgR x0 x1 x2 x3 b h S s - peak (lgR x0 x1 x2 x3 b h S)) := by
  have i1 : idx_main_v28 (ix4 b h S s) = ix4 b h S 0 := by funext a; fin_cases a <;> rfl
  have i2 : idx_main_v27 (ix4 b h S 0) = ix3 b h S := by funext a; fin_cases a <;> rfl
  rw [val_main_v30_apply, val_main_v29_apply, v23_apply, val_main_v28_apply, i1, val_main_v27_apply, i2, val_main_v26_apply, val_main_v25_apply, v24_apply,
    val_main_cst_4_apply]
  pointwise [neg_inf]
  rw [max_eq_right bot_le]

theorem v34_apply (b : Fin 2) (h : Fin 4) (S : Fin 8192) (s : Fin 256) :
    (val_main_v34 (F := Ideal) x0 x1 x2 x3 (ix4 b h S s) : EReal)
      = Ideal.div (Ideal.exp (lgR x0 x1 x2 x3 b h S s - peak (lgR x0 x1 x2 x3 b h S))) (mass (lgR x0 x1 x2 x3 b h S)) := by
  have i1 : idx_main_v33 (ix4 b h S s) = ix4 b h S 0 := by funext a; fin_cases a <;> rfl
  have i2 : idx_main_v32 (ix4 b h S 0) = ix3 b h S := by funext a; fin_cases a <;> rfl
  have i3 : ∀ s, idx_main_v31 (ix3 b h S) s = ix4 b h S s := fun s => by funext a; fin_cases a <;> rfl
  have e : (val_main_v31 (F := Ideal) x0 x1 x2 x3 (ix3 b h S) : EReal) = mass (lgR x0 x1 x2 x3 b h S) := by
    rw [val_main_v31_apply, val_main_cst_5_apply]
    unfold mass
    refine Eq.trans (congrArg₂ (· + · : EReal → EReal → EReal) (?_ : _ = (0 : EReal)) (Fin.sum_fin_congr fun s => ?_)) (zero_add _)
    · pointwise []
    · rw [i3, v30_apply]
  rw [val_main_v34_apply, v30_apply, val_main_v33_apply, i1, val_main_v32_apply, i2, e]
  rfl

theorem v37_apply (R : Fin 16384) (j : Fin 512) (hreal : ∀ b h S s, IsReal (lgR x0 x1 x2 x3 b h S s)) :
    (val_main_v37 (F := Ideal) x0 x1 x2 x3 (ix2 R j) : EReal)
      = soft (lgR x0 x1 x2 x3 ⟨R.val / 8192, by omega⟩ ⟨j.val / 128, by omega⟩ ⟨R.val % 8192, by omega⟩)
        fun s => x3 (ix3 (⟨R.val / 8192, by omega⟩ : Fin 2) s (⟨512 + j.val, by omega⟩ : Fin 1024)) := by
  have e : (val_main_v37 (F := Ideal) x0 x1 x2 x3 (ix2 R j) : EReal) = val_main_v36 (F := Ideal) x0 x1 x2 x3
      (ix4 (⟨R.val / 8192, by omega⟩ : Fin 2) (⟨R.val % 8192, by omega⟩ : Fin 8192) (⟨j.val / 128, by omega⟩ : Fin 4) (⟨j.val % 128, by omega⟩ : Fin 128)) := by
    unfold val_main_v37
    generalize val_main_v36 (F := Ideal) x0 x1 x2 x3 = y
    pointwise []
  rw [e, soft_eq _ _ (hreal _ _ _), val_main_v36_apply, val_main_v35_apply]
  refine Fin.sum_fin_congr fun s => ?_
  have i1 : lidx_main_v35 (idx_main_v36 (ix4 (⟨R.val / 8192, by omega⟩ : Fin 2) (⟨R.val % 8192, by omega⟩ : Fin 8192) (⟨j.val / 128, by omega⟩ : Fin 4) (⟨j.val % 128, by omega⟩ : Fin 128))) s
      = ix4 (⟨R.val / 8192, by omega⟩ : Fin 2) s (⟨j.val / 128, by omega⟩ : Fin 4) (⟨j.val % 128, by omega⟩ : Fin 128) := by funext a; fin_cases a <;> rfl
  have i2 : ridx_main_v35 (idx_main_v36 (ix4 (⟨R.val / 8192, by omega⟩ : Fin 2) (⟨R.val % 8192, by omega⟩ : Fin 8192) (⟨j.val / 128, by omega⟩ : Fin 4) (⟨j.val % 128, by omega⟩ : Fin 128))) s
      = ix4 (⟨R.val / 8192, by omega⟩ : Fin 2) (⟨j.val / 128, by omega⟩ : Fin 4) (⟨R.val % 8192, by omega⟩ : Fin 8192) s := by funext a; fin_cases a <;> rfl
  have i3 : (⟨512 + (128 * (j.val / 128) + j.val % 128), by omega⟩ : Fin 1024) = ⟨512 + j.val, by omega⟩ := Fin.ext (by show 512 + (128 * (j.val / 128) + j.val % 128) = 512 + j.val; omega)
  rw [i1, i2, v5_apply, v34_apply, i3]

theorem v39_apply (R : Fin 16384) (k : Fin 4096) (hreal : ∀ b h S s, IsReal (lgR x0 x1 x2 x3 b h S s)) :
    (val_main_v39 (F := Ideal) x0 x1 x2 x3 x4 (ix2 R k) : EReal)
      = x0 (ix2 R k) + ∑ j : Fin 512, soft (lgR x0 x1 x2 x3 ⟨R.val / 8192, by omega⟩ ⟨j.val / 128, by omega⟩ ⟨R.val % 8192, by omega⟩)
        (fun s => x3 (ix3 (⟨R.val / 8192, by omega⟩ : Fin 2) s (⟨512 + j.val, by omega⟩ : Fin 1024))) * x4 (ix2 j k) := by
  have i1 : ∀ j, lidx_main_v38 (ix2 R k) j = ix2 R j := fun j => by funext a; fin_cases a <;> rfl
  have i2 : ∀ j, ridx_main_v38 (ix2 R k) j = ix2 j k := fun j => by funext a; fin_cases a <;> rfl
  rw [val_main_v39_apply, val_main_v38_apply]
  refine congrArg₂ (· + · : EReal → EReal → EReal) rfl (Fin.sum_fin_congr fun j => ?_)
  rw [i1, i2, v37_apply x0 x1 x2 x3 R j hreal]

theorem sitofp_zero : FloatOps.sitofp (F := Ideal) FTy.f32 (0#32) = (0 : EReal) := by
  show (((0#32).toInt : ℝ) : EReal) = 0
  simp

theorem v56_apply (R : Fin 16384) (e : Fin 128) :
    (val_main_v56 (F := Ideal) x0 x1 x2 x3 x4 x5 x6 x7 (ix2 R e) : EReal)
      = ∑ k : Fin 4096, nrm (fun k => val_main_v39 (F := Ideal) x0 x1 x2 x3 x4 (ix2 R k)) (fun k => x5 (ix1 k)) k
        * if h : e.val < 72 then (if h' : e.val < 8 then x6 (ix2 k (⟨e.val, h'⟩ : Fin 8)) else x7 (ix2 k (⟨e.val - 8, by omega⟩ : Fin 64))) else (0 : EReal) := by
  have i1 : ∀ (c : Fin 8) k, lidx_main_v53 (ix2 R c) k = ix2 R k := fun c k => by funext a; fin_cases a <;> rfl
  have i2 : ∀ (c : Fin 8) k, ridx_main_v53 (ix2 R c) k = ix2 k c := fun c k => by funext a; fin_cases a <;> rfl
  have i3 : ∀ (c : Fin 64) k, lidx_main_v54 (ix2 R c) k = ix2 R k := fun c k => by funext a; fin_cases a <;> rfl
  have i4 : ∀ (c : Fin 64) k, ridx_main_v54 (ix2 R c) k = ix2 k c := fun c k => by funext a; fin_cases a <;> rfl
  have a1 : ∀ c : Fin 8, (val_main_v53 (F := Ideal) x0 x1 x2 x3 x4 x5 x6 (ix2 R c) : EReal)
      = ∑ k : Fin 4096, nrm (fun k => val_main_v39 (F := Ideal) x0 x1 x2 x3 x4 (ix2 R k)) (fun k => x5 (ix1 k)) k * x6 (ix2 k c) := fun c => by
    rw [val_main_v53_apply]
    exact Fin.sum_fin_congr fun k => by rw [i1, i2, v52_apply]
  have a2 : ∀ c : Fin 64, (val_main_v54 (F := Ideal) x0 x1 x2 x3 x4 x5 x7 (ix2 R c) : EReal)
      = ∑ k : Fin 4096, nrm (fun k => val_main_v39 (F := Ideal) x0 x1 x2 x3 x4 (ix2 R k)) (fun k => x5 (ix1 k)) k * x7 (ix2 k c) := fun c => by
    rw [val_main_v54_apply]
    exact Fin.sum_fin_congr fun k => by rw [i3, i4, v52_apply]
  have a3 : val_main_call0_v0 (F := Ideal) (Shape.Idx.first h_S_) = (0 : EReal) := by
    rw [val_main_call0_v0_apply, val_main_c_apply]; exact sitofp_zero
  unfold val_main_v56 val_main_v55
  generalize val_main_v53 (F := Ideal) x0 x1 x2 x3 x4 x5 x6 = y1 at a1 ⊢
  generalize val_main_v54 (F := Ideal) x0 x1 x2 x3 x4 x5 x7 = y2 at a2 ⊢
  pointwise [a3]
  by_cases h : e.val < 72
  · rw [dif_pos h]
    by_cases h' : e.val < 8
    · rw [dif_pos h', a1]
      exact Fin.sum_fin_congr fun k => by rw [dif_pos h, dif_pos h']
    · rw [dif_neg h', a2]
      exact Fin.sum_fin_congr fun k => by rw [dif_pos h, dif_neg h']
  · rw [dif_neg h]
    refine (Finset.sum_eq_zero fun k _ => ?_).symm
    rw [dif_neg h, mul_zero]

end Cert.XattnRead
-- ==== Proof.XattnFin.lean ====
module

public import proofs.«01_k».proof.Defs
public import proofs.«01_k».proof.Proof.XattnRead
public import Idealize.ShloMosaic.Lib.ReduceAll
public import Idealize.ShloMosaic.Lib.Pipeline.ValueKit

/-! What the cross-attention's precondition says of the arguments, and that its logits are then numbers. -/

@[expose] public section

noncomputable section

open Idealize.ShloMosaic

namespace Cert.XattnFinite

open Cert.SwaSoftmax Cert.Pre_xattn_finite

/-- The side conditions of the precondition's operations. -/
theorem facts : Cert.Pre_xattn_finite.Facts where
  bcast_S_S16384x4096 := by decide
  reducesTo_S16384x4096_S_d0_1 := by decide
  h_S_ := by decide
  bcast_S_S4096 := by decide
  reducesTo_S4096_S_d0 := by decide
  bcast_S_S4096x512 := by decide
  reducesTo_S4096x512_S_d0_1 := by decide
  bcast_S_S2x256x1024 := by decide
  reducesTo_S2x256x1024_S_d0_1_2 := by decide

/-- Under the precondition every element of the first four arguments is finite. -/
theorem of_pre (x0 : FVec Ideal S16384x4096 .f32) (x1 : FVec Ideal S4096 .f32) (x2 : FVec Ideal S4096x512 .f32) (x3 : FVec Ideal S2x256x1024 .bf16)
    (x4 : FVec Ideal S512x4096 .f32) (x5 : FVec Ideal S4096 .f32) (x6 : FVec Ideal S4096x8 .f32) (x7 : FVec Ideal S4096x64 .f32)
    (h : @Cert.Pre_xattn_finite.fn facts Ideal _ x0 x1 x2 x3 x4 x5 x6 x7 = fun _ => 1#1) :
    (∀ i, IsReal (x0 i)) ∧ (∀ i, IsReal (x1 i)) ∧ (∀ i, IsReal (x2 i)) ∧ ∀ i, IsReal (x3 i) := by
  have h0 := congrFun h (Shape.Idx.first facts.h_S_)
  unfold Cert.Pre_xattn_finite.fn Cert.Pre_xattn_finite.fn_part1 at h0
  have hs : Subsingleton S_.Idx := ⟨fun a b => funext fun i => i.elim0⟩
  obtain ⟨h123, h4⟩ := IntOp.andi_eq_one.1 h0
  obtain ⟨h12, h3⟩ := IntOp.andi_eq_one.1 h123
  obtain ⟨h1, h2⟩ := IntOp.andi_eq_one.1 h12
  have e : Ideal.ofBits .f32 2139095040#32 = ⊤ := by simp [Ideal.ofBits, Ideal.ieee]
  refine ⟨fun i => ?_, fun i => ?_, fun i => ?_, fun i => ?_⟩
  · exact finite_of_cmp e (Host.reduce_andi_all _ _ _ _ _ h1 i)
  · exact finite_of_cmp e (Host.reduce_andi_all _ _ _ _ _ h2 i)
  · exact finite_of_cmp e (Host.reduce_andi_all _ _ _ _ _ h3 i)
  · exact finite_of_cmp (show Ideal.ofBits .bf16 32640#16 = ⊤ by simp [Ideal.ofBits, Ideal.ieee]) (Host.reduce_andi_all _ _ _ _ _ h4 i)

open Cert.XattnRow Cert.XattnRead in
/-- Every logit is a number. -/
theorem lg_real (x0 : FVec Ideal S16384x4096 .f32) (x1 : FVec Ideal S4096 .f32) (x2 : FVec Ideal S4096x512 .f32) (x3 : FVec Ideal S2x256x1024 .bf16)
    (h : (∀ i, IsReal (x0 i)) ∧ (∀ i, IsReal (x1 i)) ∧ (∀ i, IsReal (x2 i)) ∧ ∀ i, IsReal (x3 i)) (b : Fin 2) (a : Fin 4) (S : Fin 8192) (s : Fin 256) :
    IsReal (lgR x0 x1 x2 x3 b a S s) := by
  unfold lgR
  exact (IsReal.sum _ fun d => (IsReal.sum _ fun i => (nrm_real (fun k => h.1 _) (fun k => h.2.1 _) i).mul (h.2.2.1 _)).mul (h.2.2.2 _)).mul scale_finite

end Cert.XattnFinite
-- ==== Proof.XattnValue.lean ====
module

public import proofs.«01_k».proof.Defs
public import proofs.«01_k».proof.Proof.Gen.Xattn.Frame
public import proofs.«01_k».proof.Proof.Gen.XattnIdeal.Value
public import proofs.«01_k».proof.Proof.Gen.XattnRefIdeal.Read
public import Idealize.ShloMosaic.Lib.Pipeline.ValueKit
public import Idealize.ShloMosaic.Lib.Pointwise.Tactic
public import Idealize.ShloMosaic.Lib.Pipeline.Value
public import Idealize.ShloMosaic.Lib.Quiescent
public import Idealize.ShloMosaic.Lib.Bf16PairInverse
public import proofs.«01_k».proof.Proof.XattnBlk
public import proofs.«01_k».proof.Proof.XattnOut
public import proofs.«01_k».proof.Proof.XattnRead
public import proofs.«01_k».proof.Proof.XattnFin
public import proofs.«01_k».proof.Proof.Gen.XattnRefIdeal.Run

@[expose] public section

set_option maxRecDepth 16384

noncomputable section

open Idealize.ShloMosaic Idealize.ShloMosaic.TcCoe Idealize.SL.Sem
open Idealize.ShloMosaic.Pipeline (Dat)

/-! The cross-attention: the kernel's blocks are the reference's results. -/

namespace Cert.XattnIdeal.RefValue

open Cert.XattnIdeal Cert.XattnIdeal.Gen Cert.XattnRow Cert.XattnRead Cert.SwaSoftmax

variable (m : (ℓ : Loc nD τ sig) → Buf (Elt Ideal) ℓ) (ρ : Dev nD → PrngReg)

/-- The reference's first result, as a function of this program's arguments. -/
abbrev G7 (c : Dev nD) : Buf (Elt Ideal) ((c : Thread nD τ).loc main_v7_0) :=
  Cert.XattnRefIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- The reference's second result. -/
abbrev G9 (c : Dev nD) : Buf (Elt Ideal) ((c : Thread nD τ).loc main_v7_2) :=
  Cert.XattnRefIdeal.Read.val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- Every element of the first four arguments is finite. -/
def Real (c : Dev nD) : Prop :=
  (∀ i, IsReal (m ((c : Thread nD τ).loc main_arg0) i)) ∧ (∀ i, IsReal (m ((c : Thread nD τ).loc main_arg1) i))
    ∧ (∀ i, IsReal (m ((c : Thread nD τ).loc main_arg2) i)) ∧ ∀ i, IsReal (m ((c : Thread nD τ).loc main_arg3) i)

/-- The row of the whole array at a grid point and a row of its block. -/
abbrev row (t : Fin cfg0.N) (r : Fin 256) : Fin 16384 := ⟨256 * t.val + r.val, by have := point_lt t; omega⟩

/-- The kernel's logits are the reference's. -/
theorem lg_eq (c : Dev nD) (t : Fin cfg0.N) (h : Fin 4) (r s : Fin 256) :
    lgK (qK (iblk m c 0 t) (iblk m c 1 t) (iblk m c 2 t)) (iblk m c 3 t) h r s
      = lgR (m ((c : Thread nD τ).loc main_arg0)) (m ((c : Thread nD τ).loc main_arg1)) (m ((c : Thread nD τ).loc main_arg2)) (m ((c : Thread nD τ).loc main_arg3)) ⟨(row t r).val / 8192, by omega⟩ h ⟨(row t r).val % 8192, by omega⟩ s := by
  have ht := point_lt t
  have e1 : (⟨8192 * ((row t r).val / 8192) + (row t r).val % 8192, by omega⟩ : Fin 16384) = row t r := Fin.ext (by dsimp only; omega)
  have e2 : (⟨(row t r).val / 8192, by omega⟩ : Fin 2) = ⟨t.val / 32, by omega⟩ := Fin.ext (by show (256 * t.val + r.val) / 8192 = t.val / 32; omega)
  unfold lgK lgR
  rw [e1, e2]
  refine congrArg (fun z : EReal => z * Ideal.ofBits FTy.f32 1035273459#32) (Fin.sum_fin_congr fun d => ?_)
  rw [kv_apply]
  refine congrArg (fun z : EReal => z * _) ?_
  unfold qK
  refine Fin.sum_fin_congr fun i => ?_
  simp only [x_apply, g_apply, wq_apply]

/-- One element the kernel leaves in its first result is the reference's. -/
theorem x2_eq (c : Dev nD) (hm : Real m c) (t : Fin cfg0.N) (r : Fin 256) (k : Fin 4096) :
    (k0_pay16 (F := Ideal) (iblk m c 0 t) (iblk m c 1 t) (iblk m c 2 t) (iblk m c 3 t) (iblk m c 4 t) (iblk m c 5 t) (iblk m c 6 t) (ix2 r k) : EReal)
      = G7 m c (ix2 (row t r) k) := by
  have ht := point_lt t
  have e2 : (⟨(row t r).val / 8192, by omega⟩ : Fin 2) = ⟨t.val / 32, by omega⟩ := Fin.ext (by show (256 * t.val + r.val) / 8192 = t.val / 32; omega)
  unfold G7
  rw [out7, v39_apply _ _ _ _ _ _ _ (Cert.XattnFinite.lg_real _ _ _ _ hm), x_apply]
  refine congrArg (fun z : EReal => _ + z) (Fin.sum_fin_congr fun j => ?_)
  rw [wo_apply]
  refine congrArg (fun z : EReal => z * _) ?_
  unfold oK
  refine congrArg₂ soft (funext fun s => lg_eq m c t _ r s) (funext fun s => ?_)
  rw [kv_apply, e2]

/-- The first result's last step, with its whole blocks read plainly. -/
theorem pay16_eq (x0 : Vec Ideal S256x4096 .f32) (x1 : Vec Ideal S1x4096 .f32) (x2 : Vec Ideal S4096x512 .bf16) (x3 : Vec Ideal S1x256x1024 .bf16)
    (x4 : Vec Ideal S512x4096 .bf16) (x5 : Vec Ideal S1x4096 .f32) (x6 : Vec Ideal S4096x128 .bf16) :
    k0_pay10 (F := Ideal) x0 (k0_pay11 x0 x1 x2 x3 x4 x5 x6) (k0_pay12 x0 x1 x2 x3 x4 x5 x6) (k0_pay13 x0 x1 x2 x3 x4 x5 x6) (k0_pay14 x0 x1 x2 x3 x4 x5 x6)
      (k0_pay15 x0 x1 x2 x3 x4 x5 x6) (Scalar.ofBits .f32 0x3F800000#32) (View.ld x3 r0_8) (View.ld x3 r0_9) (View.ld x3 r0_10) x4
      = k0_pay16 x0 x1 x2 x3 x4 x5 x6 := by
  have l0 : View.ld x0 r0_0 = x0 := by funext y; idx_vars y; pointwise []
  have l4 : View.ld x4 r0_11 = x4 := by funext y; idx_vars y; pointwise []
  unfold k0_pay16
  rw [l0, l4]

/-- Every block written back to the first result is the reference's there, so the whole array is. -/
theorem final7 (c : Dev nD) (hm : Real m c) : (dats m 0 c).arrAt 7 cfg0.N = G7 m c := by
  refine (dats m 0 c).arrAt_eq_of_covers 7 _ (by decide +kernel) fun t hf y => ?_
  blk_simp; rw [after0_7]
  have ht := point_lt t
  have he : (win0_7.blk t).view.emb y = ix2 (row t (y 0)) (y 1) := by
    blk_ext [idx t]
  rw [he]
  unfold out0_7
  frame_out
  idx_vars y
  exact (congrFun (pay16_eq _ _ _ _ _ _ _) _).trans (x2_eq m c hm t y0 y1)

/-- Every block written back to the second result is the reference's there, so the whole array is. -/
theorem final9 (c : Dev nD) (hm : Real m c) : (dats m 0 c).arrAt 9 cfg0.N = G9 m c := by
  refine (dats m 0 c).arrAt_eq_of_covers 9 _ (by decide +kernel) fun t hf y => ?_
  blk_simp; rw [after0_9]
  have ht := point_lt t
  have he : (win0_9.blk t).view.emb y = ix2 (row t (y 0)) (y 1) := by
    blk_ext [idx t]
  rw [he]
  unfold out0_9
  frame_out
  idx_vars y
  unfold G9
  refine (pay3_row _ _ _ y0 y1).trans ?_
  refine Eq.trans ?_ (v56_apply _ _ _ _ _ _ _ _ (row t y0) y1).symm
  refine Fin.sum_fin_congr fun k => ?_
  rw [← wr_apply m c t k y1]
  simp only [x2_eq m c hm t y0, g2_apply]

end Cert.XattnIdeal.RefValue

namespace Cert.XattnCert

/-- The kernel as printed runs and keeps its arguments. -/
theorem frame_kernel : Cert.quiescent_Xattn (hXattn := Cert.Xattn.Gen.facts) :=
  fun m ρ _ => Cert.Xattn.Gen.frame m ρ

/-- So does its idealization. -/
theorem frame_ideal : Cert.quiescent_XattnIdeal (hXattnIdeal := Cert.XattnIdeal.Gen.facts) :=
  fun m ρ _ => Cert.XattnIdeal.Gen.frame m ρ

/-- In particular under the precondition. -/
theorem frame_ideal_pre : Cert.quiescent_XattnIdeal_pre_xattn_finite (hXattnIdeal := Cert.XattnIdeal.Gen.facts)
    (hPre_xattn_finite := Cert.XattnFinite.facts) :=
  fun m ρ _ => Cert.XattnIdeal.Gen.frame m ρ

/-- And the reference. -/
theorem frame_ref : Cert.quiescent_XattnRefIdeal (hXattnRefIdeal := Cert.XattnRefIdeal.Gen.facts) :=
  fun m ρ _ => (θ_run Cert.XattnRefIdeal.defs _ _).mono
    (fun r h => ⟨fun c => (h c).2.2, Idealize.ShloMosaic.sem_eq_zero_of_no_sems (by decide) r.2⟩)
    (Cert.XattnRefIdeal.Value.run (F := Ideal) m ρ)

/-- The reference too, in particular. -/
theorem frame_ref_pre : Cert.quiescent_XattnRefIdeal_pre_xattn_finite (hXattnRefIdeal := Cert.XattnRefIdeal.Gen.facts)
    (hPre_xattn_finite := Cert.XattnFinite.facts) :=
  fun m ρ _ => frame_ref m ρ trivial

open Cert.XattnIdeal IdealRules.bf16_pair in
/-- The packing of pairs into words is the rules' own. -/
theorem preserves : Cert.preserves_Xattn_XattnIdeal :=
  ⟨bufferStatement S16384x2x2048 S16384x1x2048, bufferStatement S256x2x2048 S256x1x2048, statement S256x2x2048 S256x1x2048,
    IdealRules.bf16_pack.statement S256x2048⟩

/-- On equal finite arguments the kernel and the reference end with equal results. -/
theorem algebraic : Cert.algebraic_XattnIdeal_XattnRefIdeal_pre_xattn_finite (hXattnIdeal := Cert.XattnIdeal.Gen.facts)
    (hXattnRefIdeal := Cert.XattnRefIdeal.Gen.facts) (hPre_xattn_finite := Cert.XattnFinite.facts) := by
  intro m ρ m' ρ' hpre hagree
  have hm := fun c => Cert.XattnFinite.of_pre _ _ _ _ _ _ _ _ (hpre c)
  refine ⟨fun c => Cert.XattnIdeal.RefValue.G7 m c, fun c => Cert.XattnIdeal.RefValue.G9 m c, ?_, ?_⟩
  · exact (θ_run Cert.XattnIdeal.defs _ _).mono
      (fun _ h c => ⟨(h c).1.trans (Cert.XattnIdeal.RefValue.final7 m c (hm c)),
        (h c).2.2.1.trans (Cert.XattnIdeal.RefValue.final9 m c (hm c)), (h c).2.2.2⟩)
      (Cert.XattnIdeal.Value.run_blocks (F := Ideal) m ρ)
  · refine (θ_run Cert.XattnRefIdeal.defs _ _).mono (fun _ h c => ⟨(h c).1.trans ?_, (h c).2.1.trans ?_, (h c).2.2⟩)
      (Cert.XattnRefIdeal.Value.run (F := Ideal) m' ρ')
    · rw [Cert.XattnRefIdeal.Read.val_main_v39_eq, (hagree c).1, (hagree c).2.1, (hagree c).2.2.1, (hagree c).2.2.2.1, (hagree c).2.2.2.2.1]
    · rw [Cert.XattnRefIdeal.Read.val_main_v56_eq, (hagree c).1, (hagree c).2.1, (hagree c).2.2.1, (hagree c).2.2.2.1, (hagree c).2.2.2.2.1, (hagree c).2.2.2.2.2.1, (hagree c).2.2.2.2.2.2.1, (hagree c).2.2.2.2.2.2.2]

end Cert.XattnCert
-- ==== Proof.MemNormValue.lean ====
module

public import proofs.«01_k».proof.Defs
public import proofs.«01_k».proof.Proof.Gen.MemNorm.Frame
public import proofs.«01_k».proof.Proof.Gen.MemNormIdeal.Value
public import proofs.«01_k».proof.Proof.Gen.MemNormRefIdeal.Read
public import Idealize.ShloMosaic.Lib.Pipeline.ValueKit
public import Idealize.ShloMosaic.Lib.Pointwise.Tactic
public import Idealize.ShloMosaic.Lib.Pipeline.Value
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.MemNormIdeal.RefValue

open Cert.MemNormIdeal Cert.MemNormIdeal.Gen

variable (m : (ℓ : Loc nD τ sig) → Buf (Elt Ideal) ℓ) (ρ : Dev nD → PrngReg)

/-- The reference's result, as a function of this program's arguments. -/
abbrev G (c : Dev nD) : Buf (Elt Ideal) ((c : Thread nD τ).loc main_v1) :=
  Cert.MemNormRefIdeal.Read.val_main_v13 (F := Ideal) (m ((c : Thread nD τ).loc main_arg0)) (m ((c : Thread nD τ).loc main_arg1))

/-- The input blocks' indices at each grid point. -/
theorem idx : ∀ t : Fin cfg0.N, win0_0.index t = ![win0_2.index t 0, 0] ∧ win0_1.index t = ![0, 0] :=
  (by decide +kernel : ∀ t : Fin grid0.N, win0_0.index t = ![win0_2.index t 0, 0] ∧ win0_1.index t = ![0, 0])

/-- The output's blocks span the whole row. -/
theorem row : ∀ t : Fin cfg0.N, win0_2.index t 1 = 0 ∧ win0_2.index t 0 < 1 :=
  (by decide +kernel : ∀ t : Fin grid0.N, win0_2.index t 1 = 0 ∧ win0_2.index t 0 < 1)

/-- Every block written back is the reference's result there, so the whole array is. -/
theorem final (c : Dev nD) : (dats m 0 c).arrAt 2 cfg0.N = G m c := by
  refine (dats m 0 c).arrAt_eq_of_covers 2 _ (by decide +kernel) fun t hf y => ?_
  blk_simp; rw [after0_2]; frame_out
  unfold G
  simp only [Cert.MemNormRefIdeal.Read.val_main_v13_apply, Cert.MemNormRefIdeal.Read.val_main_v12_apply, Cert.MemNormRefIdeal.Read.val_main_v11_apply, Cert.MemNormRefIdeal.Read.val_main_v10_apply, Cert.MemNormRefIdeal.Read.val_main_v9_apply, Cert.MemNormRefIdeal.Read.val_main_v8_apply, Cert.MemNormRefIdeal.Read.val_main_v7_apply, Cert.MemNormRefIdeal.Read.val_main_v6_apply, Cert.MemNormRefIdeal.Read.val_main_v5_apply, Cert.MemNormRefIdeal.Read.val_main_cst_1_apply, Cert.MemNormRefIdeal.Read.val_main_v4_apply, Cert.MemNormRefIdeal.Read.val_main_v3_apply, Cert.MemNormRefIdeal.Read.val_main_cst_0_apply, Cert.MemNormRefIdeal.Read.val_main_v2_apply, Cert.MemNormRefIdeal.Read.val_main_v1_apply, Cert.MemNormRefIdeal.Read.val_main_cst_apply, Cert.MemNormRefIdeal.Read.val_main_v0_apply]
  unfold_payloads
  idx_vars y
  pointwise []
  blk_point [iblk, V, idx t]
  all_goals (obtain ⟨e0, e1⟩ := row t; rw [e0]; omega)

end Cert.MemNormIdeal.RefValue

namespace Cert.MemNormCert

/-- The kernel as printed runs and keeps its arguments. -/
theorem frame_kernel : Cert.quiescent_MemNorm (hMemNorm := Cert.MemNorm.Gen.facts) :=
  fun m ρ _ => Cert.MemNorm.Gen.frame m ρ

/-- So does its idealization. -/
theorem frame_ideal : Cert.quiescent_MemNormIdeal (hMemNormIdeal := Cert.MemNormIdeal.Gen.facts) :=
  fun m ρ _ => Cert.MemNormIdeal.Gen.frame m ρ

/-- And the reference. -/
theorem frame_ref : Cert.quiescent_MemNormRefIdeal (hMemNormRefIdeal := Cert.MemNormRefIdeal.Gen.facts) :=
  fun m ρ _ => (θ_run Cert.MemNormRefIdeal.defs _ _).mono
    (fun r h => ⟨fun c => (h c).2, Idealize.ShloMosaic.sem_eq_zero_of_no_sems (by decide) r.2⟩)
    (Cert.MemNormRefIdeal.Value.run (F := Ideal) m ρ)

/-- On equal arguments the kernel and the reference end with equal results. -/
theorem algebraic : Cert.algebraic_MemNormIdeal_MemNormRefIdeal (hMemNormIdeal := Cert.MemNormIdeal.Gen.facts)
    (hMemNormRefIdeal := Cert.MemNormRefIdeal.Gen.facts) := by
  intro m ρ m' ρ' _ hagree
  refine ⟨fun c => Cert.MemNormIdeal.RefValue.G m c, ?_, ?_⟩
  · exact (θ_run Cert.MemNormIdeal.defs _ _).mono
      (fun _ h c => ⟨(h c).1.trans (Cert.MemNormIdeal.RefValue.final m c), (h c).2⟩)
      (Cert.MemNormIdeal.Value.run_blocks (F := Ideal) m ρ)
  · refine (θ_run Cert.MemNormRefIdeal.defs _ _).mono (fun _ h c => ⟨(h c).1.trans ?_, (h c).2⟩)
      (Cert.MemNormRefIdeal.Value.run (F := Ideal) m' ρ')
    rw [(hagree c).1, (hagree c).2]
    exact Cert.MemNormRefIdeal.Read.val_main_v13_eq _ _

end Cert.MemNormCert
-- ==== Proof.MemKvValue.lean ====
module

public import proofs.«01_k».proof.Defs
public import proofs.«01_k».proof.Proof.Gen.MemKv.Frame
public import proofs.«01_k».proof.Proof.Gen.MemKvIdeal.Value
public import proofs.«01_k».proof.Proof.Gen.MemKvRefIdeal.Read
public import Idealize.ShloMosaic.Lib.Pipeline.ValueKit
public import Idealize.ShloMosaic.Lib.Pointwise.Tactic
public import Idealize.ShloMosaic.Lib.Pipeline.Value
public import Idealize.ShloMosaic.Lib.Quiescent
public import Idealize.ShloMosaic.Lib.Tactic.ValueTie

@[expose] public section

set_option maxRecDepth 16384

noncomputable section

open Idealize.ShloMosaic Idealize.ShloMosaic.TcCoe Idealize.SL.Sem
open Idealize.ShloMosaic.Pipeline (Dat)

namespace Cert.MemKvIdeal.RefValue

open Cert.MemKvIdeal Cert.MemKvIdeal.Gen

variable (m : (ℓ : Loc nD τ sig) → Buf (Elt Ideal) ℓ) (ρ : Dev nD → PrngReg)

/-- The reference's result, as a function of this program's arguments. -/
abbrev G (c : Dev nD) : Buf (Elt Ideal) ((c : Thread nD τ).loc main_v2) :=
  Cert.MemKvRefIdeal.Read.val_main_v5 (F := Ideal) (m ((c : Thread nD τ).loc main_arg0)) (m ((c : Thread nD τ).loc main_arg1)) (m ((c : Thread nD τ).loc main_arg2))

/-- The input blocks' indices at each grid point. -/
theorem idx : ∀ t : Fin cfg0.N, win0_0.index t = ![win0_2.index t 0, 0] ∧ win0_1.index t = ![0, win0_2.index t 1] :=
  (by decide +kernel : ∀ t : Fin grid0.N, win0_0.index t = ![win0_2.index t 0, 0] ∧ win0_1.index t = ![0, win0_2.index t 1])

/-- The output's blocks in bounds. -/
theorem col : ∀ t : Fin cfg0.N, win0_2.index t 0 = 0 ∧ win0_2.index t 1 < 2 :=
  (by decide +kernel : ∀ t : Fin grid0.N, win0_2.index t 0 = 0 ∧ win0_2.index t 1 < 2)

/-- The weights are those of the keys, then those of the values. -/
theorem weight (c : Dev nD) (a : Fin 4096) (b : Fin 1024) :
    V m c main_v1 (ix2 a b) = if h : b.val < 512 then m ((c : Thread nD τ).loc main_arg1) (ix2 a ⟨b.val, h⟩)
      else m ((c : Thread nD τ).loc main_arg2) (ix2 a (⟨b.val - 512, by omega⟩ : Fin 512)) := by
  rw [show V m c main_v1 = StableHlo.after hostOps0 (fun b => m (c, b)) (Proc.devRef .tc main_v1) from rfl]
  simp only [hostOps0]
  after_results_simp
  show (truncf .bf16 (concatenate S4096x1024 1 [⟨S4096x512, m ((c : Thread nD τ).loc main_arg1)⟩,
    ⟨S4096x512, m ((c : Thread nD τ).loc main_arg2)⟩] concatenates_S4096x512_S4096x512_S4096x1024_d1 : FVec Ideal S4096x1024 .f32)
    bitsLt_bf16_f32 : FVec Ideal S4096x1024 .bf16) (ix2 a b) = _
  pointwise []

/-- Every block written back is the reference's result there, so the whole array is. -/
theorem final (c : Dev nD) : (dats m 0 c).arrAt 2 cfg0.N = G m c := by
  refine (dats m 0 c).arrAt_eq_of_covers 2 _ (by decide +kernel) fun t hf y => ?_
  blk_simp; rw [after0_2]; frame_out
  unfold G
  rw [Cert.MemKvRefIdeal.Read.val_main_v5_apply]
  unfold Cert.MemKvRefIdeal.Read.val_main_v4
  unfold_payloads
  idx_vars y
  obtain ⟨e0, e1⟩ := col t
  have hw : ∀ x : Fin 4096, iblk m c 1 t (ix2 x y1) = if h : win0_2.index t 1 * 512 + y1.val < 512 then
      m ((c : Thread nD τ).loc main_arg1) (ix2 x ⟨win0_2.index t 1 * 512 + y1.val, h⟩)
      else m ((c : Thread nD τ).loc main_arg2) (ix2 x (⟨win0_2.index t 1 * 512 + y1.val - 512, by omega⟩ : Fin 512)) := fun x => by
    rw [← weight m c x ⟨win0_2.index t 1 * 512 + y1.val, by omega⟩]
    blk_ext [iblk, idx t]
  pointwise [dot_S512x4096_S4096x512_S512x512_1_0_0_1_n_n, Cert.MemKvRefIdeal.Read.val_main_v3_apply, Cert.MemKvRefIdeal.Read.val_main_v2_apply, Cert.MemKvRefIdeal.Read.val_main_v1_apply, Cert.MemKvRefIdeal.Read.val_main_v0_apply]
  simp only [hw]
  blk_simp [idx t]
  by_cases h : win0_2.index t 1 * 512 + y1.val < 512
  · simp only [dif_pos h]
    blk_point [iblk, V, idx t]
  · simp only [dif_neg h]
    blk_point [iblk, V, idx t]

end Cert.MemKvIdeal.RefValue

namespace Cert.MemKvCert

/-- The kernel as printed runs and keeps its arguments. -/
theorem frame_kernel : Cert.quiescent_MemKv (hMemKv := Cert.MemKv.Gen.facts) :=
  fun m ρ _ => Cert.MemKv.Gen.frame m ρ

/-- So does its idealization. -/
theorem frame_ideal : Cert.quiescent_MemKvIdeal (hMemKvIdeal := Cert.MemKvIdeal.Gen.facts) :=
  fun m ρ _ => Cert.MemKvIdeal.Gen.frame m ρ

/-- And the reference. -/
theorem frame_ref : Cert.quiescent_MemKvRefIdeal (hMemKvRefIdeal := Cert.MemKvRefIdeal.Gen.facts) :=
  fun m ρ _ => (θ_run Cert.MemKvRefIdeal.defs _ _).mono
    (fun r h => ⟨fun c => (h c).2, Idealize.ShloMosaic.sem_eq_zero_of_no_sems (by decide) r.2⟩)
    (Cert.MemKvRefIdeal.Value.run (F := Ideal) m ρ)

/-- On equal arguments the kernel and the reference end with equal results. -/
theorem algebraic : Cert.algebraic_MemKvIdeal_MemKvRefIdeal (hMemKvIdeal := Cert.MemKvIdeal.Gen.facts)
    (hMemKvRefIdeal := Cert.MemKvRefIdeal.Gen.facts) := by
  intro m ρ m' ρ' _ hagree
  refine ⟨fun c => Cert.MemKvIdeal.RefValue.G m c, ?_, ?_⟩
  · exact (θ_run Cert.MemKvIdeal.defs _ _).mono
      (fun _ h c => ⟨(h c).1.trans (Cert.MemKvIdeal.RefValue.final m c), (h c).2⟩)
      (Cert.MemKvIdeal.Value.run_blocks (F := Ideal) m ρ)
  · refine (θ_run Cert.MemKvRefIdeal.defs _ _).mono (fun _ h c => ⟨(h c).1.trans ?_, (h c).2⟩)
      (Cert.MemKvRefIdeal.Value.run (F := Ideal) m' ρ')
    rw [(hagree c).1, (hagree c).2.1, (hagree c).2.2]
    exact Cert.MemKvRefIdeal.Read.val_main_v5_eq _ _ _

end Cert.MemKvCert
-- ==== Proof.lean ====
/- Every claim of the certificate, from the modules of the programs: the side conditions, the frames, and for each
   program that its idealization keeps its meaning and agrees with the reference. -/
module

public import proofs.«01_k».proof.Defs
public import proofs.«01_k».proof.Proof.Gen.Swa
public import proofs.«01_k».proof.Proof.Gen.SwaIdeal
public import proofs.«01_k».proof.Proof.Gen.SwaRefIdeal
public import proofs.«01_k».proof.Proof.SwaValue
public import proofs.«01_k».proof.Proof.Gen.Merge
public import proofs.«01_k».proof.Proof.Gen.MergeIdeal
public import proofs.«01_k».proof.Proof.Gen.MergeRefIdeal
public import proofs.«01_k».proof.Proof.MergeValue
public import proofs.«01_k».proof.Proof.Gen.OutProj
public import proofs.«01_k».proof.Proof.Gen.OutProjIdeal
public import proofs.«01_k».proof.Proof.Gen.OutProjRefIdeal
public import proofs.«01_k».proof.Proof.OutProjValue
public import proofs.«01_k».proof.Proof.Gen.QkvProj
public import proofs.«01_k».proof.Proof.Gen.QkvProjIdeal
public import proofs.«01_k».proof.Proof.Gen.QkvProjRefIdeal
public import proofs.«01_k».proof.Proof.QkvProjValue
public import proofs.«01_k».proof.Proof.Gen.LatentProj
public import proofs.«01_k».proof.Proof.Gen.LatentProjIdeal
public import proofs.«01_k».proof.Proof.Gen.LatentProjRefIdeal
public import proofs.«01_k».proof.Proof.LatentProjValue
public import proofs.«01_k».proof.Proof.Gen.Heads
public import proofs.«01_k».proof.Proof.Gen.HeadsIdeal
public import proofs.«01_k».proof.Proof.Gen.HeadsRefIdeal
public import proofs.«01_k».proof.Proof.HeadsValue
public import proofs.«01_k».proof.Proof.Gen.LatentNorms
public import proofs.«01_k».proof.Proof.Gen.LatentNormsIdeal
public import proofs.«01_k».proof.Proof.Gen.LatentNormsRefIdeal
public import proofs.«01_k».proof.Proof.LatentNormsValue
public import proofs.«01_k».proof.Proof.Gen.MixNorm
public import proofs.«01_k».proof.Proof.Gen.MixNormIdeal
public import proofs.«01_k».proof.Proof.Gen.MixNormRefIdeal
public import proofs.«01_k».proof.Proof.MixNormValue
public import proofs.«01_k».proof.Proof.Gen.Combine
public import proofs.«01_k».proof.Proof.Gen.CombineIdeal
public import proofs.«01_k».proof.Proof.Gen.CombineRefIdeal
public import proofs.«01_k».proof.Proof.CombineValue
public import proofs.«01_k».proof.Proof.Gen.Xattn
public import proofs.«01_k».proof.Proof.Gen.XattnIdeal
public import proofs.«01_k».proof.Proof.Gen.XattnRefIdeal
public import proofs.«01_k».proof.Proof.XattnValue
public import proofs.«01_k».proof.Proof.Gen.MemNorm
public import proofs.«01_k».proof.Proof.Gen.MemNormIdeal
public import proofs.«01_k».proof.Proof.Gen.MemNormRefIdeal
public import proofs.«01_k».proof.Proof.MemNormValue
public import proofs.«01_k».proof.Proof.Gen.MemKv
public import proofs.«01_k».proof.Proof.Gen.MemKvIdeal
public import proofs.«01_k».proof.Proof.Gen.MemKvRefIdeal
public import proofs.«01_k».proof.Proof.MemKvValue

@[expose] public section

theorem Cert.Proof.claim : Cert.Claim :=
  ⟨Cert.Swa.Gen.facts, Cert.SwaIdeal.Gen.facts, Cert.SwaRefIdeal.Gen.facts,
    Cert.Merge.Gen.facts, Cert.MergeIdeal.Gen.facts, Cert.MergeRefIdeal.Gen.facts,
    Cert.OutProj.Gen.facts, Cert.OutProjIdeal.Gen.facts, Cert.OutProjRefIdeal.Gen.facts,
    Cert.QkvProj.Gen.facts, Cert.QkvProjIdeal.Gen.facts, Cert.QkvProjRefIdeal.Gen.facts,
    Cert.LatentProj.Gen.facts, Cert.LatentProjIdeal.Gen.facts, Cert.LatentProjRefIdeal.Gen.facts,
    Cert.Heads.Gen.facts, Cert.HeadsIdeal.Gen.facts, Cert.HeadsRefIdeal.Gen.facts,
    Cert.LatentNorms.Gen.facts, Cert.LatentNormsIdeal.Gen.facts, Cert.LatentNormsRefIdeal.Gen.facts,
    Cert.MixNorm.Gen.facts, Cert.MixNormIdeal.Gen.facts, Cert.MixNormRefIdeal.Gen.facts,
    Cert.Combine.Gen.facts, Cert.CombineIdeal.Gen.facts, Cert.CombineRefIdeal.Gen.facts,
    Cert.Xattn.Gen.facts, Cert.XattnIdeal.Gen.facts, Cert.XattnRefIdeal.Gen.facts,
    Cert.MemNorm.Gen.facts, Cert.MemNormIdeal.Gen.facts, Cert.MemNormRefIdeal.Gen.facts,
    Cert.MemKv.Gen.facts, Cert.MemKvIdeal.Gen.facts, Cert.MemKvRefIdeal.Gen.facts,
    Cert.SwaFinite.facts,
    Cert.XattnFinite.facts,
    Cert.SwaCert.frame_kernel, Cert.SwaCert.frame_ideal, Cert.SwaCert.frame_ideal_pre, Cert.SwaCert.frame_ref, Cert.SwaCert.frame_ref_pre,
    Cert.MergeCert.frame_kernel, Cert.MergeCert.frame_ideal, Cert.MergeCert.frame_ref,
    Cert.OutProjCert.frame_kernel, Cert.OutProjCert.frame_ideal, Cert.OutProjCert.frame_ref,
    Cert.QkvProjCert.frame_kernel, Cert.QkvProjCert.frame_ideal, Cert.QkvProjCert.frame_ref,
    Cert.LatentProjCert.frame_kernel, Cert.LatentProjCert.frame_ideal, Cert.LatentProjCert.frame_ref,
    Cert.HeadsCert.frame_kernel, Cert.HeadsCert.frame_ideal, Cert.HeadsCert.frame_ref,
    Cert.LatentNormsCert.frame_kernel, Cert.LatentNormsCert.frame_ideal, Cert.LatentNormsCert.frame_ref,
    Cert.MixNormCert.frame_kernel, Cert.MixNormCert.frame_ideal, Cert.MixNormCert.frame_ref,
    Cert.CombineCert.frame_kernel, Cert.CombineCert.frame_ideal, Cert.CombineCert.frame_ref,
    Cert.XattnCert.frame_kernel, Cert.XattnCert.frame_ideal, Cert.XattnCert.frame_ideal_pre, Cert.XattnCert.frame_ref, Cert.XattnCert.frame_ref_pre,
    Cert.MemNormCert.frame_kernel, Cert.MemNormCert.frame_ideal, Cert.MemNormCert.frame_ref,
    Cert.MemKvCert.frame_kernel, Cert.MemKvCert.frame_ideal, Cert.MemKvCert.frame_ref,
    trivial, Cert.SwaCert.algebraic,
    trivial, Cert.MergeCert.algebraic,
    trivial, Cert.OutProjCert.algebraic,
    trivial, Cert.QkvProjCert.algebraic,
    trivial, Cert.LatentProjCert.algebraic,
    trivial, Cert.HeadsCert.algebraic,
    trivial, Cert.LatentNormsCert.algebraic,
    trivial, Cert.MixNormCert.algebraic,
    trivial, Cert.CombineCert.algebraic,
    Cert.XattnCert.preserves, Cert.XattnCert.algebraic,
    trivial, Cert.MemNormCert.algebraic,
    trivial, Cert.MemKvCert.algebraic⟩

end
